-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_admitted [hPre_admitted : Cert.Pre_admitted.Facts] (m : (ℓ : Loc Cert.KernelIdeal.nD Cert.KernelIdeal.τ Cert.KernelIdeal.sig) → Buf (Elt Ideal) ℓ) : Prop :=
  ∀ c : Dev Cert.KernelIdeal.nD,
    (Cert.Pre_admitted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_admitted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_admitted [hPre_admitted : Cert.Pre_admitted.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_admitted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_admitted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_admitted [hKernelIdeal : Cert.KernelIdeal.Facts] [hPre_admitted : Cert.Pre_admitted.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_admitted m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_admitted [hReferenceIdeal : Cert.ReferenceIdeal.Facts] [hPre_admitted : Cert.Pre_admitted.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_admitted m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_admitted [hKernelIdeal : Cert.KernelIdeal.Facts] [hReferenceIdeal : Cert.ReferenceIdeal.Facts] [hPre_admitted : Cert.Pre_admitted.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_admitted m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_admitted : Cert.Pre_admitted.Facts),
    quiescent_Kernel (hKernel := hKernel)
    ∧ quiescent_KernelIdeal (hKernelIdeal := hKernelIdeal)
    ∧ quiescent_KernelIdeal_pre_admitted (hKernelIdeal := hKernelIdeal) (hPre_admitted := hPre_admitted)
    ∧ quiescent_ReferenceIdeal (hReferenceIdeal := hReferenceIdeal)
    ∧ quiescent_ReferenceIdeal_pre_admitted (hReferenceIdeal := hReferenceIdeal) (hPre_admitted := hPre_admitted)
    ∧ preserves_Kernel_KernelIdeal
    ∧ algebraic_KernelIdeal_ReferenceIdeal_pre_admitted (hKernelIdeal := hKernelIdeal) (hReferenceIdeal := hReferenceIdeal) (hPre_admitted := hPre_admitted)
-- ==== Pre_admitted.lean ====
abbrev S2x32768x512 : Shape := ⟨3, ![2, 32768, 512]⟩
abbrev S2x268x128x128 : Shape := ⟨4, ![2, 268, 128, 128]⟩
abbrev S2x268x128 : Shape := ⟨3, ![2, 268, 128]⟩
abbrev S2x1x128 : Shape := ⟨3, ![2, 1, 128]⟩
abbrev S_ : Shape := ⟨0, ![]⟩

class Facts : Prop where
  bitsLt_bf16_f32 : FTy.bits .bf16 < FTy.bits .f32
  bcast_S_S2x32768x512 : S_.BroadcastsInDim S2x32768x512 (![] : Fin 0 → Fin S2x32768x512.rank)
  bcast_S_S2x268x128 : S_.BroadcastsInDim S2x268x128 (![] : Fin 0 → Fin S2x268x128.rank)

variable [Facts]

def fn {F : FTy → Type} [FloatOps F] (main_arg0 : FVec F S2x32768x512 .bf16) (main_arg1 : FVec F S2x268x128x128 .fp8e4m3) (main_arg2 : FVec F S2x268x128x128 .fp8e4m3) (main_arg3 : FVec F S2x268x128 .f32) (main_arg4 : FVec F S2x1x128 .f32) : IVec S2x32768x512 1 × IVec S2x268x128 1 :=
  let main_v0 : FVec F S2x32768x512 .f32 := (extf .f32 · bitsLt_bf16_f32) main_arg0
  let main_v1 : FVec F S2x32768x512 .f32 := Host.absf main_v0
  let main_cst : FVec F S_ .f32 := constant S_ .f32 0x7F7F0000#32
  let main_v2 : FVec F S2x32768x512 .f32 := broadcastInDim S2x32768x512 ![] bcast_S_S2x32768x512 main_cst
  let main_v3 : IVec S2x32768x512 1 := cmpf .ole main_v1 main_v2
  let main_cst_0 : FVec F S_ .f32 := constant S_ .f32 0x00000000#32
  let main_v4 : FVec F S2x268x128 .f32 := broadcastInDim S2x268x128 ![] bcast_S_S2x268x128 main_cst_0
  let main_v5 : IVec S2x268x128 1 := cmpf .oge main_arg3 main_v4
  let main_cst_1 : FVec F S_ .f32 := constant S_ .f32 0x7F800000#32
  let main_v6 : FVec F S2x268x128 .f32 := broadcastInDim S2x268x128 ![] bcast_S_S2x268x128 main_cst_1
  let main_v7 : IVec S2x268x128 1 := cmpf .olt main_arg3 main_v6
  let main_v8 : IVec S2x268x128 1 := andi main_v5 main_v7
  (main_v3, main_v8)
-- ==== Kernel.lean ====
abbrev S2x32768x512 : Shape := ⟨3, ![2, 32768, 512]⟩
abbrev S2x268x128x128 : Shape := ⟨4, ![2, 268, 128, 128]⟩
abbrev S2x268x128 : Shape := ⟨3, ![2, 268, 128]⟩
abbrev S2x1x128 : Shape := ⟨3, ![2, 1, 128]⟩
abbrev S2x512x32768 : Shape := ⟨3, ![2, 512, 32768]⟩
abbrev S2x64x32x128 : Shape := ⟨4, ![2, 64, 32, 128]⟩
abbrev S2x64x4x512 : Shape := ⟨4, ![2, 64, 4, 512]⟩
abbrev S1x512x512 : Shape := ⟨3, ![1, 512, 512]⟩
abbrev S1x268x128x128 : Shape := ⟨4, ![1, 268, 128, 128]⟩
abbrev S1x268x128 : Shape := ⟨3, ![1, 268, 128]⟩
abbrev S1x1x128 : Shape := ⟨3, ![1, 1, 128]⟩
abbrev S1x1x32x128 : Shape := ⟨4, ![1, 1, 32, 128]⟩
abbrev S1x1x4x512 : Shape := ⟨4, ![1, 1, 4, 512]⟩
abbrev S2x12x128x128 : Shape := ⟨4, ![2, 12, 128, 128]⟩
abbrev S2x128x1664 : Shape := ⟨3, ![2, 128, 1664]⟩
abbrev S13x8x128 : Shape := ⟨3, ![13, 8, 128]⟩
abbrev S8x128 : Shape := ⟨2, ![8, 128]⟩
abbrev S1x128 : Shape := ⟨2, ![1, 128]⟩
abbrev S128x128 : Shape := ⟨2, ![128, 128]⟩
abbrev S1x128x512 : Shape := ⟨3, ![1, 128, 512]⟩
abbrev S128x512 : Shape := ⟨2, ![128, 512]⟩
abbrev S512 : Shape := ⟨1, ![512]⟩
abbrev S1x512 : Shape := ⟨2, ![1, 512]⟩
abbrev S1x1x1x512 : Shape := ⟨4, ![1, 1, 1, 512]⟩
abbrev S8 : Shape := ⟨1, ![8]⟩
abbrev S8x1 : Shape := ⟨2, ![8, 1]⟩
abbrev S1x1x8x128 : Shape := ⟨4, ![1, 1, 8, 128]⟩
abbrev S1x1x128x128 : Shape := ⟨4, ![1, 1, 128, 128]⟩
abbrev S1x8x128 : Shape := ⟨3, ![1, 8, 128]⟩
abbrev S1x128x128 : Shape := ⟨3, ![1, 128, 128]⟩
abbrev S128 : Shape := ⟨1, ![128]⟩
abbrev S128x1 : Shape := ⟨2, ![128, 1]⟩

abbrev nBuf : Space → Nat
  | .hbm => 9
  | .vmem => 22
  | .smem => 0
  | _ => 0

abbrev bufTy : (tb : Table) → Fin (tcTables nBuf tb) → BufTy
  | .hbm, ⟨0, _⟩ => ⟨S2x32768x512, .bf16⟩
  | .hbm, ⟨1, _⟩ => ⟨S2x268x128x128, .fp8e4m3⟩
  | .hbm, ⟨2, _⟩ => ⟨S2x268x128x128, .fp8e4m3⟩
  | .hbm, ⟨3, _⟩ => ⟨S2x268x128, .f32⟩
  | .hbm, ⟨4, _⟩ => ⟨S2x1x128, .f32⟩
  | .hbm, ⟨5, _⟩ => ⟨S2x32768x512, .bf16⟩
  | .hbm, ⟨6, _⟩ => ⟨S2x512x32768, .fp8e4m3⟩
  | .hbm, ⟨7, _⟩ => ⟨S2x64x32x128, .f32⟩
  | .hbm, ⟨8, _⟩ => ⟨S2x64x4x512, .f32⟩
  | .local _ .vmem, ⟨0, _⟩ => ⟨S1x512x512, .bf16⟩
  | .local _ .vmem, ⟨1, _⟩ => ⟨S1x512x512, .bf16⟩
  | .local _ .vmem, ⟨2, _⟩ => ⟨S1x268x128x128, .fp8e4m3⟩
  | .local _ .vmem, ⟨3, _⟩ => ⟨S1x268x128x128, .fp8e4m3⟩
  | .local _ .vmem, ⟨4, _⟩ => ⟨S1x268x128x128, .fp8e4m3⟩
  | .local _ .vmem, ⟨5, _⟩ => ⟨S1x268x128x128, .fp8e4m3⟩
  | .local _ .vmem, ⟨6, _⟩ => ⟨S1x268x128, .f32⟩
  | .local _ .vmem, ⟨7, _⟩ => ⟨S1x268x128, .f32⟩
  | .local _ .vmem, ⟨8, _⟩ => ⟨S1x1x128, .f32⟩
  | .local _ .vmem, ⟨9, _⟩ => ⟨S1x1x128, .f32⟩
  | .local _ .vmem, ⟨10, _⟩ => ⟨S1x512x512, .bf16⟩
  | .local _ .vmem, ⟨11, _⟩ => ⟨S1x512x512, .bf16⟩
  | .local _ .vmem, ⟨12, _⟩ => ⟨S1x512x512, .fp8e4m3⟩
  | .local _ .vmem, ⟨13, _⟩ => ⟨S1x512x512, .fp8e4m3⟩
  | .local _ .vmem, ⟨14, _⟩ => ⟨S1x1x32x128, .f32⟩
  | .local _ .vmem, ⟨15, _⟩ => ⟨S1x1x32x128, .f32⟩
  | .local _ .vmem, ⟨16, _⟩ => ⟨S1x1x4x512, .f32⟩
  | .local _ .vmem, ⟨17, _⟩ => ⟨S1x1x4x512, .f32⟩
  | .local _ .vmem, ⟨18, _⟩ => ⟨S2x12x128x128, .f32⟩
  | .local _ .vmem, ⟨19, _⟩ => ⟨S2x128x1664, .fp8e4m3⟩
  | .local _ .vmem, ⟨20, _⟩ => ⟨S13x8x128, .f32⟩
  | .local _ .vmem, ⟨21, _⟩ => ⟨S13x8x128, .f32⟩
  | _, _ => ⟨S2x32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 64], ![false, false]⟩

@[reducible] def k0_t1_loop : Scf.Loop 32 :=
  let c0_i32_9 : BitVec 32 := 0#32
  let c4_i32 : BitVec 32 := 4#32
  let v47 : BitVec 32 := Scalar.addi c0_i32_9 c4_i32
  let c1_i32_10 : BitVec 32 := 1#32
  ⟨c0_i32_9, v47, c1_i32_10⟩
def k0_mult1 (k0_t1 : Fin k0_t1_loop.trips) : BitVec 32 :=
  let c0_i32_9 : BitVec 32 := 0#32
  let c1_i32_10 : BitVec 32 := 1#32
  let arg15 : BitVec 32 := Scf.iv c0_i32_9 c1_i32_10 k0_t1
  let c128_i32 : BitVec 32 := 128#32
  let v50 : BitVec 32 := Scalar.muli arg15 c128_i32
  v50
def k0_off1 (k0_t1 : Fin k0_t1_loop.trips) : Fin 3 → Nat :=
  let c0 : Index := 0#32
  let c0_i32_9 : BitVec 32 := 0#32
  let c1_i32_10 : BitVec 32 := 1#32
  let arg15 : BitVec 32 := Scf.iv c0_i32_9 c1_i32_10 k0_t1
  let c128_i32 : BitVec 32 := 128#32
  let v50 : BitVec 32 := Scalar.muli arg15 c128_i32
  let v51 : BitVec 32 := v50
  let v52 : Index := Scalar.indexCast v51
  let c0_13 : Index := 0#32
  ![0, v52.toNat, 0]
def k0_off2 (k0_t1 : Fin k0_t1_loop.trips) : Fin 4 → Nat :=
  let c0_15 : Index := 0#32
  let c0_16 : Index := 0#32
  let c0_i32_9 : BitVec 32 := 0#32
  let c1_i32_10 : BitVec 32 := 1#32
  let arg15 : BitVec 32 := Scf.iv c0_i32_9 c1_i32_10 k0_t1
  let v62 : Index := Scalar.indexCast arg15
  let c0_17 : Index := 0#32
  ![0, 0, v62.toNat, 0]
def k0_mult2 (k0_t1 : Fin k0_t1_loop.trips) : BitVec 32 :=
  let c0_i32_9 : BitVec 32 := 0#32
  let c1_i32_10 : BitVec 32 := 1#32
  let arg15 : BitVec 32 := Scf.iv c0_i32_9 c1_i32_10 k0_t1
  let c8_i32_69 : BitVec 32 := 8#32
  let v288 : BitVec 32 := Scalar.muli arg15 c8_i32_69
  v288
def k0_off3 (k0_t1 : Fin k0_t1_loop.trips) : Fin 4 → Nat :=
  let c0_70 : Index := 0#32
  let c0_71 : Index := 0#32
  let c0_i32_9 : BitVec 32 := 0#32
  let c1_i32_10 : BitVec 32 := 1#32
  let arg15 : BitVec 32 := Scf.iv c0_i32_9 c1_i32_10 k0_t1
  let c8_i32_69 : BitVec 32 := 8#32
  let v288 : BitVec 32 := Scalar.muli arg15 c8_i32_69
  let v289 : BitVec 32 := v288
  let v290 : Index := Scalar.indexCast v289
  let c0_72 : Index := 0#32
  ![0, 0, v290.toNat, 0]
def k0_off4 (i : grid0.Coords) (k0_t1 : Fin k0_t1_loop.trips) (c0_i32_73 : BitVec 32) : Fin 4 → Nat :=
  let c0_74 : Index := 0#32
  let arg1 : BitVec 32 := BitVec.ofNat 32 (i 1).val
  let c4_i32_12 : BitVec 32 := 4#32
  let v48 : BitVec 32 := Scalar.muli arg1 c4_i32_12
  let c0_i32_9 : BitVec 32 := 0#32
  let c1_i32_10 : BitVec 32 := 1#32
  let arg15 : BitVec 32 := Scf.iv c0_i32_9 c1_i32_10 k0_t1
  let v49 : BitVec 32 := Scalar.addi v48 arg15
  let v295 : BitVec 32 := Scalar.addi v49 c0_i32_73
  let v296 : Index := Scalar.indexCast v295
  let c0_75 : Index := 0#32
  let c0_76 : Index := 0#32
  ![0, v296.toNat, 0, 0]
def k0_off5 (i : grid0.Coords) (k0_t1 : Fin k0_t1_loop.trips) (c0_i32_77 : BitVec 32) : Fin 3 → Nat :=
  let c0_78 : Index := 0#32
  let arg1 : BitVec 32 := BitVec.ofNat 32 (i 1).val
  let c4_i32_12 : BitVec 32 := 4#32
  let v48 : BitVec 32 := Scalar.muli arg1 c4_i32_12
  let c0_i32_9 : BitVec 32 := 0#32
  let c1_i32_10 : BitVec 32 := 1#32
  let arg15 : BitVec 32 := Scf.iv c0_i32_9 c1_i32_10 k0_t1
  let v49 : BitVec 32 := Scalar.addi v48 arg15
  let v299 : BitVec 32 := Scalar.addi v49 c0_i32_77
  let v300 : Index := Scalar.indexCast v299
  let c0_79 : Index := 0#32
  ![0, v300.toNat, 0]
def k0_off6 (k0_t1 : Fin k0_t1_loop.trips) : Fin 3 → Nat :=
  let c0_291 : Index := 0#32
  let c0_292 : Index := 0#32
  let c0_i32_9 : BitVec 32 := 0#32
  let c1_i32_10 : BitVec 32 := 1#32
  let arg15 : BitVec 32 := Scf.iv c0_i32_9 c1_i32_10 k0_t1
  let c128_i32 : BitVec 32 := 128#32
  let v50 : BitVec 32 := Scalar.muli arg15 c128_i32
  let v51 : BitVec 32 := v50
  let v635 : Index := Scalar.indexCast v51
  ![0, 0, v635.toNat]
def k0_off7 (k0_t1 : Fin k0_t1_loop.trips) : Fin 3 → Nat :=
  let c0_1120 : Index := 0#32
  let c0_i32_9 : BitVec 32 := 0#32
  let c1_i32_10 : BitVec 32 := 1#32
  let arg15 : BitVec 32 := Scf.iv c0_i32_9 c1_i32_10 k0_t1
  let c128_i32 : BitVec 32 := 128#32
  let v50 : BitVec 32 := Scalar.muli arg15 c128_i32
  let v51 : BitVec 32 := v50
  let v1673 : Index := Scalar.indexCast v51
  let c0_1121 : Index := 0#32
  ![0, v1673.toNat, 0]
def k0_off8 (k0_t1 : Fin k0_t1_loop.trips) : Fin 3 → Nat :=
  let c0_1125 : Index := 0#32
  let c128_1126 : Index := 128#32
  let c0_i32_9 : BitVec 32 := 0#32
  let c1_i32_10 : BitVec 32 := 1#32
  let arg15 : BitVec 32 := Scf.iv c0_i32_9 c1_i32_10 k0_t1
  let c128_i32 : BitVec 32 := 128#32
  let v50 : BitVec 32 := Scalar.muli arg15 c128_i32
  let v51 : BitVec 32 := v50
  let v1692 : Index := Scalar.indexCast v51
  ![0, 128, v1692.toNat]
def k0_off9 (k0_t1 : Fin k0_t1_loop.trips) : Fin 3 → Nat :=
  let c0_1966 : Index := 0#32
  let c0_i32_9 : BitVec 32 := 0#32
  let c1_i32_10 : BitVec 32 := 1#32
  let arg15 : BitVec 32 := Scf.iv c0_i32_9 c1_i32_10 k0_t1
  let c128_i32 : BitVec 32 := 128#32
  let v50 : BitVec 32 := Scalar.muli arg15 c128_i32
  let v51 : BitVec 32 := v50
  let v2730 : Index := Scalar.indexCast v51
  let c128_1967 : Index := 128#32
  ![0, v2730.toNat, 128]
def k0_off10 (k0_t1 : Fin k0_t1_loop.trips) : Fin 3 → Nat :=
  let c0_1971 : Index := 0#32
  let c256_1972 : Index := 256#32
  let c0_i32_9 : BitVec 32 := 0#32
  let c1_i32_10 : BitVec 32 := 1#32
  let arg15 : BitVec 32 := Scf.iv c0_i32_9 c1_i32_10 k0_t1
  let c128_i32 : BitVec 32 := 128#32
  let v50 : BitVec 32 := Scalar.muli arg15 c128_i32
  let v51 : BitVec 32 := v50
  let v2749 : Index := Scalar.indexCast v51
  ![0, 256, v2749.toNat]
def k0_off11 (k0_t1 : Fin k0_t1_loop.trips) : Fin 3 → Nat :=
  let c0_2812 : Index := 0#32
  let c0_i32_9 : BitVec 32 := 0#32
  let c1_i32_10 : BitVec 32 := 1#32
  let arg15 : BitVec 32 := Scf.iv c0_i32_9 c1_i32_10 k0_t1
  let c128_i32 : BitVec 32 := 128#32
  let v50 : BitVec 32 := Scalar.muli arg15 c128_i32
  let v51 : BitVec 32 := v50
  let v3787 : Index := Scalar.indexCast v51
  let c256_2813 : Index := 256#32
  ![0, v3787.toNat, 256]
def k0_off12 (k0_t1 : Fin k0_t1_loop.trips) : Fin 3 → Nat :=
  let c0_2817 : Index := 0#32
  let c384_2818 : Index := 384#32
  let c0_i32_9 : BitVec 32 := 0#32
  let c1_i32_10 : BitVec 32 := 1#32
  let arg15 : BitVec 32 := Scf.iv c0_i32_9 c1_i32_10 k0_t1
  let c128_i32 : BitVec 32 := 128#32
  let v50 : BitVec 32 := Scalar.muli arg15 c128_i32
  let v51 : BitVec 32 := v50
  let v3806 : Index := Scalar.indexCast v51
  ![0, 384, v3806.toNat]
def k0_off13 (k0_t1 : Fin k0_t1_loop.trips) : Fin 3 → Nat :=
  let c0_3658 : Index := 0#32
  let c0_i32_9 : BitVec 32 := 0#32
  let c1_i32_10 : BitVec 32 := 1#32
  let arg15 : BitVec 32 := Scf.iv c0_i32_9 c1_i32_10 k0_t1
  let c128_i32 : BitVec 32 := 128#32
  let v50 : BitVec 32 := Scalar.muli arg15 c128_i32
  let v51 : BitVec 32 := v50
  let v4844 : Index := Scalar.indexCast v51
  let c384_3659 : Index := 384#32
  ![0, v4844.toNat, 384]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x268x128x128 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x268x128x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x268x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x32x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x4x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S2x32768x512 : Shape := ⟨3, ![2, 32768, 512]⟩
abbrev S2x268x128x128 : Shape := ⟨4, ![2, 268, 128, 128]⟩
abbrev S2x268x128 : Shape := ⟨3, ![2, 268, 128]⟩
abbrev S2x1x128 : Shape := ⟨3, ![2, 1, 128]⟩
abbrev S2x512x32768 : Shape := ⟨3, ![2, 512, 32768]⟩
abbrev S2x64x32x128 : Shape := ⟨4, ![2, 64, 32, 128]⟩
abbrev S2x64x4x512 : Shape := ⟨4, ![2, 64, 4, 512]⟩
abbrev S2x256x128x8x64 : Shape := ⟨5, ![2, 256, 128, 8, 64]⟩
abbrev S2x256x8x64 : Shape := ⟨4, ![2, 256, 8, 64]⟩
abbrev S2x256x1x8x64 : Shape := ⟨5, ![2, 256, 1, 8, 64]⟩
abbrev S2x256x128x8 : Shape := ⟨4, ![2, 256, 128, 8]⟩
abbrev S2x256x8 : Shape := ⟨3, ![2, 256, 8]⟩
abbrev S2x256x8x254 : Shape := ⟨4, ![2, 256, 8, 254]⟩
abbrev S2x256x8x1 : Shape := ⟨4, ![2, 256, 8, 1]⟩
abbrev S2x256x1x8x1 : Shape := ⟨5, ![2, 256, 1, 8, 1]⟩
abbrev S2x64x32 : Shape := ⟨3, ![2, 64, 32]⟩
abbrev S2x64x32x1 : Shape := ⟨4, ![2, 64, 32, 1]⟩
abbrev S2x256x128x128 : Shape := ⟨4, ![2, 256, 128, 128]⟩
abbrev S2x128x256x128 : Shape := ⟨4, ![2, 128, 256, 128]⟩
abbrev S2x128x32768 : Shape := ⟨3, ![2, 128, 32768]⟩
abbrev S2x1x2x64x32768 : Shape := ⟨5, ![2, 1, 2, 64, 32768]⟩
abbrev S2x4x2x64x32768 : Shape := ⟨5, ![2, 4, 2, 64, 32768]⟩
abbrev S16x64x32768 : Shape := ⟨3, ![16, 64, 32768]⟩
abbrev S2x128x1 : Shape := ⟨3, ![2, 128, 1]⟩
abbrev S2x1x2x64x1 : Shape := ⟨5, ![2, 1, 2, 64, 1]⟩
abbrev S2x4x2x64x1 : Shape := ⟨5, ![2, 4, 2, 64, 1]⟩
abbrev S16x64x1 : Shape := ⟨3, ![16, 64, 1]⟩
abbrev S16x1x64 : Shape := ⟨3, ![16, 1, 64]⟩
abbrev S2x256x128 : Shape := ⟨3, ![2, 256, 128]⟩
abbrev S2x1x32768 : Shape := ⟨3, ![2, 1, 32768]⟩
abbrev S2x8x32768 : Shape := ⟨3, ![2, 8, 32768]⟩
abbrev S16x1x32768 : Shape := ⟨3, ![16, 1, 32768]⟩
abbrev S2x8x256x128x64 : Shape := ⟨5, ![2, 8, 256, 128, 64]⟩
abbrev S16x32768x64 : Shape := ⟨3, ![16, 32768, 64]⟩
abbrev S2x8x256x64 : Shape := ⟨4, ![2, 8, 256, 64]⟩
abbrev S16x256x64 : Shape := ⟨3, ![16, 256, 64]⟩
abbrev S2x8x256 : Shape := ⟨3, ![2, 8, 256]⟩
abbrev S2x8x256x1 : Shape := ⟨4, ![2, 8, 256, 1]⟩
abbrev S2x8x256x128 : Shape := ⟨4, ![2, 8, 256, 128]⟩
abbrev S16x32768x1 : Shape := ⟨3, ![16, 32768, 1]⟩
abbrev S16x256x32768 : Shape := ⟨3, ![16, 256, 32768]⟩
abbrev S16x256x1x32768 : Shape := ⟨4, ![16, 256, 1, 32768]⟩
abbrev S16x256x128x32768 : Shape := ⟨4, ![16, 256, 128, 32768]⟩
abbrev S16x32768x32768 : Shape := ⟨3, ![16, 32768, 32768]⟩
abbrev S16x32768 : Shape := ⟨2, ![16, 32768]⟩
abbrev S2x8x32768x64 : Shape := ⟨4, ![2, 8, 32768, 64]⟩
abbrev S2x32768x8x64 : Shape := ⟨4, ![2, 32768, 8, 64]⟩

abbrev nBuf : Space → Nat
  | .hbm => 9
  | .vmem => 9
  | .smem => 0
  | _ => 0

abbrev bufTy : (tb : Table) → Fin (tcTables nBuf tb) → BufTy
  | .hbm, ⟨0, _⟩ => ⟨S2x32768x512, .bf16⟩
  | .hbm, ⟨1, _⟩ => ⟨S2x268x128x128, .fp8e4m3⟩
  | .hbm, ⟨2, _⟩ => ⟨S2x268x128x128, .fp8e4m3⟩
  | .hbm, ⟨3, _⟩ => ⟨S2x268x128, .f32⟩
  | .hbm, ⟨4, _⟩ => ⟨S2x1x128, .f32⟩
  | .hbm, ⟨5, _⟩ => ⟨S2x32768x512, .bf16⟩
  | .hbm, ⟨6, _⟩ => ⟨S2x512x32768, .fp8e4m3⟩
  | .hbm, ⟨7, _⟩ => ⟨S2x64x32x128, .f32⟩
  | .hbm, ⟨8, _⟩ => ⟨S2x64x4x512, .f32⟩
  | .local _ .vmem, ⟨0, _⟩ => ⟨S2x32768x512, .bf16⟩
  | .local _ .vmem, ⟨1, _⟩ => ⟨S2x268x128x128, .fp8e4m3⟩
  | .local _ .vmem, ⟨2, _⟩ => ⟨S2x268x128x128, .fp8e4m3⟩
  | .local _ .vmem, ⟨3, _⟩ => ⟨S2x268x128, .f32⟩
  | .local _ .vmem, ⟨4, _⟩ => ⟨S2x1x128, .f32⟩
  | .local _ .vmem, ⟨5, _⟩ => ⟨S2x32768x512, .bf16⟩
  | .local _ .vmem, ⟨6, _⟩ => ⟨S2x512x32768, .fp8e4m3⟩
  | .local _ .vmem, ⟨7, _⟩ => ⟨S2x64x32x128, .f32⟩
  | .local _ .vmem, ⟨8, _⟩ => ⟨S2x64x4x512, .f32⟩
  | _, _ => ⟨S2x32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S2x32768x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x268x128x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x268x128x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x268x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x32768x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x512x32768 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x64x32x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x64x4x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.K.Trip.lean ====
module

public import proofs.«01_k».proof.Proof.Gen.Kernel.Skeleton
public import proofs.«01_k».proof.Proof.Gen.Kernel.Frame
public import proofs.«01_k».proof.Proof.Gen.Kernel.Loops
public import Idealize.ShloMosaic.Lib.Tactic

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The contents of memref `M`'s buffer on core `c`, and that buffer held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The pieces one trip leaves in each of the four results' blocks. -/
abbrev Pcs (F : FTy → Type) : Type :=
  List (View.Piece (Elt F) S1x512x512 .bf16) × List (View.Piece (Elt F) S1x512x512 .fp8e4m3)
    × List (View.Piece (Elt F) S1x1x32x128 .f32) × List (View.Piece (Elt F) S1x1x4x512 .f32)

set_option sl_exec.resultNames true in
noncomputable def trip (c : Dev nD) (i : grid0.Coords)
    (arg2 : Memref sig .tc .vmem S1x512x512 .bf16) (harg2 : arg2.IsWhole)
    (arg3 : Memref sig .tc .vmem S1x268x128x128 .fp8e4m3) (harg3 : arg3.IsWhole)
    (arg4 : Memref sig .tc .vmem S1x268x128x128 .fp8e4m3) (harg4 : arg4.IsWhole)
    (arg5 : Memref sig .tc .vmem S1x268x128 .f32) (harg5 : arg5.IsWhole)
    (arg6 : Memref sig .tc .vmem S1x1x128 .f32) (harg6 : arg6.IsWhole)
    (arg7 : Memref sig .tc .vmem S1x512x512 .bf16) (harg7 : arg7.IsWhole)
    (arg8 : Memref sig .tc .vmem S1x512x512 .fp8e4m3) (harg8 : arg8.IsWhole)
    (arg9 : Memref sig .tc .vmem S1x1x32x128 .f32) (harg9 : arg9.IsWhole)
    (arg10 : Memref sig .tc .vmem S1x1x4x512 .f32) (harg10 : arg10.IsWhole)
    (arg11 : Memref sig .tc .vmem S2x12x128x128 .f32) (harg11 : arg11.IsWhole)
    (arg12 : Memref sig .tc .vmem S2x128x1664 .fp8e4m3) (harg12 : arg12.IsWhole)
    (arg13 : Memref sig .tc .vmem S13x8x128 .f32) (harg13 : arg13.IsWhole)
    (arg14 : Memref sig .tc .vmem S13x8x128 .f32) (harg14 : arg14.IsWhole)
    (arg1 : BitVec 32) (v0 : IVec S8x128 32) (v42 : IVec S8x128 1) (v43 : IVec S1x128 32) (v44 : IVec S128x128 32) (v45 : IVec S128x128 32)
    (f_arg2 : Bf (F := F) c arg2) (f_arg3 : Bf (F := F) c arg3) (f_arg4 : Bf (F := F) c arg4) (f_arg5 : Bf (F := F) c arg5) (f_arg6 : Bf (F := F) c arg6) (k : Fin k0_t1_loop.trips) :
    { W : Pcs F // ∀ (f_arg7 : Bf (F := F) c arg7) (f_arg8 : Bf (F := F) c arg8) (f_arg9 : Bf (F := F) c arg9) (f_arg10 : Bf (F := F) c arg10) (f_arg11 : Bf (F := F) c arg11) (f_arg12 : Bf (F := F) c arg12) (f_arg13 : Bf (F := F) c arg13) (f_arg14 : Bf (F := F) c arg14),
      iprop(pt c arg2 f_arg2 ∗ pt c arg3 f_arg3 ∗ pt c arg4 f_arg4 ∗ pt c arg5 f_arg5 ∗ pt c arg6 f_arg6 ∗ pt c arg7 f_arg7 ∗ pt c arg8 f_arg8 ∗ pt c arg9 f_arg9 ∗ pt c arg10 f_arg10 ∗ pt c arg11 f_arg11 ∗ pt c arg12 f_arg12 ∗ pt c arg13 f_arg13 ∗ pt c arg14 f_arg14)
      ⊢ wp frame (wpE (defs₀ (F := F)) Variants.none (c : Thread nD τ) none) Set.univ
          (k0_t1_body (F := F) i arg2 harg2 arg3 harg3 arg4 harg4 arg5 harg5 arg6 harg6 arg7 harg7 arg8 harg8 arg9 harg9 arg10 harg10 arg11 harg11 arg12 harg12 arg13 harg13 arg14 harg14 arg1 v0 v42 v43 v44 v45 k PUnit.unit)
          (fun _ => iprop(pt c arg2 f_arg2 ∗ pt c arg3 f_arg3 ∗ pt c arg4 f_arg4 ∗ pt c arg5 f_arg5 ∗ pt c arg6 f_arg6 ∗ pt c arg7 (arg7.view.writes (Elt F) f_arg7 W.1) ∗ pt c arg8 (arg8.view.writes (Elt F) f_arg8 W.2.1) ∗ pt c arg9 (arg9.view.writes (Elt F) f_arg9 W.2.2.1) ∗ pt c arg10 (arg10.view.writes (Elt F) f_arg10 W.2.2.2) ∗ (∃ f, pt c arg11 f) ∗ (∃ f, pt c arg12 f) ∗ (∃ f, pt c arg13 f) ∗ (∃ f, pt c arg14 f))) } := by
  refine ⟨⟨?_, ?_, ?_, ?_⟩, fun f_arg7 f_arg8 f_arg9 f_arg10 f_arg11 f_arg12 f_arg13 f_arg14 => ?run⟩
  case run =>
    unfold k0_t1_body
    iintro ⟨H_arg2, H_arg3, H_arg4, H_arg5, H_arg6, H_arg7, H_arg8, H_arg9, H_arg10, H_arg11, H_arg12, H_arg13, H_arg14⟩
    sl_exec_parts!
    sl_step
    sl_close

end Cert.Proof.Kernel

end
-- ==== Proof.K.Run.lean ====
module

public import proofs.«01_k».proof.Proof.K.Trip

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The loop over the four query blocks of a grid point -/

/-- The pieces of two stretches of trips, the later one's first. -/
def Pcs.app (a b : Pcs F) : Pcs F := (a.1 ++ b.1, a.2.1 ++ b.2.1, a.2.2.1 ++ b.2.2.1, a.2.2.2 ++ b.2.2.2)

/-- The pieces of the trips before `k` of a run whose trip `j` leaves `T j`, the last trip's first. -/
def accum (T : Fin k0_t1_loop.trips → Pcs F) : ℕ → Pcs F
  | 0 => ([], [], [], [])
  | k + 1 => if h : k < k0_t1_loop.trips then (T ⟨k, h⟩).app (accum T k) else accum T k

theorem accum_succ (T : Fin k0_t1_loop.trips → Pcs F) (k : Fin k0_t1_loop.trips) :
    accum T (k.val + 1) = (T k).app (accum T k.val) := by
  rw [accum.eq_2]; exact dif_pos k.isLt

/-- The pieces the trips before `k` leave in the four results' blocks, the last trip's first. -/
def pcs (c : Dev nD) (i : grid0.Coords)
    (arg2 : Memref sig .tc .vmem S1x512x512 .bf16) (harg2 : arg2.IsWhole)
    (arg3 : Memref sig .tc .vmem S1x268x128x128 .fp8e4m3) (harg3 : arg3.IsWhole)
    (arg4 : Memref sig .tc .vmem S1x268x128x128 .fp8e4m3) (harg4 : arg4.IsWhole)
    (arg5 : Memref sig .tc .vmem S1x268x128 .f32) (harg5 : arg5.IsWhole)
    (arg6 : Memref sig .tc .vmem S1x1x128 .f32) (harg6 : arg6.IsWhole)
    (arg7 : Memref sig .tc .vmem S1x512x512 .bf16) (harg7 : arg7.IsWhole)
    (arg8 : Memref sig .tc .vmem S1x512x512 .fp8e4m3) (harg8 : arg8.IsWhole)
    (arg9 : Memref sig .tc .vmem S1x1x32x128 .f32) (harg9 : arg9.IsWhole)
    (arg10 : Memref sig .tc .vmem S1x1x4x512 .f32) (harg10 : arg10.IsWhole)
    (arg11 : Memref sig .tc .vmem S2x12x128x128 .f32) (harg11 : arg11.IsWhole)
    (arg12 : Memref sig .tc .vmem S2x128x1664 .fp8e4m3) (harg12 : arg12.IsWhole)
    (arg13 : Memref sig .tc .vmem S13x8x128 .f32) (harg13 : arg13.IsWhole)
    (arg14 : Memref sig .tc .vmem S13x8x128 .f32) (harg14 : arg14.IsWhole)
    (arg1 : BitVec 32) (v0 : IVec S8x128 32) (v42 : IVec S8x128 1) (v43 : IVec S1x128 32) (v44 : IVec S128x128 32) (v45 : IVec S128x128 32)
    (f_arg2 : Bf (F := F) c arg2) (f_arg3 : Bf (F := F) c arg3) (f_arg4 : Bf (F := F) c arg4) (f_arg5 : Bf (F := F) c arg5) (f_arg6 : Bf (F := F) c arg6) : ℕ → Pcs F :=
  accum fun k => (trip (F := F) c i arg2 harg2 arg3 harg3 arg4 harg4 arg5 harg5 arg6 harg6 arg7 harg7 arg8 harg8 arg9 harg9 arg10 harg10 arg11 harg11 arg12 harg12 arg13 harg13 arg14 harg14 arg1 v0 v42 v43 v44 v45 f_arg2 f_arg3 f_arg4 f_arg5 f_arg6 k).1

theorem pcs_succ (c : Dev nD) (i : grid0.Coords)
    (arg2 : Memref sig .tc .vmem S1x512x512 .bf16) (harg2 : arg2.IsWhole)
    (arg3 : Memref sig .tc .vmem S1x268x128x128 .fp8e4m3) (harg3 : arg3.IsWhole)
    (arg4 : Memref sig .tc .vmem S1x268x128x128 .fp8e4m3) (harg4 : arg4.IsWhole)
    (arg5 : Memref sig .tc .vmem S1x268x128 .f32) (harg5 : arg5.IsWhole)
    (arg6 : Memref sig .tc .vmem S1x1x128 .f32) (harg6 : arg6.IsWhole)
    (arg7 : Memref sig .tc .vmem S1x512x512 .bf16) (harg7 : arg7.IsWhole)
    (arg8 : Memref sig .tc .vmem S1x512x512 .fp8e4m3) (harg8 : arg8.IsWhole)
    (arg9 : Memref sig .tc .vmem S1x1x32x128 .f32) (harg9 : arg9.IsWhole)
    (arg10 : Memref sig .tc .vmem S1x1x4x512 .f32) (harg10 : arg10.IsWhole)
    (arg11 : Memref sig .tc .vmem S2x12x128x128 .f32) (harg11 : arg11.IsWhole)
    (arg12 : Memref sig .tc .vmem S2x128x1664 .fp8e4m3) (harg12 : arg12.IsWhole)
    (arg13 : Memref sig .tc .vmem S13x8x128 .f32) (harg13 : arg13.IsWhole)
    (arg14 : Memref sig .tc .vmem S13x8x128 .f32) (harg14 : arg14.IsWhole)
    (arg1 : BitVec 32) (v0 : IVec S8x128 32) (v42 : IVec S8x128 1) (v43 : IVec S1x128 32) (v44 : IVec S128x128 32) (v45 : IVec S128x128 32)
    (f_arg2 : Bf (F := F) c arg2) (f_arg3 : Bf (F := F) c arg3) (f_arg4 : Bf (F := F) c arg4) (f_arg5 : Bf (F := F) c arg5) (f_arg6 : Bf (F := F) c arg6) (k : Fin k0_t1_loop.trips) :
    pcs (F := F) c i arg2 harg2 arg3 harg3 arg4 harg4 arg5 harg5 arg6 harg6 arg7 harg7 arg8 harg8 arg9 harg9 arg10 harg10 arg11 harg11 arg12 harg12 arg13 harg13 arg14 harg14 arg1 v0 v42 v43 v44 v45 f_arg2 f_arg3 f_arg4 f_arg5 f_arg6 (k.val + 1) = (trip (F := F) c i arg2 harg2 arg3 harg3 arg4 harg4 arg5 harg5 arg6 harg6 arg7 harg7 arg8 harg8 arg9 harg9 arg10 harg10 arg11 harg11 arg12 harg12 arg13 harg13 arg14 harg14 arg1 v0 v42 v43 v44 v45 f_arg2 f_arg3 f_arg4 f_arg5 f_arg6 k).1.app (pcs (F := F) c i arg2 harg2 arg3 harg3 arg4 harg4 arg5 harg5 arg6 harg6 arg7 harg7 arg8 harg8 arg9 harg9 arg10 harg10 arg11 harg11 arg12 harg12 arg13 harg13 arg14 harg14 arg1 v0 v42 v43 v44 v45 f_arg2 f_arg3 f_arg4 f_arg5 f_arg6 k.val) :=
  accum_succ _ k

/-- The loop's invariant: before trip `k` the five operands are as they were, each result's buffer holds the pieces of
    the trips before `k`, and the scratch buffers hold anything. -/
abbrev inv (c : Dev nD) (i : grid0.Coords)
    (arg2 : Memref sig .tc .vmem S1x512x512 .bf16) (harg2 : arg2.IsWhole)
    (arg3 : Memref sig .tc .vmem S1x268x128x128 .fp8e4m3) (harg3 : arg3.IsWhole)
    (arg4 : Memref sig .tc .vmem S1x268x128x128 .fp8e4m3) (harg4 : arg4.IsWhole)
    (arg5 : Memref sig .tc .vmem S1x268x128 .f32) (harg5 : arg5.IsWhole)
    (arg6 : Memref sig .tc .vmem S1x1x128 .f32) (harg6 : arg6.IsWhole)
    (arg7 : Memref sig .tc .vmem S1x512x512 .bf16) (harg7 : arg7.IsWhole)
    (arg8 : Memref sig .tc .vmem S1x512x512 .fp8e4m3) (harg8 : arg8.IsWhole)
    (arg9 : Memref sig .tc .vmem S1x1x32x128 .f32) (harg9 : arg9.IsWhole)
    (arg10 : Memref sig .tc .vmem S1x1x4x512 .f32) (harg10 : arg10.IsWhole)
    (arg11 : Memref sig .tc .vmem S2x12x128x128 .f32) (harg11 : arg11.IsWhole)
    (arg12 : Memref sig .tc .vmem S2x128x1664 .fp8e4m3) (harg12 : arg12.IsWhole)
    (arg13 : Memref sig .tc .vmem S13x8x128 .f32) (harg13 : arg13.IsWhole)
    (arg14 : Memref sig .tc .vmem S13x8x128 .f32) (harg14 : arg14.IsWhole)
    (arg1 : BitVec 32) (v0 : IVec S8x128 32) (v42 : IVec S8x128 1) (v43 : IVec S1x128 32) (v44 : IVec S128x128 32) (v45 : IVec S128x128 32)
    (f_arg2 : Bf (F := F) c arg2) (f_arg3 : Bf (F := F) c arg3) (f_arg4 : Bf (F := F) c arg4) (f_arg5 : Bf (F := F) c arg5) (f_arg6 : Bf (F := F) c arg6)
    (f_arg7 : Bf (F := F) c arg7) (f_arg8 : Bf (F := F) c arg8) (f_arg9 : Bf (F := F) c arg9) (f_arg10 : Bf (F := F) c arg10) (k : ℕ) : sProp 𝕄 :=
  iprop(pt c arg2 f_arg2 ∗ pt c arg3 f_arg3 ∗ pt c arg4 f_arg4 ∗ pt c arg5 f_arg5 ∗ pt c arg6 f_arg6 ∗ (∃ f, pt c arg7 f ∗ ⌜f = arg7.view.writes (Elt F) f_arg7 (pcs (F := F) c i arg2 harg2 arg3 harg3 arg4 harg4 arg5 harg5 arg6 harg6 arg7 harg7 arg8 harg8 arg9 harg9 arg10 harg10 arg11 harg11 arg12 harg12 arg13 harg13 arg14 harg14 arg1 v0 v42 v43 v44 v45 f_arg2 f_arg3 f_arg4 f_arg5 f_arg6 k).1⌝) ∗ (∃ f, pt c arg8 f ∗ ⌜f = arg8.view.writes (Elt F) f_arg8 (pcs (F := F) c i arg2 harg2 arg3 harg3 arg4 harg4 arg5 harg5 arg6 harg6 arg7 harg7 arg8 harg8 arg9 harg9 arg10 harg10 arg11 harg11 arg12 harg12 arg13 harg13 arg14 harg14 arg1 v0 v42 v43 v44 v45 f_arg2 f_arg3 f_arg4 f_arg5 f_arg6 k).2.1⌝) ∗ (∃ f, pt c arg9 f ∗ ⌜f = arg9.view.writes (Elt F) f_arg9 (pcs (F := F) c i arg2 harg2 arg3 harg3 arg4 harg4 arg5 harg5 arg6 harg6 arg7 harg7 arg8 harg8 arg9 harg9 arg10 harg10 arg11 harg11 arg12 harg12 arg13 harg13 arg14 harg14 arg1 v0 v42 v43 v44 v45 f_arg2 f_arg3 f_arg4 f_arg5 f_arg6 k).2.2.1⌝) ∗ (∃ f, pt c arg10 f ∗ ⌜f = arg10.view.writes (Elt F) f_arg10 (pcs (F := F) c i arg2 harg2 arg3 harg3 arg4 harg4 arg5 harg5 arg6 harg6 arg7 harg7 arg8 harg8 arg9 harg9 arg10 harg10 arg11 harg11 arg12 harg12 arg13 harg13 arg14 harg14 arg1 v0 v42 v43 v44 v45 f_arg2 f_arg3 f_arg4 f_arg5 f_arg6 k).2.2.2⌝) ∗ (∃ f, pt c arg11 f) ∗ (∃ f, pt c arg12 f) ∗ (∃ f, pt c arg13 f) ∗ (∃ f, pt c arg14 f))

/-- One trip takes the invariant from `k` to `k + 1`. -/
theorem inv_step (c : Dev nD) (i : grid0.Coords)
    (arg2 : Memref sig .tc .vmem S1x512x512 .bf16) (harg2 : arg2.IsWhole)
    (arg3 : Memref sig .tc .vmem S1x268x128x128 .fp8e4m3) (harg3 : arg3.IsWhole)
    (arg4 : Memref sig .tc .vmem S1x268x128x128 .fp8e4m3) (harg4 : arg4.IsWhole)
    (arg5 : Memref sig .tc .vmem S1x268x128 .f32) (harg5 : arg5.IsWhole)
    (arg6 : Memref sig .tc .vmem S1x1x128 .f32) (harg6 : arg6.IsWhole)
    (arg7 : Memref sig .tc .vmem S1x512x512 .bf16) (harg7 : arg7.IsWhole)
    (arg8 : Memref sig .tc .vmem S1x512x512 .fp8e4m3) (harg8 : arg8.IsWhole)
    (arg9 : Memref sig .tc .vmem S1x1x32x128 .f32) (harg9 : arg9.IsWhole)
    (arg10 : Memref sig .tc .vmem S1x1x4x512 .f32) (harg10 : arg10.IsWhole)
    (arg11 : Memref sig .tc .vmem S2x12x128x128 .f32) (harg11 : arg11.IsWhole)
    (arg12 : Memref sig .tc .vmem S2x128x1664 .fp8e4m3) (harg12 : arg12.IsWhole)
    (arg13 : Memref sig .tc .vmem S13x8x128 .f32) (harg13 : arg13.IsWhole)
    (arg14 : Memref sig .tc .vmem S13x8x128 .f32) (harg14 : arg14.IsWhole)
    (arg1 : BitVec 32) (v0 : IVec S8x128 32) (v42 : IVec S8x128 1) (v43 : IVec S1x128 32) (v44 : IVec S128x128 32) (v45 : IVec S128x128 32)
    (f_arg2 : Bf (F := F) c arg2) (f_arg3 : Bf (F := F) c arg3) (f_arg4 : Bf (F := F) c arg4) (f_arg5 : Bf (F := F) c arg5) (f_arg6 : Bf (F := F) c arg6)
    (f_arg7 : Bf (F := F) c arg7) (f_arg8 : Bf (F := F) c arg8) (f_arg9 : Bf (F := F) c arg9) (f_arg10 : Bf (F := F) c arg10) (k : Fin k0_t1_loop.trips) (acc : PUnit) :
    inv (F := F) c i arg2 harg2 arg3 harg3 arg4 harg4 arg5 harg5 arg6 harg6 arg7 harg7 arg8 harg8 arg9 harg9 arg10 harg10 arg11 harg11 arg12 harg12 arg13 harg13 arg14 harg14 arg1 v0 v42 v43 v44 v45 f_arg2 f_arg3 f_arg4 f_arg5 f_arg6 f_arg7 f_arg8 f_arg9 f_arg10 k.val ⊢
      wp frame (wpE (defs₀ (F := F)) Variants.none (c : Thread nD τ) none) Set.univ (k0_t1_body (F := F) i arg2 harg2 arg3 harg3 arg4 harg4 arg5 harg5 arg6 harg6 arg7 harg7 arg8 harg8 arg9 harg9 arg10 harg10 arg11 harg11 arg12 harg12 arg13 harg13 arg14 harg14 arg1 v0 v42 v43 v44 v45 k acc)
        (fun _ => inv (F := F) c i arg2 harg2 arg3 harg3 arg4 harg4 arg5 harg5 arg6 harg6 arg7 harg7 arg8 harg8 arg9 harg9 arg10 harg10 arg11 harg11 arg12 harg12 arg13 harg13 arg14 harg14 arg1 v0 v42 v43 v44 v45 f_arg2 f_arg3 f_arg4 f_arg5 f_arg6 f_arg7 f_arg8 f_arg9 f_arg10 (k.val + 1)) := by
  unfold inv
  iintro ⟨H_arg2, H_arg3, H_arg4, H_arg5, H_arg6, ⟨%g_arg7, H_arg7, %e_arg7⟩, ⟨%g_arg8, H_arg8, %e_arg8⟩, ⟨%g_arg9, H_arg9, %e_arg9⟩, ⟨%g_arg10, H_arg10, %e_arg10⟩, ⟨%g_arg11, H_arg11⟩, ⟨%g_arg12, H_arg12⟩, ⟨%g_arg13, H_arg13⟩, ⟨%g_arg14, H_arg14⟩⟩
  subst e_arg7 e_arg8 e_arg9 e_arg10
  rw [pcs_succ]
  iapply (wp_wand_r frame (wpE (defs₀ (F := F)) Variants.none (c : Thread nD τ) none) Set.univ (p := k0_t1_body (F := F) i arg2 harg2 arg3 harg3 arg4 harg4 arg5 harg5 arg6 harg6 arg7 harg7 arg8 harg8 arg9 harg9 arg10 harg10 arg11 harg11 arg12 harg12 arg13 harg13 arg14 harg14 arg1 v0 v42 v43 v44 v45 k PUnit.unit))
  isplitl [H_arg2 H_arg3 H_arg4 H_arg5 H_arg6 H_arg7 H_arg8 H_arg9 H_arg10 H_arg11 H_arg12 H_arg13 H_arg14]
  · iapply ((trip (F := F) c i arg2 harg2 arg3 harg3 arg4 harg4 arg5 harg5 arg6 harg6 arg7 harg7 arg8 harg8 arg9 harg9 arg10 harg10 arg11 harg11 arg12 harg12 arg13 harg13 arg14 harg14 arg1 v0 v42 v43 v44 v45 f_arg2 f_arg3 f_arg4 f_arg5 f_arg6 k).2 _ _ _ _ g_arg11 g_arg12 g_arg13 g_arg14)
    sl_close
  iintro %_ ⟨H_arg2, H_arg3, H_arg4, H_arg5, H_arg6, H_arg7, H_arg8, H_arg9, H_arg10, ⟨%h_arg11, H_arg11⟩, ⟨%h_arg12, H_arg12⟩, ⟨%h_arg13, H_arg13⟩, ⟨%h_arg14, H_arg14⟩⟩
  simp only [Pcs.app, View.writes_append]
  sl_close

/-- The pieces a run of the body leaves in the four results' blocks. -/
def pieces (c : Dev nD) (i : grid0.Coords)
    (arg2 : Memref sig .tc .vmem S1x512x512 .bf16) (harg2 : arg2.IsWhole)
    (arg3 : Memref sig .tc .vmem S1x268x128x128 .fp8e4m3) (harg3 : arg3.IsWhole)
    (arg4 : Memref sig .tc .vmem S1x268x128x128 .fp8e4m3) (harg4 : arg4.IsWhole)
    (arg5 : Memref sig .tc .vmem S1x268x128 .f32) (harg5 : arg5.IsWhole)
    (arg6 : Memref sig .tc .vmem S1x1x128 .f32) (harg6 : arg6.IsWhole)
    (arg7 : Memref sig .tc .vmem S1x512x512 .bf16) (harg7 : arg7.IsWhole)
    (arg8 : Memref sig .tc .vmem S1x512x512 .fp8e4m3) (harg8 : arg8.IsWhole)
    (arg9 : Memref sig .tc .vmem S1x1x32x128 .f32) (harg9 : arg9.IsWhole)
    (arg10 : Memref sig .tc .vmem S1x1x4x512 .f32) (harg10 : arg10.IsWhole)
    (arg11 : Memref sig .tc .vmem S2x12x128x128 .f32) (harg11 : arg11.IsWhole)
    (arg12 : Memref sig .tc .vmem S2x128x1664 .fp8e4m3) (harg12 : arg12.IsWhole)
    (arg13 : Memref sig .tc .vmem S13x8x128 .f32) (harg13 : arg13.IsWhole)
    (arg14 : Memref sig .tc .vmem S13x8x128 .f32) (harg14 : arg14.IsWhole)
    (f_arg2 : Bf (F := F) c arg2) (f_arg3 : Bf (F := F) c arg3) (f_arg4 : Bf (F := F) c arg4) (f_arg5 : Bf (F := F) c arg5) (f_arg6 : Bf (F := F) c arg6) : Pcs F :=
  pcs (F := F) c i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (iota .tc S8x128 32 [0] iota_S8x128_d0_w32) k0_pay729
    (iota .tc S1x128 32 [1] iota_S1x128_d1_w32) (iota .tc S128x128 32 [0] iota_S128x128_d0_w32)
    (iota .tc S128x128 32 [1] iota_S128x128_d1_w32) f_arg2 f_arg3 f_arg4 f_arg5 f_arg6 (Scf.trips k0_t1_loop.lb k0_t1_loop.ub k0_t1_loop.st)

/-- The body is the loop over its four query blocks. -/
theorem body_eq (i : grid0.Coords)
    (arg2 : Memref sig .tc .vmem S1x512x512 .bf16) (harg2 : arg2.IsWhole)
    (arg3 : Memref sig .tc .vmem S1x268x128x128 .fp8e4m3) (harg3 : arg3.IsWhole)
    (arg4 : Memref sig .tc .vmem S1x268x128x128 .fp8e4m3) (harg4 : arg4.IsWhole)
    (arg5 : Memref sig .tc .vmem S1x268x128 .f32) (harg5 : arg5.IsWhole)
    (arg6 : Memref sig .tc .vmem S1x1x128 .f32) (harg6 : arg6.IsWhole)
    (arg7 : Memref sig .tc .vmem S1x512x512 .bf16) (harg7 : arg7.IsWhole)
    (arg8 : Memref sig .tc .vmem S1x512x512 .fp8e4m3) (harg8 : arg8.IsWhole)
    (arg9 : Memref sig .tc .vmem S1x1x32x128 .f32) (harg9 : arg9.IsWhole)
    (arg10 : Memref sig .tc .vmem S1x1x4x512 .f32) (harg10 : arg10.IsWhole)
    (arg11 : Memref sig .tc .vmem S2x12x128x128 .f32) (harg11 : arg11.IsWhole)
    (arg12 : Memref sig .tc .vmem S2x128x1664 .fp8e4m3) (harg12 : arg12.IsWhole)
    (arg13 : Memref sig .tc .vmem S13x8x128 .f32) (harg13 : arg13.IsWhole)
    (arg14 : Memref sig .tc .vmem S13x8x128 .f32) (harg14 : arg14.IsWhole) :
    cc0_attend (F := F) i arg2 harg2 arg3 harg3 arg4 harg4 arg5 harg5 arg6 harg6 arg7 harg7 arg8 harg8 arg9 harg9 arg10 harg10 arg11 harg11 arg12 harg12 arg13 harg13 arg14 harg14 =
      (Scf.Loop.for k0_t1_loop k0_t1_ok PUnit.unit (k0_t1_body (F := F) i arg2 harg2 arg3 harg3 arg4 harg4 arg5 harg5 arg6 harg6 arg7 harg7 arg8 harg8 arg9 harg9 arg10 harg10 arg11 harg11 arg12 harg12 arg13 harg13 arg14 harg14
        (BitVec.ofNat 32 (i 1).val) (iota .tc S8x128 32 [0] iota_S8x128_d0_w32) k0_pay729
        (iota .tc S1x128 32 [1] iota_S1x128_d1_w32) (iota .tc S128x128 32 [0] iota_S128x128_d0_w32)
        (iota .tc S128x128 32 [1] iota_S128x128_d1_w32)) >>= fun _ => pure PUnit.unit) := by
  rw [cc0_attend_eq_skeleton]; rfl

/-- The body's run at a grid point: it leaves the operands as they were and each result's block at the point's pieces. -/
theorem body_run (c : Dev nD) (i : grid0.Coords)
    (arg2 : Memref sig .tc .vmem S1x512x512 .bf16) (harg2 : arg2.IsWhole)
    (arg3 : Memref sig .tc .vmem S1x268x128x128 .fp8e4m3) (harg3 : arg3.IsWhole)
    (arg4 : Memref sig .tc .vmem S1x268x128x128 .fp8e4m3) (harg4 : arg4.IsWhole)
    (arg5 : Memref sig .tc .vmem S1x268x128 .f32) (harg5 : arg5.IsWhole)
    (arg6 : Memref sig .tc .vmem S1x1x128 .f32) (harg6 : arg6.IsWhole)
    (arg7 : Memref sig .tc .vmem S1x512x512 .bf16) (harg7 : arg7.IsWhole)
    (arg8 : Memref sig .tc .vmem S1x512x512 .fp8e4m3) (harg8 : arg8.IsWhole)
    (arg9 : Memref sig .tc .vmem S1x1x32x128 .f32) (harg9 : arg9.IsWhole)
    (arg10 : Memref sig .tc .vmem S1x1x4x512 .f32) (harg10 : arg10.IsWhole)
    (arg11 : Memref sig .tc .vmem S2x12x128x128 .f32) (harg11 : arg11.IsWhole)
    (arg12 : Memref sig .tc .vmem S2x128x1664 .fp8e4m3) (harg12 : arg12.IsWhole)
    (arg13 : Memref sig .tc .vmem S13x8x128 .f32) (harg13 : arg13.IsWhole)
    (arg14 : Memref sig .tc .vmem S13x8x128 .f32) (harg14 : arg14.IsWhole)
    (f_arg2 : Bf (F := F) c arg2) (f_arg3 : Bf (F := F) c arg3) (f_arg4 : Bf (F := F) c arg4) (f_arg5 : Bf (F := F) c arg5) (f_arg6 : Bf (F := F) c arg6) (f_arg7 : Bf (F := F) c arg7) (f_arg8 : Bf (F := F) c arg8) (f_arg9 : Bf (F := F) c arg9) (f_arg10 : Bf (F := F) c arg10) (f_arg11 : Bf (F := F) c arg11) (f_arg12 : Bf (F := F) c arg12) (f_arg13 : Bf (F := F) c arg13) (f_arg14 : Bf (F := F) c arg14) (K : PUnit → sProp 𝕄) :
    iprop(pt c arg2 f_arg2 ∗ pt c arg3 f_arg3 ∗ pt c arg4 f_arg4 ∗ pt c arg5 f_arg5 ∗ pt c arg6 f_arg6 ∗ pt c arg7 f_arg7 ∗ pt c arg8 f_arg8 ∗ pt c arg9 f_arg9 ∗ pt c arg10 f_arg10 ∗ pt c arg11 f_arg11 ∗ pt c arg12 f_arg12 ∗ pt c arg13 f_arg13 ∗ pt c arg14 f_arg14 ∗ (iprop(pt c arg2 f_arg2 ∗ pt c arg3 f_arg3 ∗ pt c arg4 f_arg4 ∗ pt c arg5 f_arg5 ∗ pt c arg6 f_arg6 ∗ (∃ f, pt c arg7 f ∗ ⌜f = arg7.view.writes (Elt F) f_arg7 (pieces (F := F) c i arg2 harg2 arg3 harg3 arg4 harg4 arg5 harg5 arg6 harg6 arg7 harg7 arg8 harg8 arg9 harg9 arg10 harg10 arg11 harg11 arg12 harg12 arg13 harg13 arg14 harg14 f_arg2 f_arg3 f_arg4 f_arg5 f_arg6).1⌝) ∗ (∃ f, pt c arg8 f ∗ ⌜f = arg8.view.writes (Elt F) f_arg8 (pieces (F := F) c i arg2 harg2 arg3 harg3 arg4 harg4 arg5 harg5 arg6 harg6 arg7 harg7 arg8 harg8 arg9 harg9 arg10 harg10 arg11 harg11 arg12 harg12 arg13 harg13 arg14 harg14 f_arg2 f_arg3 f_arg4 f_arg5 f_arg6).2.1⌝) ∗ (∃ f, pt c arg9 f ∗ ⌜f = arg9.view.writes (Elt F) f_arg9 (pieces (F := F) c i arg2 harg2 arg3 harg3 arg4 harg4 arg5 harg5 arg6 harg6 arg7 harg7 arg8 harg8 arg9 harg9 arg10 harg10 arg11 harg11 arg12 harg12 arg13 harg13 arg14 harg14 f_arg2 f_arg3 f_arg4 f_arg5 f_arg6).2.2.1⌝) ∗ (∃ f, pt c arg10 f ∗ ⌜f = arg10.view.writes (Elt F) f_arg10 (pieces (F := F) c i arg2 harg2 arg3 harg3 arg4 harg4 arg5 harg5 arg6 harg6 arg7 harg7 arg8 harg8 arg9 harg9 arg10 harg10 arg11 harg11 arg12 harg12 arg13 harg13 arg14 harg14 f_arg2 f_arg3 f_arg4 f_arg5 f_arg6).2.2.2⌝) ∗ (∃ f, pt c arg11 f) ∗ (∃ f, pt c arg12 f) ∗ (∃ f, pt c arg13 f) ∗ (∃ f, pt c arg14 f)) -∗ K ⟨⟩))
      ⊢ wp frame (wpE (defs₀ (F := F)) Variants.none (c : Thread nD τ) none) Set.univ (cc0_attend (F := F) i arg2 harg2 arg3 harg3 arg4 harg4 arg5 harg5 arg6 harg6 arg7 harg7 arg8 harg8 arg9 harg9 arg10 harg10 arg11 harg11 arg12 harg12 arg13 harg13 arg14 harg14) K := by
  rw [body_eq, wp_bind]
  unfold pieces
  iintro ⟨H_arg2, H_arg3, H_arg4, H_arg5, H_arg6, H_arg7, H_arg8, H_arg9, H_arg10, H_arg11, H_arg12, H_arg13, H_arg14, Hk⟩
  iapply (Scf.wp_for frame (wpE (defs₀ (F := F)) Variants.none (c : Thread nD τ) none) Set.univ _ _ _ k0_t1_ok PUnit.unit _
    (fun k _ => inv (F := F) c i arg2 harg2 arg3 harg3 arg4 harg4 arg5 harg5 arg6 harg6 arg7 harg7 arg8 harg8 arg9 harg9 arg10 harg10 arg11 harg11 arg12 harg12 arg13 harg13 arg14 harg14 _ _ _ _ _ _ f_arg2 f_arg3 f_arg4 f_arg5 f_arg6 f_arg7 f_arg8 f_arg9 f_arg10 k)
    (fun k acc => inv_step (F := F) c i arg2 harg2 arg3 harg3 arg4 harg4 arg5 harg5 arg6 harg6 arg7 harg7 arg8 harg8 arg9 harg9 arg10 harg10 arg11 harg11 arg12 harg12 arg13 harg13 arg14 harg14 _ _ _ _ _ _ f_arg2 f_arg3 f_arg4 f_arg5 f_arg6 f_arg7 f_arg8 f_arg9 f_arg10 k acc))
  isplitl [H_arg2 H_arg3 H_arg4 H_arg5 H_arg6 H_arg7 H_arg8 H_arg9 H_arg10 H_arg11 H_arg12 H_arg13 H_arg14]
  · unfold inv
    sl_close
  iintro %_ HI
  sl_step
  iapply Hk
  iexact HI

end Cert.Proof.Kernel

end
-- ==== Proof.K.Frame.lean ====
module

public import proofs.«01_k».proof.Proof.K.Run
public import proofs.«01_k».proof.Proof.Gen.Kernel.Points

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-! ## What a run of the body leaves -/

/-- The pieces of the four trips cover the block of the result at `arg7`. -/
theorem cover_arg7 (c : Dev nD) (i : grid0.Coords)
    (arg2 : Memref sig .tc .vmem S1x512x512 .bf16) (harg2 : arg2.IsWhole)
    (arg3 : Memref sig .tc .vmem S1x268x128x128 .fp8e4m3) (harg3 : arg3.IsWhole)
    (arg4 : Memref sig .tc .vmem S1x268x128x128 .fp8e4m3) (harg4 : arg4.IsWhole)
    (arg5 : Memref sig .tc .vmem S1x268x128 .f32) (harg5 : arg5.IsWhole)
    (arg6 : Memref sig .tc .vmem S1x1x128 .f32) (harg6 : arg6.IsWhole)
    (arg7 : Memref sig .tc .vmem S1x512x512 .bf16) (harg7 : arg7.IsWhole)
    (arg8 : Memref sig .tc .vmem S1x512x512 .fp8e4m3) (harg8 : arg8.IsWhole)
    (arg9 : Memref sig .tc .vmem S1x1x32x128 .f32) (harg9 : arg9.IsWhole)
    (arg10 : Memref sig .tc .vmem S1x1x4x512 .f32) (harg10 : arg10.IsWhole)
    (arg11 : Memref sig .tc .vmem S2x12x128x128 .f32) (harg11 : arg11.IsWhole)
    (arg12 : Memref sig .tc .vmem S2x128x1664 .fp8e4m3) (harg12 : arg12.IsWhole)
    (arg13 : Memref sig .tc .vmem S13x8x128 .f32) (harg13 : arg13.IsWhole)
    (arg14 : Memref sig .tc .vmem S13x8x128 .f32) (harg14 : arg14.IsWhole)
    (f_arg2 : Bf (F := F) c arg2) (f_arg3 : Bf (F := F) c arg3) (f_arg4 : Bf (F := F) c arg4) (f_arg5 : Bf (F := F) c arg5) (f_arg6 : Bf (F := F) c arg6) : ∀ y, ∃ p ∈ (pieces (F := F) c i arg2 harg2 arg3 harg3 arg4 harg4 arg5 harg5 arg6 harg6 arg7 harg7 arg8 harg8 arg9 harg9 arg10 harg10 arg11 harg11 arg12 harg12 arg13 harg13 arg14 harg14 f_arg2 f_arg3 f_arg4 f_arg5 f_arg6).1, y ∈ p.1.set :=
  View.cover_of_tiledL _ S1x128x128.size (by sl_kernel_rfl)

/-- The pieces of the four trips cover the block of the result at `arg8`. -/
theorem cover_arg8 (c : Dev nD) (i : grid0.Coords)
    (arg2 : Memref sig .tc .vmem S1x512x512 .bf16) (harg2 : arg2.IsWhole)
    (arg3 : Memref sig .tc .vmem S1x268x128x128 .fp8e4m3) (harg3 : arg3.IsWhole)
    (arg4 : Memref sig .tc .vmem S1x268x128x128 .fp8e4m3) (harg4 : arg4.IsWhole)
    (arg5 : Memref sig .tc .vmem S1x268x128 .f32) (harg5 : arg5.IsWhole)
    (arg6 : Memref sig .tc .vmem S1x1x128 .f32) (harg6 : arg6.IsWhole)
    (arg7 : Memref sig .tc .vmem S1x512x512 .bf16) (harg7 : arg7.IsWhole)
    (arg8 : Memref sig .tc .vmem S1x512x512 .fp8e4m3) (harg8 : arg8.IsWhole)
    (arg9 : Memref sig .tc .vmem S1x1x32x128 .f32) (harg9 : arg9.IsWhole)
    (arg10 : Memref sig .tc .vmem S1x1x4x512 .f32) (harg10 : arg10.IsWhole)
    (arg11 : Memref sig .tc .vmem S2x12x128x128 .f32) (harg11 : arg11.IsWhole)
    (arg12 : Memref sig .tc .vmem S2x128x1664 .fp8e4m3) (harg12 : arg12.IsWhole)
    (arg13 : Memref sig .tc .vmem S13x8x128 .f32) (harg13 : arg13.IsWhole)
    (arg14 : Memref sig .tc .vmem S13x8x128 .f32) (harg14 : arg14.IsWhole)
    (f_arg2 : Bf (F := F) c arg2) (f_arg3 : Bf (F := F) c arg3) (f_arg4 : Bf (F := F) c arg4) (f_arg5 : Bf (F := F) c arg5) (f_arg6 : Bf (F := F) c arg6) : ∀ y, ∃ p ∈ (pieces (F := F) c i arg2 harg2 arg3 harg3 arg4 harg4 arg5 harg5 arg6 harg6 arg7 harg7 arg8 harg8 arg9 harg9 arg10 harg10 arg11 harg11 arg12 harg12 arg13 harg13 arg14 harg14 f_arg2 f_arg3 f_arg4 f_arg5 f_arg6).2.1, y ∈ p.1.set :=
  View.cover_of_tiledL _ S1x128x128.size (by sl_kernel_rfl)

/-- The pieces of the four trips cover the block of the result at `arg9`. -/
theorem cover_arg9 (c : Dev nD) (i : grid0.Coords)
    (arg2 : Memref sig .tc .vmem S1x512x512 .bf16) (harg2 : arg2.IsWhole)
    (arg3 : Memref sig .tc .vmem S1x268x128x128 .fp8e4m3) (harg3 : arg3.IsWhole)
    (arg4 : Memref sig .tc .vmem S1x268x128x128 .fp8e4m3) (harg4 : arg4.IsWhole)
    (arg5 : Memref sig .tc .vmem S1x268x128 .f32) (harg5 : arg5.IsWhole)
    (arg6 : Memref sig .tc .vmem S1x1x128 .f32) (harg6 : arg6.IsWhole)
    (arg7 : Memref sig .tc .vmem S1x512x512 .bf16) (harg7 : arg7.IsWhole)
    (arg8 : Memref sig .tc .vmem S1x512x512 .fp8e4m3) (harg8 : arg8.IsWhole)
    (arg9 : Memref sig .tc .vmem S1x1x32x128 .f32) (harg9 : arg9.IsWhole)
    (arg10 : Memref sig .tc .vmem S1x1x4x512 .f32) (harg10 : arg10.IsWhole)
    (arg11 : Memref sig .tc .vmem S2x12x128x128 .f32) (harg11 : arg11.IsWhole)
    (arg12 : Memref sig .tc .vmem S2x128x1664 .fp8e4m3) (harg12 : arg12.IsWhole)
    (arg13 : Memref sig .tc .vmem S13x8x128 .f32) (harg13 : arg13.IsWhole)
    (arg14 : Memref sig .tc .vmem S13x8x128 .f32) (harg14 : arg14.IsWhole)
    (f_arg2 : Bf (F := F) c arg2) (f_arg3 : Bf (F := F) c arg3) (f_arg4 : Bf (F := F) c arg4) (f_arg5 : Bf (F := F) c arg5) (f_arg6 : Bf (F := F) c arg6) : ∀ y, ∃ p ∈ (pieces (F := F) c i arg2 harg2 arg3 harg3 arg4 harg4 arg5 harg5 arg6 harg6 arg7 harg7 arg8 harg8 arg9 harg9 arg10 harg10 arg11 harg11 arg12 harg12 arg13 harg13 arg14 harg14 f_arg2 f_arg3 f_arg4 f_arg5 f_arg6).2.2.1, y ∈ p.1.set :=
  View.cover_of_tiledL _ S1x1x8x128.size (by sl_kernel_rfl)

/-- The pieces of the four trips cover the block of the result at `arg10`. -/
theorem cover_arg10 (c : Dev nD) (i : grid0.Coords)
    (arg2 : Memref sig .tc .vmem S1x512x512 .bf16) (harg2 : arg2.IsWhole)
    (arg3 : Memref sig .tc .vmem S1x268x128x128 .fp8e4m3) (harg3 : arg3.IsWhole)
    (arg4 : Memref sig .tc .vmem S1x268x128x128 .fp8e4m3) (harg4 : arg4.IsWhole)
    (arg5 : Memref sig .tc .vmem S1x268x128 .f32) (harg5 : arg5.IsWhole)
    (arg6 : Memref sig .tc .vmem S1x1x128 .f32) (harg6 : arg6.IsWhole)
    (arg7 : Memref sig .tc .vmem S1x512x512 .bf16) (harg7 : arg7.IsWhole)
    (arg8 : Memref sig .tc .vmem S1x512x512 .fp8e4m3) (harg8 : arg8.IsWhole)
    (arg9 : Memref sig .tc .vmem S1x1x32x128 .f32) (harg9 : arg9.IsWhole)
    (arg10 : Memref sig .tc .vmem S1x1x4x512 .f32) (harg10 : arg10.IsWhole)
    (arg11 : Memref sig .tc .vmem S2x12x128x128 .f32) (harg11 : arg11.IsWhole)
    (arg12 : Memref sig .tc .vmem S2x128x1664 .fp8e4m3) (harg12 : arg12.IsWhole)
    (arg13 : Memref sig .tc .vmem S13x8x128 .f32) (harg13 : arg13.IsWhole)
    (arg14 : Memref sig .tc .vmem S13x8x128 .f32) (harg14 : arg14.IsWhole)
    (f_arg2 : Bf (F := F) c arg2) (f_arg3 : Bf (F := F) c arg3) (f_arg4 : Bf (F := F) c arg4) (f_arg5 : Bf (F := F) c arg5) (f_arg6 : Bf (F := F) c arg6) : ∀ y, ∃ p ∈ (pieces (F := F) c i arg2 harg2 arg3 harg3 arg4 harg4 arg5 harg5 arg6 harg6 arg7 harg7 arg8 harg8 arg9 harg9 arg10 harg10 arg11 harg11 arg12 harg12 arg13 harg13 arg14 harg14 f_arg2 f_arg3 f_arg4 f_arg5 f_arg6).2.2.2, y ∈ p.1.set :=
  View.cover_of_tiledL _ S1x1x1x512.size (by sl_kernel_rfl)

/-- The four results' blocks after a run of the body, from the five operands' blocks. -/
def outs (c : Dev nD) (i : grid0.Coords)
    (arg2 : Memref sig .tc .vmem S1x512x512 .bf16) (harg2 : arg2.IsWhole)
    (arg3 : Memref sig .tc .vmem S1x268x128x128 .fp8e4m3) (harg3 : arg3.IsWhole)
    (arg4 : Memref sig .tc .vmem S1x268x128x128 .fp8e4m3) (harg4 : arg4.IsWhole)
    (arg5 : Memref sig .tc .vmem S1x268x128 .f32) (harg5 : arg5.IsWhole)
    (arg6 : Memref sig .tc .vmem S1x1x128 .f32) (harg6 : arg6.IsWhole)
    (arg7 : Memref sig .tc .vmem S1x512x512 .bf16) (harg7 : arg7.IsWhole)
    (arg8 : Memref sig .tc .vmem S1x512x512 .fp8e4m3) (harg8 : arg8.IsWhole)
    (arg9 : Memref sig .tc .vmem S1x1x32x128 .f32) (harg9 : arg9.IsWhole)
    (arg10 : Memref sig .tc .vmem S1x1x4x512 .f32) (harg10 : arg10.IsWhole)
    (arg11 : Memref sig .tc .vmem S2x12x128x128 .f32) (harg11 : arg11.IsWhole)
    (arg12 : Memref sig .tc .vmem S2x128x1664 .fp8e4m3) (harg12 : arg12.IsWhole)
    (arg13 : Memref sig .tc .vmem S13x8x128 .f32) (harg13 : arg13.IsWhole)
    (arg14 : Memref sig .tc .vmem S13x8x128 .f32) (harg14 : arg14.IsWhole)
    (x_arg2 : Vec F S1x512x512 .bf16) (x_arg3 : Vec F S1x268x128x128 .fp8e4m3) (x_arg4 : Vec F S1x268x128x128 .fp8e4m3) (x_arg5 : Vec F S1x268x128 .f32) (x_arg6 : Vec F S1x1x128 .f32) :
    Vec F S1x512x512 .bf16 × Vec F S1x512x512 .fp8e4m3 × Vec F S1x1x32x128 .f32 × Vec F S1x1x4x512 .f32 :=
  (View.canon (pieces (F := F) c i arg2 harg2 arg3 harg3 arg4 harg4 arg5 harg5 arg6 harg6 arg7 harg7 arg8 harg8 arg9 harg9 arg10 harg10 arg11 harg11 arg12 harg12 arg13 harg13 arg14 harg14 (harg2.unread x_arg2) (harg3.unread x_arg3) (harg4.unread x_arg4) (harg5.unread x_arg5) (harg6.unread x_arg6)).1, View.canon (pieces (F := F) c i arg2 harg2 arg3 harg3 arg4 harg4 arg5 harg5 arg6 harg6 arg7 harg7 arg8 harg8 arg9 harg9 arg10 harg10 arg11 harg11 arg12 harg12 arg13 harg13 arg14 harg14 (harg2.unread x_arg2) (harg3.unread x_arg3) (harg4.unread x_arg4) (harg5.unread x_arg5) (harg6.unread x_arg6)).2.1, View.canon (pieces (F := F) c i arg2 harg2 arg3 harg3 arg4 harg4 arg5 harg5 arg6 harg6 arg7 harg7 arg8 harg8 arg9 harg9 arg10 harg10 arg11 harg11 arg12 harg12 arg13 harg13 arg14 harg14 (harg2.unread x_arg2) (harg3.unread x_arg3) (harg4.unread x_arg4) (harg5.unread x_arg5) (harg6.unread x_arg6)).2.2.1, View.canon (pieces (F := F) c i arg2 harg2 arg3 harg3 arg4 harg4 arg5 harg5 arg6 harg6 arg7 harg7 arg8 harg8 arg9 harg9 arg10 harg10 arg11 harg11 arg12 harg12 arg13 harg13 arg14 harg14 (harg2.unread x_arg2) (harg3.unread x_arg3) (harg4.unread x_arg4) (harg5.unread x_arg5) (harg6.unread x_arg6)).2.2.2)

set_option maxHeartbeats 4000000 in
/-- The body's run on its staging memrefs: the operands' blocks stay, the results' blocks end at `outs`. -/
theorem body_triple (c : Dev nD) (i : grid0.Coords)
    (arg2 : Memref sig .tc .vmem S1x512x512 .bf16) (harg2 : arg2.IsWhole)
    (arg3 : Memref sig .tc .vmem S1x268x128x128 .fp8e4m3) (harg3 : arg3.IsWhole)
    (arg4 : Memref sig .tc .vmem S1x268x128x128 .fp8e4m3) (harg4 : arg4.IsWhole)
    (arg5 : Memref sig .tc .vmem S1x268x128 .f32) (harg5 : arg5.IsWhole)
    (arg6 : Memref sig .tc .vmem S1x1x128 .f32) (harg6 : arg6.IsWhole)
    (arg7 : Memref sig .tc .vmem S1x512x512 .bf16) (harg7 : arg7.IsWhole)
    (arg8 : Memref sig .tc .vmem S1x512x512 .fp8e4m3) (harg8 : arg8.IsWhole)
    (arg9 : Memref sig .tc .vmem S1x1x32x128 .f32) (harg9 : arg9.IsWhole)
    (arg10 : Memref sig .tc .vmem S1x1x4x512 .f32) (harg10 : arg10.IsWhole)
    (arg11 : Memref sig .tc .vmem S2x12x128x128 .f32) (harg11 : arg11.IsWhole)
    (arg12 : Memref sig .tc .vmem S2x128x1664 .fp8e4m3) (harg12 : arg12.IsWhole)
    (arg13 : Memref sig .tc .vmem S13x8x128 .f32) (harg13 : arg13.IsWhole)
    (arg14 : Memref sig .tc .vmem S13x8x128 .f32) (harg14 : arg14.IsWhole)
    (x_arg2 : Vec F S1x512x512 .bf16) (x_arg3 : Vec F S1x268x128x128 .fp8e4m3) (x_arg4 : Vec F S1x268x128x128 .fp8e4m3) (x_arg5 : Vec F S1x268x128 .f32) (x_arg6 : Vec F S1x1x128 .f32) (K : PUnit → sProp 𝕄) :
    iprop(owns (c : Thread nD τ) arg2 fullShare x_arg2 ∗ owns (c : Thread nD τ) arg3 fullShare x_arg3 ∗ owns (c : Thread nD τ) arg4 fullShare x_arg4 ∗ owns (c : Thread nD τ) arg5 fullShare x_arg5 ∗ owns (c : Thread nD τ) arg6 fullShare x_arg6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ f, pt c arg11 f) ∗ (∃ f, pt c arg12 f) ∗ (∃ f, pt c arg13 f) ∗ (∃ f, pt c arg14 f) ∗ (iprop(owns (c : Thread nD τ) arg2 fullShare x_arg2 ∗ owns (c : Thread nD τ) arg3 fullShare x_arg3 ∗ owns (c : Thread nD τ) arg4 fullShare x_arg4 ∗ owns (c : Thread nD τ) arg5 fullShare x_arg5 ∗ owns (c : Thread nD τ) arg6 fullShare x_arg6 ∗ owns (c : Thread nD τ) arg7 fullShare (outs (F := F) c i arg2 harg2 arg3 harg3 arg4 harg4 arg5 harg5 arg6 harg6 arg7 harg7 arg8 harg8 arg9 harg9 arg10 harg10 arg11 harg11 arg12 harg12 arg13 harg13 arg14 harg14 x_arg2 x_arg3 x_arg4 x_arg5 x_arg6).1 ∗ owns (c : Thread nD τ) arg8 fullShare (outs (F := F) c i arg2 harg2 arg3 harg3 arg4 harg4 arg5 harg5 arg6 harg6 arg7 harg7 arg8 harg8 arg9 harg9 arg10 harg10 arg11 harg11 arg12 harg12 arg13 harg13 arg14 harg14 x_arg2 x_arg3 x_arg4 x_arg5 x_arg6).2.1 ∗ owns (c : Thread nD τ) arg9 fullShare (outs (F := F) c i arg2 harg2 arg3 harg3 arg4 harg4 arg5 harg5 arg6 harg6 arg7 harg7 arg8 harg8 arg9 harg9 arg10 harg10 arg11 harg11 arg12 harg12 arg13 harg13 arg14 harg14 x_arg2 x_arg3 x_arg4 x_arg5 x_arg6).2.2.1 ∗ owns (c : Thread nD τ) arg10 fullShare (outs (F := F) c i arg2 harg2 arg3 harg3 arg4 harg4 arg5 harg5 arg6 harg6 arg7 harg7 arg8 harg8 arg9 harg9 arg10 harg10 arg11 harg11 arg12 harg12 arg13 harg13 arg14 harg14 x_arg2 x_arg3 x_arg4 x_arg5 x_arg6).2.2.2 ∗ (∃ f, pt c arg11 f) ∗ (∃ f, pt c arg12 f) ∗ (∃ f, pt c arg13 f) ∗ (∃ f, pt c arg14 f)) -∗ K ⟨⟩))
      ⊢ wp frame (wpE (defs₀ (F := F)) Variants.none (c : Thread nD τ) none) Set.univ (cc0_attend (F := F) i arg2 harg2 arg3 harg3 arg4 harg4 arg5 harg5 arg6 harg6 arg7 harg7 arg8 harg8 arg9 harg9 arg10 harg10 arg11 harg11 arg12 harg12 arg13 harg13 arg14 harg14) K := by
  unfold owns
  rw [harg2.set_eq_univ]; rw [harg3.set_eq_univ]; rw [harg4.set_eq_univ]; rw [harg5.set_eq_univ]; rw [harg6.set_eq_univ]; rw [harg7.set_eq_univ]; rw [harg8.set_eq_univ]; rw [harg9.set_eq_univ]; rw [harg10.set_eq_univ]
  iintro ⟨⟨%f_arg2, %e_arg2, H_arg2⟩, ⟨%f_arg3, %e_arg3, H_arg3⟩, ⟨%f_arg4, %e_arg4, H_arg4⟩, ⟨%f_arg5, %e_arg5, H_arg5⟩, ⟨%f_arg6, %e_arg6, H_arg6⟩, ⟨%d_arg7, %f_arg7, -, H_arg7⟩, ⟨%d_arg8, %f_arg8, -, H_arg8⟩, ⟨%d_arg9, %f_arg9, -, H_arg9⟩, ⟨%d_arg10, %f_arg10, -, H_arg10⟩, ⟨%f_arg11, H_arg11⟩, ⟨%f_arg12, H_arg12⟩, ⟨%f_arg13, H_arg13⟩, ⟨%f_arg14, H_arg14⟩, Hk⟩
  obtain rfl := harg2.eq_unread e_arg2; obtain rfl := harg3.eq_unread e_arg3; obtain rfl := harg4.eq_unread e_arg4; obtain rfl := harg5.eq_unread e_arg5; obtain rfl := harg6.eq_unread e_arg6
  iapply (body_run (F := F) c i arg2 harg2 arg3 harg3 arg4 harg4 arg5 harg5 arg6 harg6 arg7 harg7 arg8 harg8 arg9 harg9 arg10 harg10 arg11 harg11 arg12 harg12 arg13 harg13 arg14 harg14 (harg2.unread x_arg2) (harg3.unread x_arg3) (harg4.unread x_arg4) (harg5.unread x_arg5) (harg6.unread x_arg6) f_arg7 f_arg8 f_arg9 f_arg10 f_arg11 f_arg12 f_arg13 f_arg14 K)
  isplitl [H_arg2]; · iexact H_arg2
  isplitl [H_arg3]; · iexact H_arg3
  isplitl [H_arg4]; · iexact H_arg4
  isplitl [H_arg5]; · iexact H_arg5
  isplitl [H_arg6]; · iexact H_arg6
  isplitl [H_arg7]; · iexact H_arg7
  isplitl [H_arg8]; · iexact H_arg8
  isplitl [H_arg9]; · iexact H_arg9
  isplitl [H_arg10]; · iexact H_arg10
  isplitl [H_arg11]; · iexact H_arg11
  isplitl [H_arg12]; · iexact H_arg12
  isplitl [H_arg13]; · iexact H_arg13
  isplitl [H_arg14]; · iexact H_arg14
  iintro ⟨H_arg2, H_arg3, H_arg4, H_arg5, H_arg6, ⟨%g_arg7, H_arg7, %e_arg7⟩, ⟨%g_arg8, H_arg8, %e_arg8⟩, ⟨%g_arg9, H_arg9, %e_arg9⟩, ⟨%g_arg10, H_arg10, %e_arg10⟩, H_arg11, H_arg12, H_arg13, H_arg14⟩
  subst e_arg7 e_arg8 e_arg9 e_arg10
  iapply Hk
  isplitl [H_arg2]
  · iexists _
    isplitr
    · ipureintro; exact harg2.read_unread _
    iexact H_arg2
  isplitl [H_arg3]
  · iexists _
    isplitr
    · ipureintro; exact harg3.read_unread _
    iexact H_arg3
  isplitl [H_arg4]
  · iexists _
    isplitr
    · ipureintro; exact harg4.read_unread _
    iexact H_arg4
  isplitl [H_arg5]
  · iexists _
    isplitr
    · ipureintro; exact harg5.read_unread _
    iexact H_arg5
  isplitl [H_arg6]
  · iexists _
    isplitr
    · ipureintro; exact harg6.read_unread _
    iexact H_arg6
  isplitl [H_arg7]
  · iexists _
    isplitr
    swap; · iexact H_arg7
    ipureintro
    dsimp only [outs]
    exact View.read_writes_eq_canon _ _ _ (cover_arg7 (F := F) c i arg2 harg2 arg3 harg3 arg4 harg4 arg5 harg5 arg6 harg6 arg7 harg7 arg8 harg8 arg9 harg9 arg10 harg10 arg11 harg11 arg12 harg12 arg13 harg13 arg14 harg14 (harg2.unread x_arg2) (harg3.unread x_arg3) (harg4.unread x_arg4) (harg5.unread x_arg5) (harg6.unread x_arg6))
  isplitl [H_arg8]
  · iexists _
    isplitr
    swap; · iexact H_arg8
    ipureintro
    dsimp only [outs]
    exact View.read_writes_eq_canon _ _ _ (cover_arg8 (F := F) c i arg2 harg2 arg3 harg3 arg4 harg4 arg5 harg5 arg6 harg6 arg7 harg7 arg8 harg8 arg9 harg9 arg10 harg10 arg11 harg11 arg12 harg12 arg13 harg13 arg14 harg14 (harg2.unread x_arg2) (harg3.unread x_arg3) (harg4.unread x_arg4) (harg5.unread x_arg5) (harg6.unread x_arg6))
  isplitl [H_arg9]
  · iexists _
    isplitr
    swap; · iexact H_arg9
    ipureintro
    dsimp only [outs]
    exact View.read_writes_eq_canon _ _ _ (cover_arg9 (F := F) c i arg2 harg2 arg3 harg3 arg4 harg4 arg5 harg5 arg6 harg6 arg7 harg7 arg8 harg8 arg9 harg9 arg10 harg10 arg11 harg11 arg12 harg12 arg13 harg13 arg14 harg14 (harg2.unread x_arg2) (harg3.unread x_arg3) (harg4.unread x_arg4) (harg5.unread x_arg5) (harg6.unread x_arg6))
  isplitl [H_arg10]
  · iexists _
    isplitr
    swap; · iexact H_arg10
    ipureintro
    dsimp only [outs]
    exact View.read_writes_eq_canon _ _ _ (cover_arg10 (F := F) c i arg2 harg2 arg3 harg3 arg4 harg4 arg5 harg5 arg6 harg6 arg7 harg7 arg8 harg8 arg9 harg9 arg10 harg10 arg11 harg11 arg12 harg12 arg13 harg13 arg14 harg14 (harg2.unread x_arg2) (harg3.unread x_arg3) (harg4.unread x_arg4) (harg5.unread x_arg5) (harg6.unread x_arg6))
  isplitl [H_arg11]; · iexact H_arg11
  isplitl [H_arg12]; · iexact H_arg12
  isplitl [H_arg13]; · iexact H_arg13
  iexact H_arg14

/-! ## The pipeline's proof data -/

variable (m : (ℓ : Loc nD τ sig) → Buf (Elt F) ℓ) (ρ : Dev nD → PrngReg)

/-- The four results' blocks the body leaves at grid point `t`. -/
def outsAt (c : Dev nD) (t : Fin cfg0.N) :
    Vec F S1x512x512 .bf16 × Vec F S1x512x512 .fp8e4m3 × Vec F S1x1x32x128 .f32 × Vec F S1x1x4x512 .f32 :=
  outs (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _)
    (iblk m c 0 t) (iblk m c 1 t) (iblk m c 2 t) (iblk m c 3 t) (iblk m c 4 t)

/-- The arrays as the launch finds them; after the body each operand's buffer at its block, each result's at `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t).1
    | ⟨6, _⟩ => (outsAt m c t).2.1
    | ⟨7, _⟩ => (outsAt m c t).2.2.1
    | ⟨8, _⟩ => (outsAt m c t).2.2.2
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt m c t).1 := by dsimp only [dats]
theorem after0_6 (c : Dev nD) (t : Fin cfg0.N) : (dats m 0 c).after 6 t = (outsAt m c t).2.1 := by dsimp only [dats]
theorem after0_7 (c : Dev nD) (t : Fin cfg0.N) : (dats m 0 c).after 7 t = (outsAt m c t).2.2.1 := by dsimp only [dats]
theorem after0_8 (c : Dev nD) (t : Fin cfg0.N) : (dats m 0 c).after 8 t = (outsAt m c t).2.2.2 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

set_option maxHeartbeats 4000000 in
/-- The body obligation: at every grid point the body takes each operand's block to itself and leaves `outsAt`. -/
theorem body_obligation (c : Dev nD) : BodyObligation (dats (F := F) m 0 c) (defs₀ (F := F)) Variants.none () Set.univ := fun t => by
  rw [bigSep_W0, bigSep_W0]
  sl_whnfR [defs₀, Defs.onTc]
  simp only [before0_0, before0_1, before0_2, before0_3, before0_4]
  rw [show (dats m 0 c).Φ t.succ = (dats m 0 c).Φ t.castSucc from rfl,
    show (dats m 0 c).owesAt () t.succ = (dats m 0 c).owesAt () t.castSucc from rfl, after0_0, after0_1, after0_2, after0_3, after0_4, after0_5, after0_6, after0_7, after0_8,
    show (dats m 0 c).Φ t.castSucc = Pipeline.ΦA spec0 c from rfl]
  unfold Pipeline.ΦA
  rw [scopedRest0_eq]
  unfold outsAt
  iintro ⟨⟨⟨⟨%s0, S0⟩, ⟨%s1, S1⟩, ⟨%s2, S2⟩, ⟨%s3, S3⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_triple (F := F) c (grid0.coords t) _ _ _ _ _ _ _ _ _ _ _ _ _ _ _ _ _ _ _ _ _ _ _ _ _ _ (iblk m c 0 t) (iblk m c 1 t) (iblk m c 2 t) (iblk m c 3 t) (iblk m c 4 t))
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [S0]; · iexists _; iexact S0
  isplitl [S1]; · iexists _; iexact S1
  isplitl [S2]; · iexists _; iexact S2
  isplitl [S3]; · iexists _; iexact S3
  iintro ⟨H0, H1, H2, H3, H4, H5, H6, H7, H8, S0, S1, S2, S3⟩
  isplitl [S0 S1 S2 S3 Hr]
  · isplitl [S0 S1 S2 S3]
    · isplitl [S0]; · iexact S0
      isplitl [S1]; · iexact S1
      isplitl [S2]; · iexact S2
      iexact S3
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option backward.isDefEq.respectTransparency.types false in
/-- Every weakly fair execution terminates; at the end every array is what the proof data computes and every semaphore
    counter is zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

end Cert.Proof.Kernel

end
-- ==== Proof.KI.Trip.lean ====
module

public import proofs.«01_k».proof.Proof.Gen.KernelIdeal.Skeleton
public import proofs.«01_k».proof.Proof.Gen.KernelIdeal.Frame
public import proofs.«01_k».proof.Proof.Gen.KernelIdeal.Loops
public import Idealize.ShloMosaic.Lib.Tactic

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The contents of memref `M`'s buffer on core `c`, and that buffer held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The pieces one trip leaves in each of the four results' blocks. -/
abbrev Pcs (F : FTy → Type) : Type :=
  List (View.Piece (Elt F) S1x512x512 .bf16) × List (View.Piece (Elt F) S1x512x512 .fp8e4m3)
    × List (View.Piece (Elt F) S1x1x32x128 .f32) × List (View.Piece (Elt F) S1x1x4x512 .f32)

set_option sl_exec.resultNames true in
noncomputable def trip (c : Dev nD) (i : grid0.Coords)
    (arg2 : Memref sig .tc .vmem S1x512x512 .bf16) (harg2 : arg2.IsWhole)
    (arg3 : Memref sig .tc .vmem S1x268x128x128 .fp8e4m3) (harg3 : arg3.IsWhole)
    (arg4 : Memref sig .tc .vmem S1x268x128x128 .fp8e4m3) (harg4 : arg4.IsWhole)
    (arg5 : Memref sig .tc .vmem S1x268x128 .f32) (harg5 : arg5.IsWhole)
    (arg6 : Memref sig .tc .vmem S1x1x128 .f32) (harg6 : arg6.IsWhole)
    (arg7 : Memref sig .tc .vmem S1x512x512 .bf16) (harg7 : arg7.IsWhole)
    (arg8 : Memref sig .tc .vmem S1x512x512 .fp8e4m3) (harg8 : arg8.IsWhole)
    (arg9 : Memref sig .tc .vmem S1x1x32x128 .f32) (harg9 : arg9.IsWhole)
    (arg10 : Memref sig .tc .vmem S1x1x4x512 .f32) (harg10 : arg10.IsWhole)
    (arg11 : Memref sig .tc .vmem S2x12x128x128 .f32) (harg11 : arg11.IsWhole)
    (arg12 : Memref sig .tc .vmem S2x128x1664 .fp8e4m3) (harg12 : arg12.IsWhole)
    (arg13 : Memref sig .tc .vmem S13x8x128 .f32) (harg13 : arg13.IsWhole)
    (arg14 : Memref sig .tc .vmem S13x8x128 .f32) (harg14 : arg14.IsWhole)
    (arg1 : BitVec 32) (v0 : IVec S8x128 32) (v42 : IVec S8x128 1) (v43 : IVec S1x128 32) (v44 : IVec S128x128 32) (v45 : IVec S128x128 32)
    (f_arg2 : Bf (F := F) c arg2) (f_arg3 : Bf (F := F) c arg3) (f_arg4 : Bf (F := F) c arg4) (f_arg5 : Bf (F := F) c arg5) (f_arg6 : Bf (F := F) c arg6) (k : Fin k0_t1_loop.trips) :
    { W : Pcs F // ∀ (f_arg7 : Bf (F := F) c arg7) (f_arg8 : Bf (F := F) c arg8) (f_arg9 : Bf (F := F) c arg9) (f_arg10 : Bf (F := F) c arg10) (f_arg11 : Bf (F := F) c arg11) (f_arg12 : Bf (F := F) c arg12) (f_arg13 : Bf (F := F) c arg13) (f_arg14 : Bf (F := F) c arg14),
      iprop(pt c arg2 f_arg2 ∗ pt c arg3 f_arg3 ∗ pt c arg4 f_arg4 ∗ pt c arg5 f_arg5 ∗ pt c arg6 f_arg6 ∗ pt c arg7 f_arg7 ∗ pt c arg8 f_arg8 ∗ pt c arg9 f_arg9 ∗ pt c arg10 f_arg10 ∗ pt c arg11 f_arg11 ∗ pt c arg12 f_arg12 ∗ pt c arg13 f_arg13 ∗ pt c arg14 f_arg14)
      ⊢ wp frame (wpE (defs₀ (F := F)) Variants.none (c : Thread nD τ) none) Set.univ
          (k0_t1_body (F := F) i arg2 harg2 arg3 harg3 arg4 harg4 arg5 harg5 arg6 harg6 arg7 harg7 arg8 harg8 arg9 harg9 arg10 harg10 arg11 harg11 arg12 harg12 arg13 harg13 arg14 harg14 arg1 v0 v42 v43 v44 v45 k PUnit.unit)
          (fun _ => iprop(pt c arg2 f_arg2 ∗ pt c arg3 f_arg3 ∗ pt c arg4 f_arg4 ∗ pt c arg5 f_arg5 ∗ pt c arg6 f_arg6 ∗ pt c arg7 (arg7.view.writes (Elt F) f_arg7 W.1) ∗ pt c arg8 (arg8.view.writes (Elt F) f_arg8 W.2.1) ∗ pt c arg9 (arg9.view.writes (Elt F) f_arg9 W.2.2.1) ∗ pt c arg10 (arg10.view.writes (Elt F) f_arg10 W.2.2.2) ∗ (∃ f, pt c arg11 f) ∗ (∃ f, pt c arg12 f) ∗ (∃ f, pt c arg13 f) ∗ (∃ f, pt c arg14 f))) } := by
  refine ⟨⟨?_, ?_, ?_, ?_⟩, fun f_arg7 f_arg8 f_arg9 f_arg10 f_arg11 f_arg12 f_arg13 f_arg14 => ?run⟩
  case run =>
    unfold k0_t1_body
    iintro ⟨H_arg2, H_arg3, H_arg4, H_arg5, H_arg6, H_arg7, H_arg8, H_arg9, H_arg10, H_arg11, H_arg12, H_arg13, H_arg14⟩
    sl_exec_parts!
    sl_step
    sl_close

end Cert.Proof.KernelIdeal

end
-- ==== Proof.KI.Head.lean ====
/- One head of the kernel's attention, as plain functions of the arrays it reads: what it stores in the two scratch buffers of
   scores and of probabilities, and the output it computes. -/
module

public import proofs.«01_k».proof.Proof.KI.Trip

@[expose] public section

noncomputable section

namespace Cert.Proof.KernelIdeal

open Cert.KernelIdeal Cert.KernelIdeal.Gen Idealize.ShloMosaic

variable {F : FTy → Type} [FloatOps F]

/-- The scores of a query block against one key tile: the products of the codes, scaled, plus the correction. -/
def scoreV (q : FVec F S128x128 .fp8e4m3) (K : Vec F S1x1x128x128 .fp8e4m3) (a b : Vec F S1x1x128 .f32) : FVec F S128x128 .f32 :=
  addf (mulf (matmul dot_S128x128_S128x128_S128x128_1_0_0_1_n_n none q (shapeCast S128x128 K shapeCasts_S1x1x128x128_S128x128)
      (constant S128x128 .f32 0x00000000#32))
    (broadcastTo S128x128 (shapeCast S1x128 a shapeCasts_S1x1x128_S1x128) broadcasts_S1x128_S128x128))
    (broadcastTo S128x128 (shapeCast S1x128 b shapeCasts_S1x1x128_S1x128) broadcasts_S1x128_S128x128)

/-- The score tiles a head keeps: tile 0 merges the window's last and first tile along the diagonal. -/
def tileV (cz : IVec S128x128 1) (q : FVec F S128x128 .fp8e4m3) (K : Fin 13 → Vec F S1x1x128x128 .fp8e4m3)
    (a b : Fin 13 → Vec F S1x1x128 .f32) (t : Fin 12) : FVec F S128x128 .f32 :=
  if t = 0 then select cz (scoreV q (K 12) (a 12) (b 12)) (scoreV q (K 0) (a 0) (b 0))
  else scoreV q (K t.castSucc) (a t.castSucc) (b t.castSucc)

/-- The running maximum of the score tiles. -/
def maxV (S : Fin 12 → FVec F S128x128 .f32) : FVec F S128x128 .f32 :=
  [1, 2, 3, 4, 5, 6, 7, 8, 9, 10, 11].foldl (fun m t => maximumf m (S t)) (S 0)

/-- The row maximum, less 8. -/
def shiftV (S : Fin 12 → FVec F S128x128 .f32) : FVec F S128x1 .f32 :=
  subf (shapeCast S128x1 (multiReduction .maximumf [1] S128 (maxV S) 0xFF800000#32 reduces_S128x128_S128 (.inl rfl) rfl)
    shapeCasts_S128_S128x1) (broadcast S128x1 (Scalar.ofBits .f32 0x41000000#32))

/-- The terms of the softmax of one score tile, read back from scratch. -/
def expV (m : FVec F S128x1 .f32) (s : Vec F S1x1x128x128 .f32) : FVec F S128x128 .f32 :=
  exp2 (subf (shapeCast S128x128 s shapeCasts_S1x1x128x128_S128x128) (broadcastTo S128x128 m broadcasts_S128x1_S128x128))

/-- The same clipped to fp8. -/
def clipV (m : FVec F S128x1 .f32) (s : Vec F S1x1x128x128 .f32) : FVec F S128x128 .fp8e4m3 :=
  truncf .fp8e4m3 (minimumf (broadcast S128x128 (Scalar.ofBits .f32 0x43E00000#32))
    (maximumf (broadcast S128x128 (Scalar.ofBits .f32 0xC3E00000#32)) (expV m s))) bitsLt_fp8e4m3_f32

/-- The row sums of the softmax's terms. -/
def sumV (m : FVec F S128x1 .f32) (s : Fin 12 → Vec F S1x1x128x128 .f32) : FVec F S128x1 .f32 :=
  shapeCast S128x1 (multiReduction .add [1] S128
    ([0, 1, 2, 3, 4, 5, 6, 7, 8, 9, 10, 11].foldl (fun l t => addf l (expV m (s t))) (broadcast S128x128 (Scalar.ofBits .f32 0x00000000#32)))
    0x00000000#32 reduces_S128x128_S128 (.inl rfl) rfl) shapeCasts_S128_S128x1

/-- The probability tile stored for tile `t` of the band: the diagonal's two halves for the first and the last. -/
def probV (cz : IVec S128x128 1) (m : FVec F S128x1 .f32) (s : Fin 12 → Vec F S1x1x128x128 .f32) (t : Fin 13) : FVec F S128x128 .fp8e4m3 :=
  if t = 0 then select (xori cz (constantI S128x128 1 1#1)) (clipV m (s 0)) (broadcast S128x128 (Scalar.ofBits .fp8e4m3 0x00#8))
  else if t = 12 then select cz (clipV m (s 0)) (broadcast S128x128 (Scalar.ofBits .fp8e4m3 0x00#8))
  else clipV m (s ⟨t.val % 12, Nat.mod_lt _ (by decide)⟩)

/-- The products of the probability tiles with the value tiles, summed over the band. -/
def accV (p : Fin 13 → Vec F S1x128x128 .fp8e4m3) (V : Fin 13 → Vec F S1x1x128x128 .fp8e4m3) : FVec F S128x128 .f32 :=
  [0, 1, 2, 3, 4, 5, 6, 7, 8, 9, 10, 11, 12].foldl (fun a t => addf a
    (matmul dot_S128x128_S128x128_S128x128_1_1_0_0_n_n none (shapeCast S128x128 (p t) shapeCasts_S1x128x128_S128x128)
      (shapeCast S128x128 (V t) shapeCasts_S1x1x128x128_S128x128) (constant S128x128 .f32 0x00000000#32)))
    (broadcast S128x128 (Scalar.ofBits .f32 0x00000000#32))

/-- A head's output: the sum of products by the value scales, over the row sums. -/
def headV (p : Fin 13 → Vec F S1x128x128 .fp8e4m3) (V : Fin 13 → Vec F S1x1x128x128 .fp8e4m3) (vs : Vec F S1x1x128 .f32)
    (l : FVec F S128x1 .f32) : FVec F S128x128 .f32 :=
  divf (mulf (accV p V) (broadcastTo S128x128 (shapeCast S1x128 vs shapeCasts_S1x1x128_S1x128) broadcasts_S1x128_S128x128))
    (broadcastTo S128x128 l broadcasts_S128x1_S128x128)

/-- Two heads side by side: the block of outputs stored. -/
def pairV (v45 : IVec S128x128 32) (o0 o1 : FVec F S128x128 .f32) : FVec F S1x128x128 .bf16 :=
  shapeCast S1x128x128 (truncf .bf16 (select (cmpi .slt v45 (broadcast S128x128 64#32)) o0 o1) bitsLt_bf16_f32)
    shapeCasts_S128x128_S1x128x128

theorem inb_s (e : Fin 2) (t : Fin 12) : ∀ a, (![e.val, t.val, 0, 0] : Fin 4 → ℕ) a + S1x1x128x128.size a ≤ S2x12x128x128.size a := by
  intro a; fin_cases a <;> simp <;> omega

theorem inb_p (e : Fin 2) (t : Fin 13) : ∀ a, (![e.val, 0, 128 * t.val] : Fin 3 → ℕ) a + S1x128x128.size a ≤ S2x128x1664.size a := by
  intro a; fin_cases a <;> simp <;> omega

theorem inb_a (t : Fin 13) : ∀ a, (![t.val, 0, 0] : Fin 3 → ℕ) a + S1x8x128.size a ≤ S13x8x128.size a := by
  intro a; fin_cases a <;> simp; omega

theorem inb_ar (t : Fin 13) (h : Fin 8) : ∀ a, (![t.val, h.val, 0] : Fin 3 → ℕ) a + S1x1x128.size a ≤ S13x8x128.size a := by
  intro a; fin_cases a <;> simp <;> omega

/-- The places in the scratch buffers: score tile `t` and probability tile `t` of the pair's head `e`; the rows of scales of key tile
    `t`, all heads' and head `h`'s. -/
abbrev rS (e : Fin 2) (t : Fin 12) : Rect S2x12x128x128 := Rect.unit ![e.val, t.val, 0, 0] S1x1x128x128.size (inb_s e t)
abbrev rP (e : Fin 2) (t : Fin 13) : Rect S2x128x1664 := Rect.unit ![e.val, 0, 128 * t.val] S1x128x128.size (inb_p e t)
abbrev rA (t : Fin 13) : Rect S13x8x128 := Rect.unit ![t.val, 0, 0] S1x8x128.size (inb_a t)
abbrev rR (t : Fin 13) (h : Fin 8) : Rect S13x8x128 := Rect.unit ![t.val, h.val, 0] S1x1x128.size (inb_ar t h)

/-- The store of a head's score tile, of a head's probability tile, of a tile's rows of scales (or corrections). -/
def sPiece (e : Fin 2) (S : Fin 12 → FVec F S128x128 .f32) (t : Fin 12) : View.Piece (Elt F) S2x12x128x128 .f32 :=
  ⟨rS e t, shapeCast S1x1x128x128 (S t) shapeCasts_S128x128_S1x1x128x128⟩
def pPiece (e : Fin 2) (P : Fin 13 → FVec F S128x128 .fp8e4m3) (t : Fin 13) : View.Piece (Elt F) S2x128x1664 .fp8e4m3 :=
  ⟨rP e t, shapeCast S1x128x128 (P t) shapeCasts_S128x128_S1x128x128⟩
def aPiece (A : Fin 13 → FVec F S8x128 .f32) (t : Fin 13) : View.Piece (Elt F) S13x8x128 .f32 :=
  ⟨rA t, shapeCast S1x8x128 (A t) shapeCasts_S8x128_S1x8x128⟩

/-- The stores of a head's score tiles, last first; of its probability tiles; of the rows of scales (or corrections). -/
def sPieces (e : Fin 2) (S : Fin 12 → FVec F S128x128 .f32) : List (View.Piece (Elt F) S2x12x128x128 .f32) :=
  [11, 10, 9, 8, 7, 6, 5, 4, 3, 2, 1, 0].map (sPiece e S)
def pPieces (e : Fin 2) (P : Fin 13 → FVec F S128x128 .fp8e4m3) : List (View.Piece (Elt F) S2x128x1664 .fp8e4m3) :=
  [11, 10, 9, 8, 7, 6, 5, 4, 3, 2, 1, 12, 0].map (pPiece e P)
def aPieces (A : Fin 13 → FVec F S8x128 .f32) : List (View.Piece (Elt F) S13x8x128 .f32) :=
  [12, 11, 10, 9, 8, 7, 6, 5, 4, 3, 2, 1, 0].map (aPiece A)

end Cert.Proof.KernelIdeal
-- ==== Proof.KI.Eval.lean ====
/- `Head`'s array functions at one element, over the extended reals. -/
module

public import proofs.«01_k».proof.Proof.KI.Head
public import Idealize.ShloMosaic.Lib.Pointwise

@[expose] public section

noncomputable section

namespace Cert.Proof.KernelIdeal

open Cert.KernelIdeal Cert.KernelIdeal.Gen Idealize.ShloMosaic

theorem scoreV_at (q : FVec Ideal S128x128 .fp8e4m3) (K : Vec Ideal S1x1x128x128 .fp8e4m3) (a b : Vec Ideal S1x1x128 .f32)
    (r j : Fin 128) : scoreV q K a b (ix2 r j) = (∑ x : Fin 128, q (ix2 r x) * K (ix4 0 0 x j)) * a (ix3 0 0 j) + b (ix3 0 0 j) := by
  pointwise [scoreV]

/-- The row's shift is its largest score over the twelve tiles, less 8. -/
theorem shiftV_at (S : Fin 12 → FVec Ideal S128x128 .f32) (r : Fin 128) :
    shiftV S (ix2 r 0) = Finset.univ.fold max (Ideal.ofBits .f32 0xFF800000#32)
      (fun x : Fin 128 => Finset.univ.sup fun t : Fin 12 => S t (ix2 r x)) - Ideal.ofBits .f32 0x41000000#32 := by
  pointwise [shiftV, maxV]
  congr 2
  funext x
  refine le_antisymm ?_ (Finset.sup_le fun t _ => by fin_cases t <;> simp)
  simp only [max_le_iff]
  refine ⟨⟨⟨⟨⟨⟨⟨⟨⟨⟨⟨?_, ?_⟩, ?_⟩, ?_⟩, ?_⟩, ?_⟩, ?_⟩, ?_⟩, ?_⟩, ?_⟩, ?_⟩, ?_⟩ <;>
    exact Finset.le_sup (f := fun t : Fin 12 => S t (ix2 r x)) (Finset.mem_univ _)

theorem expV_at (m : FVec Ideal S128x1 .f32) (s : Vec Ideal S1x1x128x128 .f32) (r j : Fin 128) :
    expV m s (ix2 r j) = Ideal.exp2 (s (ix4 0 0 r j) - m (ix2 r 0)) := by
  pointwise [expV]
  rfl

theorem clipV_at (m : FVec Ideal S128x1 .f32) (s : Vec Ideal S1x1x128x128 .f32) (r j : Fin 128) :
    clipV m s (ix2 r j) = min (Ideal.ofBits .f32 0x43E00000#32)
      (max (Ideal.ofBits .f32 0xC3E00000#32) (Ideal.exp2 (s (ix4 0 0 r j) - m (ix2 r 0)))) := by
  pointwise [clipV, expV_at]

theorem sumV_at (m : FVec Ideal S128x1 .f32) (s : Fin 12 → Vec Ideal S1x1x128x128 .f32) (r : Fin 128) :
    sumV m s (ix2 r 0) = ∑ x : Fin 128, ∑ t : Fin 12, Ideal.exp2 (s t (ix4 0 0 r x) - m (ix2 r 0)) := by
  pointwise [sumV, expV_at]
  refine Finset.sum_congr rfl fun x _ => ?_
  simp only [Fin.sum_univ_castSucc, Finset.univ_eq_empty, Finset.sum_empty, zero_add]
  rfl

theorem accV_at (p : Fin 13 → Vec Ideal S1x128x128 .fp8e4m3) (V : Fin 13 → Vec Ideal S1x1x128x128 .fp8e4m3) (r d : Fin 128) :
    accV p V (ix2 r d) = ∑ t : Fin 13, ∑ x : Fin 128, p t (ix3 0 r x) * V t (ix4 0 0 d x) := by
  pointwise [accV]
  simp only [Fin.sum_univ_castSucc (n := 12), Fin.sum_univ_castSucc (n := 11), Fin.sum_univ_castSucc (n := 10),
    Fin.sum_univ_castSucc (n := 9), Fin.sum_univ_castSucc (n := 8), Fin.sum_univ_castSucc (n := 7), Fin.sum_univ_castSucc (n := 6),
    Fin.sum_univ_castSucc (n := 5), Fin.sum_univ_castSucc (n := 4), Fin.sum_univ_castSucc (n := 3), Fin.sum_univ_castSucc (n := 2),
    Fin.sum_univ_castSucc (n := 1), Fin.sum_univ_castSucc (n := 0), Fin.sum_univ_zero, zero_add]
  rfl

theorem headV_at (p : Fin 13 → Vec Ideal S1x128x128 .fp8e4m3) (V : Fin 13 → Vec Ideal S1x1x128x128 .fp8e4m3) (vs : Vec Ideal S1x1x128 .f32)
    (l : FVec Ideal S128x1 .f32) (r d : Fin 128) :
    headV p V vs l (ix2 r d) = Ideal.div (accV p V (ix2 r d) * vs (ix3 0 0 d)) (l (ix2 r 0)) := by
  pointwise [headV]

/-- Positions below `2^31` compare as words as they do as numbers. -/
theorem slt_small {a b : ℕ} (ha : a < 2 ^ 31) (hb : b < 2 ^ 31) : IntOp.cmpi CmpIPredicate.slt (BitVec.ofNat 32 a) (BitVec.ofNat 32 b)
    = if a < b then 1#1 else 0#1 := by
  have h : (BitVec.ofNat 32 a).slt (BitVec.ofNat 32 b) = decide (a < b) := by
    rw [BitVec.slt_eq_decide, decide_eq_decide, BitVec.toInt_eq_toNat_cond, BitVec.toInt_eq_toNat_cond]
    simp only [BitVec.toNat_ofNat]
    omega
  simp only [IntOp.cmpi, h]
  by_cases c : a < b <;> simp [c]

theorem sle_small {a b : ℕ} (ha : a < 2 ^ 31) (hb : b < 2 ^ 31) : IntOp.cmpi CmpIPredicate.sle (BitVec.ofNat 32 a) (BitVec.ofNat 32 b)
    = if a ≤ b then 1#1 else 0#1 := by
  have h : (BitVec.ofNat 32 a).sle (BitVec.ofNat 32 b) = decide (a ≤ b) := by
    rw [BitVec.sle_eq_decide, decide_eq_decide, BitVec.toInt_eq_toNat_cond, BitVec.toInt_eq_toNat_cond]
    simp only [BitVec.toNat_ofNat]
    omega
  simp only [IntOp.cmpi, h]
  by_cases c : a ≤ b <;> simp [c]

theorem pairV_at (o0 o1 : FVec Ideal S128x128 .f32) (r d : Fin 128) :
    pairV (iota .tc S128x128 32 [1] iota_S128x128_d1_w32) o0 o1 (ix3 0 r d) = if d.val < 64 then o0 (ix2 r d) else o1 (ix2 r d) := by
  pointwise [pairV]
  rw [slt_small (by omega) (by omega)]
  by_cases c : d.val < 64 <;> simp [c, Scalar.select]

theorem causal_at (r j : Fin 128) :
    k0_pay1 (iota .tc S128x128 32 [0] iota_S128x128_d0_w32) (ix2 r j) = if j.val ≤ r.val then 1#1 else 0#1 := by
  pointwise [k0_pay1]
  exact sle_small (by omega) (by omega)

/-- The score tile kept for slot `t`, and the probability tile stored. -/
theorem tileV_at (q : FVec Ideal S128x128 .fp8e4m3) (K : Fin 13 → Vec Ideal S1x1x128x128 .fp8e4m3) (a b : Fin 13 → Vec Ideal S1x1x128 .f32)
    (t : Fin 12) (r j : Fin 128) :
    tileV (k0_pay1 (iota .tc S128x128 32 [0] iota_S128x128_d0_w32)) q K a b t (ix2 r j)
      = if t = 0 then if j.val ≤ r.val then scoreV q (K 12) (a 12) (b 12) (ix2 r j) else scoreV q (K 0) (a 0) (b 0) (ix2 r j)
        else scoreV q (K t.castSucc) (a t.castSucc) (b t.castSucc) (ix2 r j) := by
  unfold tileV
  by_cases h : t = 0
  · rw [if_pos h, if_pos h]
    show Scalar.select (k0_pay1 (iota .tc S128x128 32 [0] iota_S128x128_d0_w32) (ix2 r j)) _ _ = _
    rw [causal_at]
    by_cases c : j.val ≤ r.val <;> simp [c, Scalar.select]
  · rw [if_neg h, if_neg h]

theorem probV_at (m : FVec Ideal S128x1 .f32) (s : Fin 12 → Vec Ideal S1x1x128x128 .f32) (t : Fin 13) (r j : Fin 128) :
    probV (k0_pay1 (iota .tc S128x128 32 [0] iota_S128x128_d0_w32)) m s t (ix2 r j)
      = if t = 0 then if j.val ≤ r.val then 0 else clipV m (s 0) (ix2 r j)
        else if t = 12 then if j.val ≤ r.val then clipV m (s 0) (ix2 r j) else 0
        else clipV m (s ⟨t.val % 12, Nat.mod_lt _ (by decide)⟩) (ix2 r j) := by
  have z : (Ideal.ofBits .fp8e4m3 0x00#8) = 0 := by simp [Ideal.ofBits, Ideal.e4m3fn]
  unfold probV
  by_cases h : t = 0
  · rw [if_pos h, if_pos h]
    show Scalar.select (IntOp.xori (k0_pay1 (iota .tc S128x128 32 [0] iota_S128x128_d0_w32) (ix2 r j)) 1#1) _ (Ideal.ofBits .fp8e4m3 0x00#8) = _
    rw [causal_at, z]
    by_cases c : j.val ≤ r.val <;> simp [c, Scalar.select, IntOp.xori]
  · rw [if_neg h, if_neg h]
    by_cases h' : t = 12
    · rw [if_pos h', if_pos h']
      show Scalar.select (k0_pay1 (iota .tc S128x128 32 [0] iota_S128x128_d0_w32) (ix2 r j)) _ (Ideal.ofBits .fp8e4m3 0x00#8) = _
      rw [causal_at, z]
      by_cases c : j.val ≤ r.val <;> simp [c, Scalar.select]
    · rw [if_neg h', if_neg h']

end Cert.Proof.KernelIdeal
-- ==== Proof.KI.Struct.lean ====
/- What one trip of the kernel's loop over query blocks leaves in scratch and in the results' blocks, as the array functions of
   `Head`: every statement holds by unfolding the printed sequence. -/
module

public import proofs.«01_k».proof.Proof.KI.Head

@[expose] public section

noncomputable section

namespace Cert.Proof.KernelIdeal

open Cert.KernelIdeal Cert.KernelIdeal.Gen Idealize.ShloMosaic Idealize.ShloMosaic.TcCoe

variable {F : FTy → Type} [FloatOps F]

variable (c : Dev nD) (i : grid0.Coords)
    (arg2 : Memref sig .tc .vmem S1x512x512 .bf16) (arg3 : Memref sig .tc .vmem S1x268x128x128 .fp8e4m3)
    (arg4 : Memref sig .tc .vmem S1x268x128x128 .fp8e4m3) (arg5 : Memref sig .tc .vmem S1x268x128 .f32)
    (arg6 : Memref sig .tc .vmem S1x1x128 .f32) (arg7 : Memref sig .tc .vmem S1x512x512 .bf16)
    (arg8 : Memref sig .tc .vmem S1x512x512 .fp8e4m3) (arg9 : Memref sig .tc .vmem S1x1x32x128 .f32)
    (arg10 : Memref sig .tc .vmem S1x1x4x512 .f32) (arg11 : Memref sig .tc .vmem S2x12x128x128 .f32)
    (arg12 : Memref sig .tc .vmem S2x128x1664 .fp8e4m3) (arg13 : Memref sig .tc .vmem S13x8x128 .f32)
    (arg14 : Memref sig .tc .vmem S13x8x128 .f32)
    (arg1 : BitVec 32) (v0 : IVec S8x128 32) (v42 : IVec S8x128 1) (v43 : IVec S1x128 32) (v44 : IVec S128x128 32) (v45 : IVec S128x128 32)
    (f_arg2 : Bf (F := F) c arg2) (f_arg3 : Bf (F := F) c arg3) (f_arg4 : Bf (F := F) c arg4) (f_arg5 : Bf (F := F) c arg5)
    (f_arg6 : Bf (F := F) c arg6) (k : Fin k0_t1_loop.trips)

/-- The block's queries, the key and the value tile `t` of the block's band, the key scales of tile `t`, and the value scales, as loaded. -/
abbrev Xl : Vec F S1x128x512 .bf16 :=
  View.readAt (Elt F) arg2.view (Rect.unit (s := S1x512x512) (k0_off1 k) S1x128x512.size (k0_off1_inb k)).toLoadRect f_arg2
abbrev Kl (t : Fin 13) : Vec F S1x1x128x128 .fp8e4m3 :=
  View.readAt (Elt F) arg3.view (Rect.unit (s := S1x268x128x128) (k0_off4 i k (BitVec.ofNat 32 t.val)) S1x1x128x128.size (k0_off4_inb i k t)).toLoadRect f_arg3
abbrev Vl (t : Fin 13) : Vec F S1x1x128x128 .fp8e4m3 :=
  View.readAt (Elt F) arg4.view (Rect.unit (s := S1x268x128x128) (k0_off4 i k (BitVec.ofNat 32 t.val)) S1x1x128x128.size (k0_off4_inb i k t)).toLoadRect f_arg4
abbrev Sl (t : Fin 13) : Vec F S1x1x128 .f32 :=
  View.readAt (Elt F) arg5.view (Rect.unit (s := S1x268x128) (k0_off5 i k (BitVec.ofNat 32 t.val)) S1x1x128.size (k0_off5_inb i k t)).toLoadRect f_arg5
abbrev Wl : Vec F S1x1x128 .f32 :=
  View.readAt (Elt F) arg6.view (Rect.unit (s := S1x1x128) ![0, 0, 0] S1x1x128.size inb_S1x1x128_S1x1x128_0_0_0).toLoadRect f_arg6

/-- The scale rows kept for tile `t`, and the correction rows. -/
def rowsA (sq : FVec F S8x128 .f32) (S : Fin 13 → Vec F S1x1x128 .f32) (t : Fin 13) : FVec F S8x128 .f32 :=
  mulf sq (broadcastTo S8x128 (shapeCast S1x128 (S t) shapeCasts_S1x1x128_S1x128) broadcasts_S1x128_S8x128)
def rowsB (base : BitVec 32) (mq : FVec F S8x128 .bf16) (K : Fin 13 → Vec F S1x1x128x128 .fp8e4m3) (S : Fin 13 → Vec F S1x1x128 .f32)
    (t : Fin 13) : FVec F S8x128 .f32 :=
  addf (mulf (matmul dot_S8x128_S128x128_S8x128_1_0_0_1_n_n none mq
      (extf .bf16 (shapeCast S128x128 (K t) shapeCasts_S1x1x128x128_S128x128) bitsLt_fp8e4m3_bf16) (constant S8x128 .f32 0x00000000#32))
      (broadcastTo S8x128 (shapeCast S1x128 (S t) shapeCasts_S1x1x128_S1x128) broadcasts_S1x128_S8x128))
    (broadcast S8x128 (Scalar.select (Scalar.cmpi .slt (Scalar.addi base (BitVec.ofNat 32 t.val)) 12#32)
      (Scalar.ofBits .f32 0xFF800000#32) (Scalar.ofBits .f32 0x00000000#32)))

theorem arg13_eq : trip.sl.H_arg13_13 c i arg2 arg5 v0 v42 f_arg2 f_arg5 k = aPieces (rowsA (trip.sl.v286 c arg2 v0 v42 f_arg2 k) (Sl c i arg5 f_arg5 k)) := rfl

theorem arg14_eq : trip.sl.H_arg14_13 c i arg2 arg3 arg5 arg1 v0 v42 f_arg2 f_arg3 f_arg5 k = aPieces (rowsB (trip.sl.v49 arg1 k) (trip.sl.v294 c arg2 v0 v42 f_arg2 k) (Kl c i arg3 f_arg3 k) (Sl c i arg5 f_arg5 k)) := rfl

/-- Head `h`'s row of scales, and of corrections, of tile `t`, as loaded from scratch. -/
def Al (h : Fin 8) (t : Fin 13) : Vec F S1x1x128 .f32 := arg13.view.readCov (trip.sl.H_arg13_13 c i arg2 arg5 v0 v42 f_arg2 f_arg5 k) (rR t h).toLoadRect
def Bl (h : Fin 8) (t : Fin 13) : Vec F S1x1x128 .f32 := arg14.view.readCov (trip.sl.H_arg14_13 c i arg2 arg3 arg5 arg1 v0 v42 f_arg2 f_arg3 f_arg5 k) (rR t h).toLoadRect

/-- Head 0: the score tiles and the probability tiles it stores. -/
theorem s0_eq : trip.sl.H_arg11_12 c i arg2 arg3 arg5 arg13 arg14 arg1 v0 v42 v43 v44 v45 f_arg2 f_arg3 f_arg5 k
    = sPieces 0 (tileV (k0_pay1 v44) (trip.sl.v642 c arg2 v0 v42 v43 v45 f_arg2 k) (Kl c i arg3 f_arg3 k) (Al c i arg2 arg5 arg13 v0 v42 f_arg2 f_arg5 k 0) (Bl c i arg2 arg3 arg5 arg14 arg1 v0 v42 f_arg2 f_arg3 f_arg5 k 0)) ++ [] := rfl

theorem p0_eq : trip.sl.H_arg12_13 c i arg2 arg3 arg5 arg11 arg13 arg14 arg1 v0 v42 v43 v44 v45 f_arg2 f_arg3 f_arg5 k
    = pPieces 0 (probV (k0_pay1 v44) (shiftV (tileV (k0_pay1 v44) (trip.sl.v642 c arg2 v0 v42 v43 v45 f_arg2 k) (Kl c i arg3 f_arg3 k) (Al c i arg2 arg5 arg13 v0 v42 f_arg2 f_arg5 k 0) (Bl c i arg2 arg3 arg5 arg14 arg1 v0 v42 f_arg2 f_arg3 f_arg5 k 0)))
      fun t => arg11.view.readCov (trip.sl.H_arg11_12 c i arg2 arg3 arg5 arg13 arg14 arg1 v0 v42 v43 v44 v45 f_arg2 f_arg3 f_arg5 k) (rS 0 t).toLoadRect) ++ [] := rfl

/-- Head 1: the score tiles and the probability tiles it stores. -/
theorem s1_eq : trip.sl.H_arg11_24 c i arg2 arg3 arg5 arg13 arg14 arg1 v0 v42 v43 v44 v45 f_arg2 f_arg3 f_arg5 k
    = sPieces 1 (tileV (k0_pay1 v44) (trip.sl.v1157 c arg2 v0 v42 v43 v45 f_arg2 k) (Kl c i arg3 f_arg3 k) (Al c i arg2 arg5 arg13 v0 v42 f_arg2 f_arg5 k 1) (Bl c i arg2 arg3 arg5 arg14 arg1 v0 v42 f_arg2 f_arg3 f_arg5 k 1)) ++ trip.sl.H_arg11_12 c i arg2 arg3 arg5 arg13 arg14 arg1 v0 v42 v43 v44 v45 f_arg2 f_arg3 f_arg5 k := rfl

theorem p1_eq : trip.sl.H_arg12_26 c i arg2 arg3 arg5 arg11 arg13 arg14 arg1 v0 v42 v43 v44 v45 f_arg2 f_arg3 f_arg5 k
    = pPieces 1 (probV (k0_pay1 v44) (shiftV (tileV (k0_pay1 v44) (trip.sl.v1157 c arg2 v0 v42 v43 v45 f_arg2 k) (Kl c i arg3 f_arg3 k) (Al c i arg2 arg5 arg13 v0 v42 f_arg2 f_arg5 k 1) (Bl c i arg2 arg3 arg5 arg14 arg1 v0 v42 f_arg2 f_arg3 f_arg5 k 1)))
      fun t => arg11.view.readCov (trip.sl.H_arg11_24 c i arg2 arg3 arg5 arg13 arg14 arg1 v0 v42 v43 v44 v45 f_arg2 f_arg3 f_arg5 k) (rS 1 t).toLoadRect) ++ trip.sl.H_arg12_13 c i arg2 arg3 arg5 arg11 arg13 arg14 arg1 v0 v42 v43 v44 v45 f_arg2 f_arg3 f_arg5 k := rfl

/-- Head 2: the score tiles and the probability tiles it stores. -/
theorem s2_eq : trip.sl.H_arg11_36 c i arg2 arg3 arg5 arg13 arg14 arg1 v0 v42 v43 v44 v45 f_arg2 f_arg3 f_arg5 k
    = sPieces 0 (tileV (k0_pay1 v44) (trip.sl.v1699 c arg2 v0 v42 v43 v45 f_arg2 k) (Kl c i arg3 f_arg3 k) (Al c i arg2 arg5 arg13 v0 v42 f_arg2 f_arg5 k 2) (Bl c i arg2 arg3 arg5 arg14 arg1 v0 v42 f_arg2 f_arg3 f_arg5 k 2)) ++ trip.sl.H_arg11_24 c i arg2 arg3 arg5 arg13 arg14 arg1 v0 v42 v43 v44 v45 f_arg2 f_arg3 f_arg5 k := rfl

theorem p2_eq : trip.sl.H_arg12_39 c i arg2 arg3 arg5 arg11 arg13 arg14 arg1 v0 v42 v43 v44 v45 f_arg2 f_arg3 f_arg5 k
    = pPieces 0 (probV (k0_pay1 v44) (shiftV (tileV (k0_pay1 v44) (trip.sl.v1699 c arg2 v0 v42 v43 v45 f_arg2 k) (Kl c i arg3 f_arg3 k) (Al c i arg2 arg5 arg13 v0 v42 f_arg2 f_arg5 k 2) (Bl c i arg2 arg3 arg5 arg14 arg1 v0 v42 f_arg2 f_arg3 f_arg5 k 2)))
      fun t => arg11.view.readCov (trip.sl.H_arg11_36 c i arg2 arg3 arg5 arg13 arg14 arg1 v0 v42 v43 v44 v45 f_arg2 f_arg3 f_arg5 k) (rS 0 t).toLoadRect) ++ trip.sl.H_arg12_26 c i arg2 arg3 arg5 arg11 arg13 arg14 arg1 v0 v42 v43 v44 v45 f_arg2 f_arg3 f_arg5 k := rfl

/-- Head 3: the score tiles and the probability tiles it stores. -/
theorem s3_eq : trip.sl.H_arg11_48 c i arg2 arg3 arg5 arg13 arg14 arg1 v0 v42 v43 v44 v45 f_arg2 f_arg3 f_arg5 k
    = sPieces 1 (tileV (k0_pay1 v44) (trip.sl.v2214 c arg2 v0 v42 v43 v45 f_arg2 k) (Kl c i arg3 f_arg3 k) (Al c i arg2 arg5 arg13 v0 v42 f_arg2 f_arg5 k 3) (Bl c i arg2 arg3 arg5 arg14 arg1 v0 v42 f_arg2 f_arg3 f_arg5 k 3)) ++ trip.sl.H_arg11_36 c i arg2 arg3 arg5 arg13 arg14 arg1 v0 v42 v43 v44 v45 f_arg2 f_arg3 f_arg5 k := rfl

theorem p3_eq : trip.sl.H_arg12_52 c i arg2 arg3 arg5 arg11 arg13 arg14 arg1 v0 v42 v43 v44 v45 f_arg2 f_arg3 f_arg5 k
    = pPieces 1 (probV (k0_pay1 v44) (shiftV (tileV (k0_pay1 v44) (trip.sl.v2214 c arg2 v0 v42 v43 v45 f_arg2 k) (Kl c i arg3 f_arg3 k) (Al c i arg2 arg5 arg13 v0 v42 f_arg2 f_arg5 k 3) (Bl c i arg2 arg3 arg5 arg14 arg1 v0 v42 f_arg2 f_arg3 f_arg5 k 3)))
      fun t => arg11.view.readCov (trip.sl.H_arg11_48 c i arg2 arg3 arg5 arg13 arg14 arg1 v0 v42 v43 v44 v45 f_arg2 f_arg3 f_arg5 k) (rS 1 t).toLoadRect) ++ trip.sl.H_arg12_39 c i arg2 arg3 arg5 arg11 arg13 arg14 arg1 v0 v42 v43 v44 v45 f_arg2 f_arg3 f_arg5 k := rfl

/-- Head 4: the score tiles and the probability tiles it stores. -/
theorem s4_eq : trip.sl.H_arg11_60 c i arg2 arg3 arg5 arg13 arg14 arg1 v0 v42 v43 v44 v45 f_arg2 f_arg3 f_arg5 k
    = sPieces 0 (tileV (k0_pay1 v44) (trip.sl.v2756 c arg2 v0 v42 v43 v45 f_arg2 k) (Kl c i arg3 f_arg3 k) (Al c i arg2 arg5 arg13 v0 v42 f_arg2 f_arg5 k 4) (Bl c i arg2 arg3 arg5 arg14 arg1 v0 v42 f_arg2 f_arg3 f_arg5 k 4)) ++ trip.sl.H_arg11_48 c i arg2 arg3 arg5 arg13 arg14 arg1 v0 v42 v43 v44 v45 f_arg2 f_arg3 f_arg5 k := rfl

theorem p4_eq : trip.sl.H_arg12_65 c i arg2 arg3 arg5 arg11 arg13 arg14 arg1 v0 v42 v43 v44 v45 f_arg2 f_arg3 f_arg5 k
    = pPieces 0 (probV (k0_pay1 v44) (shiftV (tileV (k0_pay1 v44) (trip.sl.v2756 c arg2 v0 v42 v43 v45 f_arg2 k) (Kl c i arg3 f_arg3 k) (Al c i arg2 arg5 arg13 v0 v42 f_arg2 f_arg5 k 4) (Bl c i arg2 arg3 arg5 arg14 arg1 v0 v42 f_arg2 f_arg3 f_arg5 k 4)))
      fun t => arg11.view.readCov (trip.sl.H_arg11_60 c i arg2 arg3 arg5 arg13 arg14 arg1 v0 v42 v43 v44 v45 f_arg2 f_arg3 f_arg5 k) (rS 0 t).toLoadRect) ++ trip.sl.H_arg12_52 c i arg2 arg3 arg5 arg11 arg13 arg14 arg1 v0 v42 v43 v44 v45 f_arg2 f_arg3 f_arg5 k := rfl

/-- Head 5: the score tiles and the probability tiles it stores. -/
theorem s5_eq : trip.sl.H_arg11_72 c i arg2 arg3 arg5 arg13 arg14 arg1 v0 v42 v43 v44 v45 f_arg2 f_arg3 f_arg5 k
    = sPieces 1 (tileV (k0_pay1 v44) (trip.sl.v3271 c arg2 v0 v42 v43 v45 f_arg2 k) (Kl c i arg3 f_arg3 k) (Al c i arg2 arg5 arg13 v0 v42 f_arg2 f_arg5 k 5) (Bl c i arg2 arg3 arg5 arg14 arg1 v0 v42 f_arg2 f_arg3 f_arg5 k 5)) ++ trip.sl.H_arg11_60 c i arg2 arg3 arg5 arg13 arg14 arg1 v0 v42 v43 v44 v45 f_arg2 f_arg3 f_arg5 k := rfl

theorem p5_eq : trip.sl.H_arg12_78 c i arg2 arg3 arg5 arg11 arg13 arg14 arg1 v0 v42 v43 v44 v45 f_arg2 f_arg3 f_arg5 k
    = pPieces 1 (probV (k0_pay1 v44) (shiftV (tileV (k0_pay1 v44) (trip.sl.v3271 c arg2 v0 v42 v43 v45 f_arg2 k) (Kl c i arg3 f_arg3 k) (Al c i arg2 arg5 arg13 v0 v42 f_arg2 f_arg5 k 5) (Bl c i arg2 arg3 arg5 arg14 arg1 v0 v42 f_arg2 f_arg3 f_arg5 k 5)))
      fun t => arg11.view.readCov (trip.sl.H_arg11_72 c i arg2 arg3 arg5 arg13 arg14 arg1 v0 v42 v43 v44 v45 f_arg2 f_arg3 f_arg5 k) (rS 1 t).toLoadRect) ++ trip.sl.H_arg12_65 c i arg2 arg3 arg5 arg11 arg13 arg14 arg1 v0 v42 v43 v44 v45 f_arg2 f_arg3 f_arg5 k := rfl

/-- Head 6: the score tiles and the probability tiles it stores. -/
theorem s6_eq : trip.sl.H_arg11_84 c i arg2 arg3 arg5 arg13 arg14 arg1 v0 v42 v43 v44 v45 f_arg2 f_arg3 f_arg5 k
    = sPieces 0 (tileV (k0_pay1 v44) (trip.sl.v3813 c arg2 v0 v42 v43 v45 f_arg2 k) (Kl c i arg3 f_arg3 k) (Al c i arg2 arg5 arg13 v0 v42 f_arg2 f_arg5 k 6) (Bl c i arg2 arg3 arg5 arg14 arg1 v0 v42 f_arg2 f_arg3 f_arg5 k 6)) ++ trip.sl.H_arg11_72 c i arg2 arg3 arg5 arg13 arg14 arg1 v0 v42 v43 v44 v45 f_arg2 f_arg3 f_arg5 k := rfl

theorem p6_eq : trip.sl.H_arg12_91 c i arg2 arg3 arg5 arg11 arg13 arg14 arg1 v0 v42 v43 v44 v45 f_arg2 f_arg3 f_arg5 k
    = pPieces 0 (probV (k0_pay1 v44) (shiftV (tileV (k0_pay1 v44) (trip.sl.v3813 c arg2 v0 v42 v43 v45 f_arg2 k) (Kl c i arg3 f_arg3 k) (Al c i arg2 arg5 arg13 v0 v42 f_arg2 f_arg5 k 6) (Bl c i arg2 arg3 arg5 arg14 arg1 v0 v42 f_arg2 f_arg3 f_arg5 k 6)))
      fun t => arg11.view.readCov (trip.sl.H_arg11_84 c i arg2 arg3 arg5 arg13 arg14 arg1 v0 v42 v43 v44 v45 f_arg2 f_arg3 f_arg5 k) (rS 0 t).toLoadRect) ++ trip.sl.H_arg12_78 c i arg2 arg3 arg5 arg11 arg13 arg14 arg1 v0 v42 v43 v44 v45 f_arg2 f_arg3 f_arg5 k := rfl

/-- Head 7: the score tiles and the probability tiles it stores. -/
theorem s7_eq : trip.sl.H_arg11_96 c i arg2 arg3 arg5 arg13 arg14 arg1 v0 v42 v43 v44 v45 f_arg2 f_arg3 f_arg5 k
    = sPieces 1 (tileV (k0_pay1 v44) (trip.sl.v4328 c arg2 v0 v42 v43 v45 f_arg2 k) (Kl c i arg3 f_arg3 k) (Al c i arg2 arg5 arg13 v0 v42 f_arg2 f_arg5 k 7) (Bl c i arg2 arg3 arg5 arg14 arg1 v0 v42 f_arg2 f_arg3 f_arg5 k 7)) ++ trip.sl.H_arg11_84 c i arg2 arg3 arg5 arg13 arg14 arg1 v0 v42 v43 v44 v45 f_arg2 f_arg3 f_arg5 k := rfl

theorem p7_eq : trip.sl.H_arg12_104 c i arg2 arg3 arg5 arg11 arg13 arg14 arg1 v0 v42 v43 v44 v45 f_arg2 f_arg3 f_arg5 k
    = pPieces 1 (probV (k0_pay1 v44) (shiftV (tileV (k0_pay1 v44) (trip.sl.v4328 c arg2 v0 v42 v43 v45 f_arg2 k) (Kl c i arg3 f_arg3 k) (Al c i arg2 arg5 arg13 v0 v42 f_arg2 f_arg5 k 7) (Bl c i arg2 arg3 arg5 arg14 arg1 v0 v42 f_arg2 f_arg3 f_arg5 k 7)))
      fun t => arg11.view.readCov (trip.sl.H_arg11_96 c i arg2 arg3 arg5 arg13 arg14 arg1 v0 v42 v43 v44 v45 f_arg2 f_arg3 f_arg5 k) (rS 1 t).toLoadRect) ++ trip.sl.H_arg12_91 c i arg2 arg3 arg5 arg11 arg13 arg14 arg1 v0 v42 v43 v44 v45 f_arg2 f_arg3 f_arg5 k := rfl

/-- Pair 0: the outputs of heads 0 and 1. -/
theorem o0_eq : k0_pay242 v45 (trip.sl.v1153 c i arg2 arg3 arg4 arg5 arg6 arg11 arg12 arg13 arg14 arg1 v0 v42 v43 v44 v45 f_arg2 f_arg3 f_arg4 f_arg5 f_arg6 k) (trip.sl.v1557 c i arg2 arg3 arg5 arg11 arg13 arg14 arg1 v0 v42 v43 v44 v45 f_arg2 f_arg3 f_arg5 k) (trip.sl.v1646 c i arg2 arg3 arg4 arg5 arg11 arg12 arg13 arg14 arg1 v0 v42 v43 v44 v45 f_arg2 f_arg3 f_arg4 f_arg5 k) (trip.sl.v1648 c i arg2 arg3 arg5 arg11 arg12 arg13 arg14 arg1 v0 v42 v43 v44 v45 f_arg2 f_arg3 f_arg5 k) (View.readAt (Elt F) arg4.view (Rect.unit (s := S1x268x128x128) (k0_off4 i k 11#32) S1x1x128x128.size (k0_off4_inb i k 11)).toLoadRect f_arg4) (trip.sl.v1655 c i arg2 arg3 arg5 arg11 arg12 arg13 arg14 arg1 v0 v42 v43 v44 v45 f_arg2 f_arg3 f_arg5 k) (View.readAt (Elt F) arg4.view (Rect.unit (s := S1x268x128x128) (k0_off4 i k 12#32) S1x1x128x128.size (k0_off4_inb i k 12)).toLoadRect f_arg4) (View.readAt (Elt F) arg6.view (Rect.unit ![0, 0, 0] S1x1x128.size inb_S1x1x128_S1x1x128_0_0_0).toLoadRect f_arg6)
    = pairV v45 (headV (fun t => arg12.view.readCov (trip.sl.H_arg12_13 c i arg2 arg3 arg5 arg11 arg13 arg14 arg1 v0 v42 v43 v44 v45 f_arg2 f_arg3 f_arg5 k) (rP 0 t).toLoadRect) (Vl c i arg4 f_arg4 k) (Wl c arg6 f_arg6)
        (sumV (shiftV (tileV (k0_pay1 v44) (trip.sl.v642 c arg2 v0 v42 v43 v45 f_arg2 k) (Kl c i arg3 f_arg3 k) (Al c i arg2 arg5 arg13 v0 v42 f_arg2 f_arg5 k 0) (Bl c i arg2 arg3 arg5 arg14 arg1 v0 v42 f_arg2 f_arg3 f_arg5 k 0))) fun t => arg11.view.readCov (trip.sl.H_arg11_12 c i arg2 arg3 arg5 arg13 arg14 arg1 v0 v42 v43 v44 v45 f_arg2 f_arg3 f_arg5 k) (rS 0 t).toLoadRect)) (headV (fun t => arg12.view.readCov (trip.sl.H_arg12_26 c i arg2 arg3 arg5 arg11 arg13 arg14 arg1 v0 v42 v43 v44 v45 f_arg2 f_arg3 f_arg5 k) (rP 1 t).toLoadRect) (Vl c i arg4 f_arg4 k) (Wl c arg6 f_arg6)
        (sumV (shiftV (tileV (k0_pay1 v44) (trip.sl.v1157 c arg2 v0 v42 v43 v45 f_arg2 k) (Kl c i arg3 f_arg3 k) (Al c i arg2 arg5 arg13 v0 v42 f_arg2 f_arg5 k 1) (Bl c i arg2 arg3 arg5 arg14 arg1 v0 v42 f_arg2 f_arg3 f_arg5 k 1))) fun t => arg11.view.readCov (trip.sl.H_arg11_24 c i arg2 arg3 arg5 arg13 arg14 arg1 v0 v42 v43 v44 v45 f_arg2 f_arg3 f_arg5 k) (rS 1 t).toLoadRect)) := rfl

/-- Pair 1: the outputs of heads 2 and 3. -/
theorem o1_eq : k0_pay402 v45 (trip.sl.v2210 c i arg2 arg3 arg4 arg5 arg6 arg11 arg12 arg13 arg14 arg1 v0 v42 v43 v44 v45 f_arg2 f_arg3 f_arg4 f_arg5 f_arg6 k) (trip.sl.v2614 c i arg2 arg3 arg5 arg11 arg13 arg14 arg1 v0 v42 v43 v44 v45 f_arg2 f_arg3 f_arg5 k) (trip.sl.v2719 c i arg2 arg3 arg4 arg5 arg11 arg12 arg13 arg14 arg1 v0 v42 v43 v44 v45 f_arg2 f_arg3 f_arg4 f_arg5 k) (trip.sl.v2720 c arg6 f_arg6)
    = pairV v45 (headV (fun t => arg12.view.readCov (trip.sl.H_arg12_39 c i arg2 arg3 arg5 arg11 arg13 arg14 arg1 v0 v42 v43 v44 v45 f_arg2 f_arg3 f_arg5 k) (rP 0 t).toLoadRect) (Vl c i arg4 f_arg4 k) (Wl c arg6 f_arg6)
        (sumV (shiftV (tileV (k0_pay1 v44) (trip.sl.v1699 c arg2 v0 v42 v43 v45 f_arg2 k) (Kl c i arg3 f_arg3 k) (Al c i arg2 arg5 arg13 v0 v42 f_arg2 f_arg5 k 2) (Bl c i arg2 arg3 arg5 arg14 arg1 v0 v42 f_arg2 f_arg3 f_arg5 k 2))) fun t => arg11.view.readCov (trip.sl.H_arg11_36 c i arg2 arg3 arg5 arg13 arg14 arg1 v0 v42 v43 v44 v45 f_arg2 f_arg3 f_arg5 k) (rS 0 t).toLoadRect)) (headV (fun t => arg12.view.readCov (trip.sl.H_arg12_52 c i arg2 arg3 arg5 arg11 arg13 arg14 arg1 v0 v42 v43 v44 v45 f_arg2 f_arg3 f_arg5 k) (rP 1 t).toLoadRect) (Vl c i arg4 f_arg4 k) (Wl c arg6 f_arg6)
        (sumV (shiftV (tileV (k0_pay1 v44) (trip.sl.v2214 c arg2 v0 v42 v43 v45 f_arg2 k) (Kl c i arg3 f_arg3 k) (Al c i arg2 arg5 arg13 v0 v42 f_arg2 f_arg5 k 3) (Bl c i arg2 arg3 arg5 arg14 arg1 v0 v42 f_arg2 f_arg3 f_arg5 k 3))) fun t => arg11.view.readCov (trip.sl.H_arg11_48 c i arg2 arg3 arg5 arg13 arg14 arg1 v0 v42 v43 v44 v45 f_arg2 f_arg3 f_arg5 k) (rS 1 t).toLoadRect)) := rfl

/-- Pair 2: the outputs of heads 4 and 5. -/
theorem o2_eq : k0_pay558 v45 (trip.sl.v3267 c i arg2 arg3 arg4 arg5 arg6 arg11 arg12 arg13 arg14 arg1 v0 v42 v43 v44 v45 f_arg2 f_arg3 f_arg4 f_arg5 f_arg6 k) (trip.sl.v3671 c i arg2 arg3 arg5 arg11 arg13 arg14 arg1 v0 v42 v43 v44 v45 f_arg2 f_arg3 f_arg5 k) (trip.sl.v3760 c i arg2 arg3 arg4 arg5 arg11 arg12 arg13 arg14 arg1 v0 v42 v43 v44 v45 f_arg2 f_arg3 f_arg4 f_arg5 k) (trip.sl.v3761 c i arg2 arg3 arg5 arg11 arg12 arg13 arg14 arg1 v0 v42 v43 v44 v45 f_arg2 f_arg3 f_arg5 k) (View.readAt (Elt F) arg4.view (Rect.unit (s := S1x268x128x128) (k0_off4 i k 11#32) S1x1x128x128.size (k0_off4_inb i k 11)).toLoadRect f_arg4) (trip.sl.v3769 c i arg2 arg3 arg5 arg11 arg12 arg13 arg14 arg1 v0 v42 v43 v44 v45 f_arg2 f_arg3 f_arg5 k) (View.readAt (Elt F) arg4.view (Rect.unit (s := S1x268x128x128) (k0_off4 i k 12#32) S1x1x128x128.size (k0_off4_inb i k 12)).toLoadRect f_arg4) (View.readAt (Elt F) arg6.view (Rect.unit ![0, 0, 0] S1x1x128.size inb_S1x1x128_S1x1x128_0_0_0).toLoadRect f_arg6)
    = pairV v45 (headV (fun t => arg12.view.readCov (trip.sl.H_arg12_65 c i arg2 arg3 arg5 arg11 arg13 arg14 arg1 v0 v42 v43 v44 v45 f_arg2 f_arg3 f_arg5 k) (rP 0 t).toLoadRect) (Vl c i arg4 f_arg4 k) (Wl c arg6 f_arg6)
        (sumV (shiftV (tileV (k0_pay1 v44) (trip.sl.v2756 c arg2 v0 v42 v43 v45 f_arg2 k) (Kl c i arg3 f_arg3 k) (Al c i arg2 arg5 arg13 v0 v42 f_arg2 f_arg5 k 4) (Bl c i arg2 arg3 arg5 arg14 arg1 v0 v42 f_arg2 f_arg3 f_arg5 k 4))) fun t => arg11.view.readCov (trip.sl.H_arg11_60 c i arg2 arg3 arg5 arg13 arg14 arg1 v0 v42 v43 v44 v45 f_arg2 f_arg3 f_arg5 k) (rS 0 t).toLoadRect)) (headV (fun t => arg12.view.readCov (trip.sl.H_arg12_78 c i arg2 arg3 arg5 arg11 arg13 arg14 arg1 v0 v42 v43 v44 v45 f_arg2 f_arg3 f_arg5 k) (rP 1 t).toLoadRect) (Vl c i arg4 f_arg4 k) (Wl c arg6 f_arg6)
        (sumV (shiftV (tileV (k0_pay1 v44) (trip.sl.v3271 c arg2 v0 v42 v43 v45 f_arg2 k) (Kl c i arg3 f_arg3 k) (Al c i arg2 arg5 arg13 v0 v42 f_arg2 f_arg5 k 5) (Bl c i arg2 arg3 arg5 arg14 arg1 v0 v42 f_arg2 f_arg3 f_arg5 k 5))) fun t => arg11.view.readCov (trip.sl.H_arg11_72 c i arg2 arg3 arg5 arg13 arg14 arg1 v0 v42 v43 v44 v45 f_arg2 f_arg3 f_arg5 k) (rS 1 t).toLoadRect)) := rfl

/-- Pair 3: the outputs of heads 6 and 7. -/
theorem o3_eq : k0_pay2 (trip.sl.v4324 c i arg2 arg3 arg4 arg5 arg6 arg11 arg12 arg13 arg14 arg1 v0 v42 v43 v44 v45 f_arg2 f_arg3 f_arg4 f_arg5 f_arg6 k) (trip.sl.v4728 c i arg2 arg3 arg5 arg11 arg13 arg14 arg1 v0 v42 v43 v44 v45 f_arg2 f_arg3 f_arg5 k) (trip.sl.v4825 c i arg2 arg3 arg4 arg5 arg11 arg12 arg13 arg14 arg1 v0 v42 v43 v44 v45 f_arg2 f_arg3 f_arg4 f_arg5 k) (trip.sl.v4827 c i arg2 arg3 arg5 arg11 arg12 arg13 arg14 arg1 v0 v42 v43 v44 v45 f_arg2 f_arg3 f_arg5 k) (View.readAt (Elt F) arg4.view (Rect.unit (s := S1x268x128x128) (k0_off4 i k 12#32) S1x1x128x128.size (k0_off4_inb i k 12)).toLoadRect f_arg4) (View.readAt (Elt F) arg6.view (Rect.unit ![0, 0, 0] S1x1x128.size inb_S1x1x128_S1x1x128_0_0_0).toLoadRect f_arg6)
    = pairV (iota .tc S128x128 32 [1] iota_S128x128_d1_w32) (headV (fun t => arg12.view.readCov (trip.sl.H_arg12_91 c i arg2 arg3 arg5 arg11 arg13 arg14 arg1 v0 v42 v43 v44 v45 f_arg2 f_arg3 f_arg5 k) (rP 0 t).toLoadRect) (Vl c i arg4 f_arg4 k) (Wl c arg6 f_arg6)
        (sumV (shiftV (tileV (k0_pay1 v44) (trip.sl.v3813 c arg2 v0 v42 v43 v45 f_arg2 k) (Kl c i arg3 f_arg3 k) (Al c i arg2 arg5 arg13 v0 v42 f_arg2 f_arg5 k 6) (Bl c i arg2 arg3 arg5 arg14 arg1 v0 v42 f_arg2 f_arg3 f_arg5 k 6))) fun t => arg11.view.readCov (trip.sl.H_arg11_84 c i arg2 arg3 arg5 arg13 arg14 arg1 v0 v42 v43 v44 v45 f_arg2 f_arg3 f_arg5 k) (rS 0 t).toLoadRect)) (headV (fun t => arg12.view.readCov (trip.sl.H_arg12_104 c i arg2 arg3 arg5 arg11 arg13 arg14 arg1 v0 v42 v43 v44 v45 f_arg2 f_arg3 f_arg5 k) (rP 1 t).toLoadRect) (Vl c i arg4 f_arg4 k) (Wl c arg6 f_arg6)
        (sumV (shiftV (tileV (k0_pay1 v44) (trip.sl.v4328 c arg2 v0 v42 v43 v45 f_arg2 k) (Kl c i arg3 f_arg3 k) (Al c i arg2 arg5 arg13 v0 v42 f_arg2 f_arg5 k 7) (Bl c i arg2 arg3 arg5 arg14 arg1 v0 v42 f_arg2 f_arg3 f_arg5 k 7))) fun t => arg11.view.readCov (trip.sl.H_arg11_96 c i arg2 arg3 arg5 arg13 arg14 arg1 v0 v42 v43 v44 v45 f_arg2 f_arg3 f_arg5 k) (rS 1 t).toLoadRect)) := rfl

end Cert.Proof.KernelIdeal
-- ==== Proof.Spec.lean ====
/- The mathematics of the claim, element by element over the extended reals: the quantiser of one block of 128 positions of one
   query head, and windowed attention of one query row over the codes and scales of the keys and values. -/
module

public import Idealize.ShloMosaic.Lib.Pointwise

@[expose] public section

noncomputable section

namespace Cert.Proof.Spec

open Idealize.ShloMosaic

/-- The extended real that an f32 pattern denotes. -/
abbrev cst (w : BitVec 32) : EReal := Ideal.ofBits .f32 w

/-- The queries, the key (and value) codes by tile, the key scales by tile, the value scales. -/
abbrev XArr := (⟨3, ![2, 32768, 512]⟩ : Shape).Idx → EReal
abbrev KArr := (⟨4, ![2, 268, 128, 128]⟩ : Shape).Idx → EReal
abbrev SArr := (⟨3, ![2, 268, 128]⟩ : Shape).Idx → EReal
abbrev VArr := (⟨3, ![2, 1, 128]⟩ : Shape).Idx → EReal

/-- Block `n` of 128 positions of query head `h` in batch `b`. -/
def blk (x : XArr) (b : Fin 2) (n : Fin 256) (h : Fin 8) : Fin 128 → Fin 64 → EReal :=
  fun r d => x (ix3 b ⟨n.val * 128 + r.val, by omega⟩ ⟨h.val * 64 + d.val, by omega⟩)

/-- The block's mean over its positions. -/
def mean (Q : Fin 128 → Fin 64 → EReal) (d : Fin 64) : EReal := (∑ r, Q r d) * cst 0x3C000000#32

/-- The largest magnitude left after the mean is subtracted. -/
def amax (Q : Fin 128 → Fin 64 → EReal) : EReal :=
  Finset.univ.fold max (cst 0xFF800000#32) fun r : Fin 128 =>
    Finset.univ.fold max (cst 0xFF800000#32) fun d : Fin 64 => FloatOps.absf (F := Ideal) (φ := .f32) (Q r d - mean Q d)

/-- The power of two `2^(k-126)` as an extended real. -/
def pow2 (k : Fin 254) : EReal := Ideal.exp2 (((IntOp.subi (BitVec.ofNat 32 k.val) 126#32).toInt : ℝ) : EReal)

/-- The block's scale: the least power of two from `2^-126` on that lies strictly above `a / 448`, and 1 for `a = 0`. -/
def scale (a : EReal) : EReal :=
  if a = 0 then 1 else
    Finset.univ.fold min (cst 0x7F800000#32) fun k : Fin 254 =>
      if a * cst 0x3B124925#32 < pow2 k then pow2 k else cst 0x7F800000#32

/-- A query code: the centred value over the scale, clipped at ±448. -/
def code (Q : Fin 128 → Fin 64 → EReal) (r : Fin 128) (d : Fin 64) : EReal :=
  min (cst 0x43E00000#32) (max (cst 0xC3E00000#32) ((Q r d - mean Q d) * Ideal.div 1 (scale (amax Q))))

/-- The code of key (or value) position `s` in dimension `d` as query head `h` reads it: copy `h % 2`, tile `12 + s / 128`. -/
def kcode (kt : KArr) (b : Fin 2) (h : Fin 8) (d : Fin 64) (s : Fin 32768) : EReal :=
  kt (ix4 b ⟨12 + s.val / 128, by omega⟩ ⟨h.val % 2 * 64 + d.val, by omega⟩ ⟨s.val % 128, by omega⟩)

/-- The key scale of position `s`. -/
def kscale (skl : SArr) (b : Fin 2) (s : Fin 32768) : EReal :=
  skl (ix3 b ⟨12 + s.val / 128, by omega⟩ ⟨s.val % 128, by omega⟩)

/-- The value scale of dimension `d` as head `h` reads it. -/
def vscale (vs : VArr) (b : Fin 2) (h : Fin 8) (d : Fin 64) : EReal :=
  vs (ix3 b 0 ⟨h.val % 2 * 64 + d.val, by omega⟩)

/-- The score of query row `r` of a block against key position `k`, masked to the last 1536 positions. -/
def score (Q : Fin 128 → Fin 64 → EReal) (K : Fin 64 → Fin 32768 → EReal) (sk : Fin 32768 → EReal) (n : Fin 256) (r : Fin 128)
    (k : Fin 32768) : EReal :=
  if k.val ≤ n.val * 128 + r.val ∧ n.val * 128 + r.val < k.val + 1536 then
    sk k * (scale (amax Q) * ∑ d, code Q r d * K d k + ∑ d, mean Q d * K d k)
  else ⊥

/-- The base-2 softmax's terms of a row of scores, against its maximum. -/
def prob (S : Fin 32768 → EReal) (k : Fin 32768) : EReal :=
  Ideal.exp2 (S k - Finset.univ.fold max (cst 0xFF800000#32) S)

/-- A row's output: the fp8-scaled probabilities against the value codes, over the sum of the probabilities. -/
def attend (S : Fin 32768 → EReal) (V : Fin 32768 → EReal) (vs : EReal) : EReal :=
  Ideal.div ((∑ k, min (cst 0x43E00000#32) (max (cst 0xC3E00000#32) (prob S k * cst 0x43800000#32)) * V k)
    * (cst 0x3B800000#32 * vs)) (∑ k, prob S k)

/-- The attention output at batch `b`, block `n`, row `r`, head `h`, dimension `d`. -/
def outAt (x : XArr) (kt vt : KArr) (skl : SArr) (vs : VArr) (b : Fin 2) (n : Fin 256) (r : Fin 128) (h : Fin 8) (d : Fin 64) : EReal :=
  attend (score (blk x b n h) (kcode kt b h) (kscale skl b) n r) (kcode vt b h d) (vscale vs b h d)

end Cert.Proof.Spec
-- ==== Proof.Ladder.lean ====
/- The search for a power of two over the exponent fields of binary32: the field found by eight halving steps gives the least power
   of two above the argument, which is the scale of the mathematics, and its mirror image gives the reciprocal. -/
module

public import proofs.«01_k».proof.Proof.Spec

@[expose] public section

noncomputable section

namespace Cert.Proof.Ladder

open Idealize.ShloMosaic Cert.Proof.Spec

/-- The number whose exponent field is `n` and whose other bits are zero. -/
def pw (n : ℕ) : EReal := if n = 0 then 0 else if n < 255 then (((2 : ℝ) ^ ((n : ℤ) - 127) : ℝ) : EReal) else ⊤

theorem fields : ∀ n : Fin 256, ((BitVec.ofNat 32 n.val <<< 23).extractLsb' (8 + 23) 1 = 0#1) ∧
    ((BitVec.ofNat 32 n.val <<< 23).extractLsb' 23 8).toNat = n.val ∧ ((BitVec.ofNat 32 n.val <<< 23).extractLsb' 0 23).toNat = 0 := by
  decide +kernel

theorem ieee_mk {e m w : ℕ} {b : BitVec w} {n E : ℕ} {B : ℤ} (h1 : b.extractLsb' (e + m) 1 = 0#1) (h2 : (b.extractLsb' m e).toNat = n)
    (h3 : (b.extractLsb' 0 m).toNat = 0) (hE : 2 ^ e - 1 = E) (hB : (2 : ℤ) ^ (e - 1) - 1 = B) :
    Ideal.ieee e m b = if n = E then ⊤ else if n = 0 then 0 else (((2 : ℝ) ^ ((n : ℤ) - B) : ℝ) : EReal) := by
  have z : (2 : ℝ) ^ ((n : ℤ) - B) = (2 : ℝ) ^ m * (2 : ℝ) ^ ((n : ℤ) - B - m) := by
    rw [← zpow_natCast, ← zpow_add₀ (by norm_num)]
    congr 1
    ring
  unfold Ideal.ieee
  rw [h1, h2, h3, hE, hB, z]
  simp

theorem bits_pw {n : ℕ} (h : n < 256) : Ideal.ofBits .f32 (BitVec.ofNat 32 n <<< 23) = pw n := by
  obtain ⟨h1, h2, h3⟩ := fields ⟨n, h⟩
  have k := ieee_mk (e := 8) (m := 23) (n := n) (E := 255) (B := 127) h1 h2 h3 (by norm_num) (by norm_num)
  refine Eq.trans ?_ (k.trans ?_)
  · rfl
  · unfold pw
    by_cases h0 : n = 0
    · rw [if_neg (by omega), if_pos h0, if_pos h0]
    · rw [if_neg h0, if_neg h0]
      by_cases h' : n < 255
      · rw [if_neg (by omega), if_pos h']
      · rw [if_pos (by omega), if_neg h']

theorem shl {n : ℕ} : IntOp.shli ArithUnit.vector (BitVec.ofNat 32 n) 23#32 = BitVec.ofNat 32 n <<< 23 := by
  unfold IntOp.shli
  rw [if_pos (by decide)]
  rfl

/-- One halving step: take the larger field when its number does not exceed `t`. -/
def lstep (t : EReal) (f k : BitVec 32) : BitVec 32 :=
  Scalar.select (BitVec.ofBool (decide (Ideal.ofBits .f32 (IntOp.shli ArithUnit.vector (IntOp.addi f k) 23#32) ≤ t))) (IntOp.addi f k) f

/-- The field that the eight steps find. -/
def field (t : EReal) : BitVec 32 :=
  lstep t (lstep t (lstep t (lstep t (lstep t (lstep t (lstep t (lstep t 0#32 128#32) 64#32) 32#32) 16#32) 8#32) 4#32) 2#32) 1#32

theorem lstep_spec {t : EReal} {f : BitVec 32} {m : ℕ} (k : ℕ) (hf : f = BitVec.ofNat 32 m) (hm : m + 2 * k ≤ 256) (hk : 0 < k)
    (h0 : pw m ≤ t) (h1 : t < pw (m + 2 * k)) :
    ∃ m', lstep t f (BitVec.ofNat 32 k) = BitVec.ofNat 32 m' ∧ m' + k ≤ 256 ∧ pw m' ≤ t ∧ t < pw (m' + k) := by
  subst hf
  have ha : IntOp.addi (BitVec.ofNat 32 m) (BitVec.ofNat 32 k) = BitVec.ofNat 32 (m + k) := by
    simp [IntOp.addi, BitVec.ofNat_add]
  unfold lstep
  rw [ha, shl, bits_pw (by omega)]
  by_cases c : pw (m + k) ≤ t
  · refine ⟨m + k, ?_, by omega, c, ?_⟩
    · simp [c, Scalar.select]
    · rwa [show m + k + k = m + 2 * k by omega]
  · refine ⟨m, ?_, by omega, h0, lt_of_not_ge c⟩
    simp [c, Scalar.select]

theorem field_spec {t : EReal} (h0 : 0 ≤ t) (h1 : t < ⊤) : ∃ n, field t = BitVec.ofNat 32 n ∧ n + 1 ≤ 256 ∧ pw n ≤ t ∧ t < pw (n + 1) := by
  have top : pw (0 + 2 * 128) = ⊤ := by simp [pw]
  obtain ⟨a, ea, la, ha, ua⟩ := lstep_spec (t := t) (f := 0#32) (m := 0) 128 rfl (by omega) (by omega) (by simpa [pw] using h0) (top ▸ h1)
  obtain ⟨b, eb, lb, hb, ub⟩ := lstep_spec 64 ea (by omega) (by omega) ha ua
  obtain ⟨c, ec, lc, hc, uc⟩ := lstep_spec 32 eb (by omega) (by omega) hb ub
  obtain ⟨d, ed, ld, hd, ud⟩ := lstep_spec 16 ec (by omega) (by omega) hc uc
  obtain ⟨e, ee, le, he, ue⟩ := lstep_spec 8 ed (by omega) (by omega) hd ud
  obtain ⟨f, ef, lf, hf, uf⟩ := lstep_spec 4 ee (by omega) (by omega) he ue
  obtain ⟨g, eg, lg, hg, ug⟩ := lstep_spec 2 ef (by omega) (by omega) hf uf
  obtain ⟨n, en, ln, hn, un⟩ := lstep_spec 1 eg (by omega) (by omega) hg ug
  exact ⟨n, en, ln, hn, un⟩

theorem pw_mono {a b : ℕ} (h : a ≤ b) : pw a ≤ pw b := by
  unfold pw
  by_cases hb : b < 255
  · by_cases h0 : a = 0
    · rw [if_pos h0]
      split_ifs
      · rfl
      · exact_mod_cast (by positivity : (0 : ℝ) ≤ 2 ^ ((b : ℤ) - 127))
    · have hb0 : ¬b = 0 := by omega
      have ha : a < 255 := by omega
      rw [if_neg h0, if_neg hb0, if_pos ha, if_pos hb]
      exact_mod_cast zpow_le_zpow_right₀ (by norm_num : (1 : ℝ) ≤ 2) (by omega : (a : ℤ) - 127 ≤ (b : ℤ) - 127)
  · rw [if_neg (by omega : ¬ b = 0), if_neg hb]
    exact le_top

theorem pow2_pw (k : Fin 254) : pow2 k = pw (k.val + 1) := by
  have h : ∀ k : Fin 254, (IntOp.subi (BitVec.ofNat 32 k.val) 126#32).toInt = (k.val : ℤ) - 126 := by decide +kernel
  unfold pow2 pw
  rw [h, if_neg (by omega), if_pos (by omega), Ideal.exp2_coe, show ((k.val + 1 : ℕ) : ℤ) - 127 = (k.val : ℤ) - 126 by push_cast; ring]
  show ((Real.rpow 2 _ : ℝ) : EReal) = _
  rw [EReal.coe_eq_coe_iff]
  exact Real.rpow_intCast 2 _

/-- The up-word of the kernel: one above the field found, or the word of `1` for a zero magnitude. -/
def up (a : EReal) : BitVec 32 :=
  Scalar.select (BitVec.ofBool (decide (a = Ideal.ofBits .f32 0#32))) 1065353216#32
    (IntOp.addi (IntOp.shli ArithUnit.vector (field (a * cst 0x3B124925#32)) 23#32) 8388608#32)

theorem pw_lt_121 {n : ℕ} (h : pw n < (((2 : ℝ) ^ (121 : ℤ) : ℝ) : EReal)) : n < 248 := by
  by_contra c
  have h1 := pw_mono (show 248 ≤ n by omega)
  have h2 : pw 248 = (((2 : ℝ) ^ (121 : ℤ) : ℝ) : EReal) := by simp [pw]
  rw [h2] at h1
  exact absurd h (not_lt.2 h1)

theorem zero_bits : Ideal.ofBits .f32 0#32 = 0 := by simp [Ideal.ofBits, Ideal.ieee]

theorem top_bits : cst 0x7F800000#32 = ⊤ := by simp [cst, Ideal.ofBits, Ideal.ieee]

theorem scale_pw {a : EReal} {n : ℕ} (ha : a ≠ 0) (hn : n < 248) (h0 : pw n ≤ a * cst 0x3B124925#32) (h1 : a * cst 0x3B124925#32 < pw (n + 1)) :
    scale a = pw (n + 1) := by
  unfold scale
  rw [if_neg ha, top_bits]
  apply le_antisymm
  · refine (Finset.fold_min_le _).2 (Or.inr ⟨⟨n, by omega⟩, Finset.mem_univ _, ?_⟩)
    rw [pow2_pw, if_pos h1]
  · refine Finset.le_fold_min _ |>.2 ⟨le_top, fun k _ => ?_⟩
    rw [pow2_pw]
    split_ifs with c
    · apply pw_mono
      by_contra d
      exact absurd (lt_of_le_of_lt h0 c) (not_lt.2 (pw_mono (by omega)))
    · exact le_top

theorem pw_inv {n : ℕ} (h : n < 248) : pw (253 - n) = Ideal.div 1 (pw (n + 1)) := by
  unfold pw
  rw [if_neg (by omega), if_pos (by omega), if_neg (by omega), if_pos (by omega)]
  unfold Ideal.div
  rw [if_neg (by norm_cast; positivity), one_mul, ← EReal.coe_inv, ← zpow_neg]
  congr 3
  omega

/-- The up-word read as a number is the scale, and its mirror image is the reciprocal of the scale. -/
theorem up_scale {a : EReal} (h0 : 0 ≤ a) (h1 : a * cst 0x3B124925#32 < (((2 : ℝ) ^ (121 : ℤ) : ℝ) : EReal)) :
    Ideal.ofBits .f32 (up a) = scale a ∧ Ideal.ofBits .f32 (IntOp.subi 2130706432#32 (up a)) = Ideal.div 1 (scale a) := by
  unfold up
  rw [zero_bits]
  by_cases c : a = 0
  · have e : (1065353216#32) = BitVec.ofNat 32 127 <<< 23 := by decide
    have e' : IntOp.subi 2130706432#32 1065353216#32 = BitVec.ofNat 32 127 <<< 23 := by decide
    have p : pw 127 = 1 := by simp [pw]
    simp only [c, decide_true, Scalar.select, BitVec.ofBool_true, if_true, scale, e', bits_pw (show 127 < 256 by omega), p]
    rw [e, bits_pw (show 127 < 256 by omega), p]
    refine ⟨rfl, ?_⟩
    rw [Ideal.div, if_neg one_ne_zero, one_mul, ← EReal.coe_one, ← EReal.coe_inv, inv_one]
  · have hc : (0 : EReal) ≤ cst 0x3B124925#32 := by
      simp [cst, Ideal.ofBits, Ideal.ieee, -EReal.coe_mul]
    obtain ⟨n, en, ln, hn, un⟩ := field_spec (mul_nonneg h0 hc) (lt_trans h1 (EReal.coe_lt_top _))
    have n248 := pw_lt_121 (lt_of_le_of_lt hn h1)
    have hadd : ∀ n : Fin 248, IntOp.addi (BitVec.ofNat 32 n.val <<< 23) 8388608#32 = BitVec.ofNat 32 (n.val + 1) <<< 23 ∧
        IntOp.subi 2130706432#32 (BitVec.ofNat 32 (n.val + 1) <<< 23) = BitVec.ofNat 32 (253 - n.val) <<< 23 := by decide +kernel
    obtain ⟨h2, h3⟩ := hadd ⟨n, n248⟩
    simp only at h2 h3
    have hs : Scalar.select (BitVec.ofBool (decide (a = 0))) 1065353216#32
        (IntOp.addi (IntOp.shli ArithUnit.vector (field (a * cst 0x3B124925#32)) 23#32) 8388608#32) = BitVec.ofNat 32 (n + 1) <<< 23 := by
      rw [en, shl, h2]
      simp [c, Scalar.select]
    rw [hs, h3, bits_pw (by omega), bits_pw (by omega), scale_pw c n248 hn un]
    exact ⟨rfl, pw_inv n248⟩

end Cert.Proof.Ladder
-- ==== Proof.Window.lean ====
/- Windowed attention of one query row, tile by tile: the thirteen tiles of a block's band, the first and the last merged into one
   slot, hold each key of the window once; and the softmax taken eight below the maximum is the same attention. -/
module

public import proofs.«01_k».proof.Proof.Ladder

@[expose] public section

noncomputable section

namespace Cert.Proof.Window

open Idealize.ShloMosaic Cert.Proof.Spec

variable (n : Fin 256) (r : Fin 128) (tsc vv : Fin 268 → Fin 128 → EReal)

/-- The band's tile that slot `t` holds in column `x`: the last tile up to the diagonal, the first one beyond it. -/
def up (t : Fin 12) (x : Fin 128) : Fin 13 := if t = 0 ∧ x.val ≤ r.val then 12 else t.castSucc

/-- Column `x` of the band's tile `u`: minus infinity on the tiles before the first key. -/
def tile (u : Fin 13) (x : Fin 128) : EReal := if n.val + u.val < 12 then ⊥ else tsc ⟨n.val + u.val, by omega⟩ x

/-- The score of key `k`. -/
def sc (k : Fin 32768) : EReal :=
  if k.val ≤ n.val * 128 + r.val ∧ n.val * 128 + r.val < k.val + 1536 then tsc ⟨12 + k.val / 128, by omega⟩ ⟨k.val % 128, by omega⟩ else ⊥

theorem up_val (t : Fin 12) (x : Fin 128) : (up r t x).val = if t.val = 0 ∧ x.val ≤ r.val then 12 else t.val := by
  unfold up
  by_cases h : t = 0
  · subst h
    by_cases q : x.val ≤ r.val <;> simp [q]
  · have : ¬ t.val = 0 := fun e => h (Fin.ext e)
    simp [h, this]

/-- The key in slot `t`, column `x`, and the slot of a key. -/
def key (t : Fin 12) (x : Fin 128) : Fin 32768 := ⟨(n.val + (up r t x).val - 12) * 128 + x.val, by omega⟩
def slot (k : Fin 32768) : Fin 128 × Fin 12 := (⟨k.val % 128, by omega⟩, ⟨(k.val / 128 + 12 - n.val) % 12, by omega⟩)

theorem sc_key {t : Fin 12} {x : Fin 128} (h : ¬ n.val + (up r t x).val < 12) :
    sc n r tsc (key n r t x) = tsc ⟨n.val + (up r t x).val, by omega⟩ x := by
  have hu := up_val r t x
  have hk : (key n r t x).val = (n.val + (up r t x).val - 12) * 128 + x.val := rfl
  unfold sc
  have e1 : (⟨12 + (key n r t x).val / 128, by omega⟩ : Fin 268) = ⟨n.val + (up r t x).val, by omega⟩ := Fin.ext (by simp only [hk]; omega)
  have e2 : (⟨(key n r t x).val % 128, by omega⟩ : Fin 128) = x := Fin.ext (by simp only [hk]; omega)
  rw [e1, e2, if_pos]
  rw [hk]
  split_ifs at hu <;> omega

theorem key_slot {k : Fin 32768} (h : k.val ≤ n.val * 128 + r.val ∧ n.val * 128 + r.val < k.val + 1536) :
    key n r (slot n k).2 (slot n k).1 = k ∧ ¬ n.val + (up r (slot n k).2 (slot n k).1).val < 12 := by
  have hu := up_val r (slot n k).2 (slot n k).1
  have h1 : (slot n k).1.val = k.val % 128 := rfl
  have h2 : (slot n k).2.val = (k.val / 128 + 12 - n.val) % 12 := rfl
  rw [h1, h2] at hu
  refine ⟨Fin.ext ?_, ?_⟩
  · show (n.val + (up r (slot n k).2 (slot n k).1).val - 12) * 128 + k.val % 128 = k.val
    split_ifs at hu <;> omega
  · split_ifs at hu <;> omega

theorem slot_key {t : Fin 12} {x : Fin 128} (h : ¬ n.val + (up r t x).val < 12) : slot n (key n r t x) = (x, t) := by
  have hu := up_val r t x
  have hk : (key n r t x).val = (n.val + (up r t x).val - 12) * 128 + x.val := rfl
  refine Prod.ext (Fin.ext ?_) (Fin.ext ?_)
  · show (key n r t x).val % 128 = x.val
    omega
  · show ((key n r t x).val / 128 + 12 - n.val) % 12 = t.val
    split_ifs at hu <;> omega

theorem visible_key {t : Fin 12} {x : Fin 128} (h : ¬ n.val + (up r t x).val < 12) :
    (key n r t x).val ≤ n.val * 128 + r.val ∧ n.val * 128 + r.val < (key n r t x).val + 1536 := by
  have hu := up_val r t x
  have hk : (key n r t x).val = (n.val + (up r t x).val - 12) * 128 + x.val := rfl
  rw [hk]
  split_ifs at hu <;> omega

theorem tile_key (t : Fin 12) (x : Fin 128) (h : ¬ n.val + (up r t x).val < 12) : tile n tsc (up r t x) x = sc n r tsc (key n r t x) := by
  rw [sc_key n r tsc h, tile, if_neg h]

/-- A sum over the slots and columns is the sum over the keys, for a summand that vanishes where the score is minus infinity. -/
theorem sum_slots (H : EReal → EReal → EReal) (h0 : ∀ v, H ⊥ v = 0) :
    ∑ x : Fin 128, ∑ t : Fin 12, H (tile n tsc (up r t x) x) (vv ⟨n.val + (up r t x).val, by omega⟩ x)
      = ∑ k : Fin 32768, H (sc n r tsc k) (vv ⟨12 + k.val / 128, by omega⟩ ⟨k.val % 128, by omega⟩) := by
  rw [← Fintype.sum_prod_type' (f := fun (x : Fin 128) (t : Fin 12) => H (tile n tsc (up r t x) x) (vv ⟨n.val + (up r t x).val, by omega⟩ x))]
  rw [← Finset.sum_filter_of_ne (s := (Finset.univ : Finset (Fin 128 × Fin 12))) (p := fun p => ¬ n.val + (up r p.2 p.1).val < 12),
    ← Finset.sum_filter_of_ne (s := (Finset.univ : Finset (Fin 32768))) (p := fun k => k.val ≤ n.val * 128 + r.val ∧ n.val * 128 + r.val < k.val + 1536)]
  · refine Finset.sum_nbij' (fun p => key n r p.2 p.1) (slot n) ?_ ?_ ?_ ?_ ?_
    · intro p hp
      exact Finset.mem_filter.2 ⟨Finset.mem_univ _, visible_key n r (Finset.mem_filter.1 hp).2⟩
    · intro k hk
      exact Finset.mem_filter.2 ⟨Finset.mem_univ _, (key_slot n r (Finset.mem_filter.1 hk).2).2⟩
    · intro p hp
      exact slot_key n r (Finset.mem_filter.1 hp).2
    · intro k hk
      exact (key_slot n r (Finset.mem_filter.1 hk).2).1
    · intro p hp
      have h := (Finset.mem_filter.1 hp).2
      have hk : (key n r p.2 p.1).val = (n.val + (up r p.2 p.1).val - 12) * 128 + p.1.val := rfl
      rw [tile_key n r tsc _ _ h]
      congr 1
      congr 1
      · exact Fin.ext (by simp only [hk]; omega)
      · exact Fin.ext (by simp only [hk]; omega)
  · intro k _ hk
    by_contra c
    refine hk ?_
    rw [sc, if_neg c, h0]
  · intro p _ hp
    by_contra c
    refine hp ?_
    rw [tile, if_pos c, h0]

/-- The maximum over the slots and columns is the maximum over the keys. -/
theorem max_slots : Finset.univ.fold max (cst 0xFF800000#32) (fun x : Fin 128 => Finset.univ.sup fun t : Fin 12 => tile n tsc (up r t x) x)
    = Finset.univ.fold max (cst 0xFF800000#32) (sc n r tsc) := by
  have b : cst 0xFF800000#32 = ⊥ := by simp [cst, Ideal.ofBits, Ideal.ieee]
  rw [b]
  apply le_antisymm
  · refine (Finset.fold_max_le _).2 ⟨bot_le, fun x _ => Finset.sup_le fun t _ => ?_⟩
    by_cases h : n.val + (up r t x).val < 12
    · rw [tile, if_pos h]; exact bot_le
    · rw [tile_key n r tsc t x h]
      exact (Finset.le_fold_max _).2 (Or.inr ⟨_, Finset.mem_univ _, le_rfl⟩)
  · refine (Finset.fold_max_le _).2 ⟨bot_le, fun k _ => ?_⟩
    by_cases h : k.val ≤ n.val * 128 + r.val ∧ n.val * 128 + r.val < k.val + 1536
    · obtain ⟨h1, h2⟩ := key_slot n r h
      refine (Finset.le_fold_max _).2 (Or.inr ⟨(slot n k).1, Finset.mem_univ _, ?_⟩)
      refine le_trans (le_of_eq ?_) (Finset.le_sup (f := fun t : Fin 12 => tile n tsc (up r t (slot n k).1) (slot n k).1) (Finset.mem_univ (slot n k).2))
      rw [tile_key n r tsc _ _ h2, h1]
    · rw [sc, if_neg h]; exact bot_le

/-! ### The shift by eight -/

theorem c8 : Ideal.ofBits .f32 0x41000000#32 = ((8 : ℝ) : EReal) := by
  simp [Ideal.ofBits, Ideal.ieee, -EReal.coe_mul]
  norm_num

theorem c256 : cst 0x43800000#32 = ((256 : ℝ) : EReal) := by
  simp [cst, Ideal.ofBits, Ideal.ieee, -EReal.coe_mul]
  norm_num

theorem c256' : cst 0x3B800000#32 = (((256 : ℝ)⁻¹ : ℝ) : EReal) := by
  simp [cst, Ideal.ofBits, Ideal.ieee, -EReal.coe_mul]
  norm_num

/-- A weight taken eight below the maximum is 256 times the weight at the maximum, a real number between 0 and 1. -/
theorem shift {s M : EReal} (h : s ≤ M) : ∃ p : ℝ, 0 ≤ p ∧ Ideal.exp2 (s - M) = p ∧ Ideal.exp2 (s - (M - ((8 : ℝ) : EReal))) = ((256 * p : ℝ) : EReal) := by
  induction M with
  | bot =>
    have : s = ⊥ := le_bot_iff.1 h
    subst this
    exact ⟨0, le_rfl, by simp [sub_eq_add_neg], by simp [sub_eq_add_neg]⟩
  | top => exact ⟨0, le_rfl, by simp [sub_eq_add_neg], by simp [sub_eq_add_neg]⟩
  | coe M =>
    induction s with
    | bot => exact ⟨0, le_rfl, by simp [sub_eq_add_neg], by simp [sub_eq_add_neg]⟩
    | top => exact absurd h (by simp)
    | coe s =>
      refine ⟨(2 : ℝ) ^ (s - M), by positivity, ?_, ?_⟩
      · rw [← EReal.coe_sub, Ideal.exp2_coe]; rfl
      · rw [← EReal.coe_sub, ← EReal.coe_sub, Ideal.exp2_coe]
        show ((Real.rpow 2 _ : ℝ) : EReal) = _
        rw [EReal.coe_eq_coe_iff]
        show (2 : ℝ) ^ (s - (M - 8)) = _
        rw [show s - (M - 8) = 8 + (s - M) by ring, Real.rpow_add (by norm_num)]
        norm_num

theorem coe_sum {ι : Type} [Fintype ι] (f : ι → ℝ) : ∑ i, ((f i : ℝ) : EReal) = ((∑ i, f i : ℝ) : EReal) := by
  classical
  induction (Finset.univ : Finset ι) using Finset.induction_on with
  | empty => simp
  | insert a s h ih => rw [Finset.sum_insert h, Finset.sum_insert h, ih, EReal.coe_add]

/-- The kernel's quotient, over weights 256 times as large, is the attention of the row. -/
theorem attend_eq (S V : Fin 32768 → EReal) (vs : EReal) :
    Ideal.div ((∑ k, min (cst 0x43E00000#32) (max (cst 0xC3E00000#32) (Ideal.exp2 (S k - (Finset.univ.fold max (cst 0xFF800000#32) S - ((8 : ℝ) : EReal))))) * V k) * vs)
      (∑ k, Ideal.exp2 (S k - (Finset.univ.fold max (cst 0xFF800000#32) S - ((8 : ℝ) : EReal)))) = attend S V vs := by
  have hS : ∀ k, S k ≤ Finset.univ.fold max (cst 0xFF800000#32) S := fun k => (Finset.le_fold_max _).2 (Or.inr ⟨k, Finset.mem_univ _, le_rfl⟩)
  choose p p0 p1 p2 using fun k => shift (hS k)
  unfold attend prob
  rw [c256']
  simp only [p1, p2, c256]
  have e : ∀ k, ((p k : ℝ) : EReal) * ((256 : ℝ) : EReal) = ((256 * p k : ℝ) : EReal) := fun k => by rw [← EReal.coe_mul, mul_comm]
  simp only [e]
  rw [coe_sum, coe_sum, ← Finset.mul_sum]
  by_cases l : ∑ k, p k = 0
  · have hz : ∀ k, p k = 0 := fun k => (Finset.sum_eq_zero_iff_of_nonneg fun k _ => p0 k).1 l k (Finset.mem_univ _)
    have c1 : (0 : EReal) ≤ cst 0x43E00000#32 := by simp [cst, Ideal.ofBits, Ideal.ieee, -EReal.coe_mul]
    have c2 : cst 0xC3E00000#32 ≤ (0 : EReal) := by
      simp [cst, Ideal.ofBits, Ideal.ieee, -EReal.coe_mul]
    simp [hz, max_eq_right c2, min_eq_right c1]
  · have n0 : ((∑ k, p k : ℝ) : EReal) ≠ 0 := by exact_mod_cast l
    have n1 : ((256 * ∑ k, p k : ℝ) : EReal) ≠ 0 := by exact_mod_cast mul_ne_zero (by norm_num) l
    unfold Ideal.div
    rw [if_neg n0, if_neg n1, ← EReal.coe_inv, ← EReal.coe_inv, mul_inv, EReal.coe_mul, mul_assoc, mul_assoc]
    congr 1
    rw [← mul_assoc, mul_comm vs]

end Cert.Proof.Window
-- ==== Proof.KI.HeadOut.lean ====
/- One head's output is the attention of its row: the stored tiles and sums, read through the window of keys. -/
module

public import proofs.«01_k».proof.Proof.KI.Eval
public import proofs.«01_k».proof.Proof.KI.Struct
public import proofs.«01_k».proof.Proof.Window

@[expose] public section

noncomputable section

namespace Cert.Proof.KernelIdeal

open Cert.KernelIdeal Cert.KernelIdeal.Gen Idealize.ShloMosaic Cert.Proof.Spec Cert.Proof.Window

/-- The diagonal's mask: columns up to the row. -/
abbrev cz : IVec S128x128 1 := k0_pay1 (iota .tc S128x128 32 [0] iota_S128x128_d0_w32)

section

variable (n : Fin 256) (r : Fin 128) (tsc vv : Fin 268 → Fin 128 → EReal) (q : FVec Ideal S128x128 .fp8e4m3) (K : Fin 13 → Vec Ideal S1x1x128x128 .fp8e4m3)
  (a b : Fin 13 → Vec Ideal S1x1x128 .f32)

theorem tile_slot (hsc : ∀ (t : Fin 13) (j : Fin 128), scoreV q (K t) (a t) (b t) (ix2 r j) = tile n tsc t j) (t : Fin 12) (j : Fin 128) :
    tileV cz q K a b t (ix2 r j) = tile n tsc (up r t j) j := by
  rw [tileV_at, up]
  by_cases h : t = 0
  · by_cases g : j.val ≤ r.val
    · rw [if_pos h, if_pos g, if_pos ⟨h, g⟩, hsc]
    · rw [if_pos h, if_neg g, if_neg (fun c => g c.2), hsc, h]
      rfl
  · rw [if_neg h, if_neg (fun c => h c.1), hsc]

theorem shift_slot (hsc : ∀ (t : Fin 13) (j : Fin 128), scoreV q (K t) (a t) (b t) (ix2 r j) = tile n tsc t j) :
    shiftV (tileV cz q K a b) (ix2 r 0) = Finset.univ.fold max (cst 0xFF800000#32) (sc n r tsc) - ((8 : ℝ) : EReal) := by
  rw [shiftV_at, c8, ← max_slots]
  simp only [tile_slot n r tsc q K a b hsc]

theorem acc_slots (P V : Fin 13 → EReal) (C : Fin 12 → EReal) (x : Fin 128)
    (hP : ∀ t, P t = if t = 0 then if x.val ≤ r.val then 0 else C 0 else if t = 12 then if x.val ≤ r.val then C 0 else 0
      else C ⟨t.val % 12, Nat.mod_lt _ (by decide)⟩) :
    ∑ t, P t * V t = ∑ t : Fin 12, C t * V (up r t x) := by
  rw [Fin.sum_univ_castSucc, Fin.sum_univ_succ, Fin.sum_univ_succ (n := 11)]
  have e : ∀ i : Fin 11, P (Fin.castSucc i.succ) * V (Fin.castSucc i.succ) = C i.succ * V (up r i.succ x) := by
    intro i
    have h0 : (Fin.castSucc i.succ : Fin 13) ≠ 0 := fun e => by simpa using congrArg Fin.val e
    have h12 : (Fin.castSucc i.succ : Fin 13) ≠ 12 := fun e => by
      have := congrArg Fin.val e
      simp at this
      omega
    have hi : (⟨(Fin.castSucc i.succ : Fin 13).val % 12, Nat.mod_lt _ (by decide)⟩ : Fin 12) = i.succ := Fin.ext (by simp; omega)
    rw [hP, if_neg h0, if_neg h12, hi, up, if_neg (fun c => Fin.succ_ne_zero i c.1)]
  simp only [e]
  have l : (Fin.last 12 : Fin 13) = 12 := rfl
  rw [l, hP 12, hP (Fin.castSucc 0), up]
  by_cases g : x.val ≤ r.val
  · simp [g, add_comm]
  · simp [g]

theorem head_out (s : Fin 12 → Vec Ideal S1x1x128x128 .f32) (p : Fin 13 → Vec Ideal S1x128x128 .fp8e4m3) (Vt : Fin 13 → Vec Ideal S1x1x128x128 .fp8e4m3)
    (Wt : Vec Ideal S1x1x128 .f32) (d : Fin 128)
    (hs : ∀ (t : Fin 12) (j : Fin 128), s t (ix4 0 0 r j) = tileV cz q K a b t (ix2 r j))
    (hp : ∀ (t : Fin 13) (j : Fin 128), p t (ix3 0 r j) = probV cz (shiftV (tileV cz q K a b)) s t (ix2 r j))
    (hsc : ∀ (t : Fin 13) (j : Fin 128), scoreV q (K t) (a t) (b t) (ix2 r j) = tile n tsc t j)
    (hV : ∀ (t : Fin 13) (x : Fin 128), Vt t (ix4 0 0 d x) = vv ⟨n.val + t.val, by omega⟩ x) :
    headV p Vt Wt (sumV (shiftV (tileV cz q K a b)) s) (ix2 r d)
      = attend (sc n r tsc) (fun k => vv ⟨12 + k.val / 128, by omega⟩ ⟨k.val % 128, by omega⟩) (Wt (ix3 0 0 d)) := by
  rw [headV_at, accV_at, sumV_at, ← attend_eq]
  have bot : ∀ M : EReal, Ideal.exp2 (⊥ - M) = 0 := fun M => by simp [sub_eq_add_neg]
  have z : min (cst 0x43E00000#32) (max (cst 0xC3E00000#32) (0 : EReal)) = 0 := by
    have c1 : (0 : EReal) ≤ cst 0x43E00000#32 := by simp [cst, Ideal.ofBits, Ideal.ieee, -EReal.coe_mul]
    have c2 : cst 0xC3E00000#32 ≤ (0 : EReal) := by simp [cst, Ideal.ofBits, Ideal.ieee, -EReal.coe_mul]
    rw [max_eq_right c2, min_eq_right c1]
  refine congrArg₂ Ideal.div (congrArg (fun w => w * Wt (ix3 0 0 d)) ?_) ?_
  · rw [Finset.sum_comm]
    rw [← sum_slots n r tsc vv (fun s v => min (cst 0x43E00000#32) (max (cst 0xC3E00000#32)
      (Ideal.exp2 (s - (Finset.univ.fold max (cst 0xFF800000#32) (sc n r tsc) - ((8 : ℝ) : EReal))))) * v) (fun v => by simp only [bot, z, zero_mul])]
    refine Finset.sum_congr rfl fun x _ => ?_
    rw [acc_slots r (fun t => p t (ix3 0 r x)) (fun t => Vt t (ix4 0 0 d x)) (fun t => clipV (shiftV (tileV cz q K a b)) (s t) (ix2 r x)) x
      (fun t => by simp only [hp, probV_at])]
    refine Finset.sum_congr rfl fun t _ => ?_
    rw [hV, clipV_at, hs, tile_slot n r tsc q K a b hsc, shift_slot n r tsc q K a b hsc]
  · rw [← sum_slots n r tsc vv (fun s _ => Ideal.exp2 (s - (Finset.univ.fold max (cst 0xFF800000#32) (sc n r tsc) - ((8 : ℝ) : EReal)))) (fun _ => bot _)]
    refine Finset.sum_congr rfl fun x _ => Finset.sum_congr rfl fun t _ => ?_
    rw [hs, tile_slot n r tsc q K a b hsc, shift_slot n r tsc q K a b hsc]

end

/-! ### The score -/

theorem half_sum (e : ℕ) (he : e < 2) (f g : Fin 128 → EReal) :
    ∑ x : Fin 128, (if x.val / 64 = e then f x else 0) * g x = ∑ d : Fin 64, f ⟨e * 64 + d.val, by omega⟩ * g ⟨e * 64 + d.val, by omega⟩ := by
  rw [← Finset.sum_filter_of_ne (p := fun x : Fin 128 => x.val / 64 = e)]
  · refine Finset.sum_nbij' (fun x => ⟨x.val % 64, Nat.mod_lt _ (by decide)⟩) (fun d => ⟨e * 64 + d.val, by omega⟩) ?_ ?_ ?_ ?_ ?_
    · intro x _; exact Finset.mem_univ _
    · intro d _; exact Finset.mem_filter.2 ⟨Finset.mem_univ _, by simp only; omega⟩
    · intro x hx
      have := (Finset.mem_filter.1 hx).2
      exact Fin.ext (by simp only; omega)
    · intro d _; exact Fin.ext (by simp only; omega)
    · intro x hx
      have h := (Finset.mem_filter.1 hx).2
      have e' : (⟨e * 64 + x.val % 64, by omega⟩ : Fin 128) = x := Fin.ext (by simp only; omega)
      simp only [e']
      rw [if_pos h]
  · intro x _ hx
    by_contra c
    exact hx (by rw [if_neg c, zero_mul])

/-- The scale of the keys distributes over the score, the scale being a number not below zero. -/
theorem distrib {sk : EReal} (h0 : 0 ≤ sk) (h1 : sk ≠ ⊤) (sq qk corr pad : EReal) :
    qk * (sq * sk) + (corr * sk + pad) = sk * (sq * qk + corr) + pad := by
  rw [EReal.left_distrib_of_nonneg_of_ne_top h0 h1, ← add_assoc, mul_comm corr, mul_comm sq sk, ← mul_assoc, mul_comm qk, mul_assoc sk, mul_comm qk]

/-- The score of one row against one tile of the band, from the codes in the head's half of the lanes, its scales and its corrections. -/
theorem score_tile (n : Fin 256) (h : Fin 8) (Q : Fin 128 → Fin 64 → EReal) (r : Fin 128) (q : FVec Ideal S128x128 .fp8e4m3)
    (mq : FVec Ideal S8x128 .bf16) (sq : FVec Ideal S8x128 .f32) (K : Vec Ideal S1x1x128x128 .fp8e4m3) (a b : Vec Ideal S1x1x128 .f32)
    (kt : Fin 128 → Fin 128 → EReal) (sk pad : EReal) (j : Fin 128)
    (hq : ∀ x, q (ix2 r x) = if x.val / 64 = h.val % 2 then code Q r ⟨x.val % 64, by omega⟩ else 0)
    (hm : ∀ x, mq (ix2 h x) = if x.val / 64 = h.val % 2 then mean Q ⟨x.val % 64, by omega⟩ else 0)
    (hK : ∀ x, K (ix4 0 0 x j) = kt x j) (ha : a (ix3 0 0 j) = sq (ix2 h j) * sk)
    (hb : b (ix3 0 0 j) = (∑ x : Fin 128, mq (ix2 h x) * K (ix4 0 0 x j)) * sk + pad) (hsq : sq (ix2 h j) = scale (amax Q))
    (h0 : 0 ≤ sk) (h1 : sk ≠ ⊤) :
    scoreV q K a b (ix2 r j) = sk * (scale (amax Q) * ∑ d : Fin 64, code Q r d * kt ⟨h.val % 2 * 64 + d.val, by omega⟩ j
      + ∑ d : Fin 64, mean Q d * kt ⟨h.val % 2 * 64 + d.val, by omega⟩ j) + pad := by
  have e : ∀ d : Fin 64, (⟨(h.val % 2 * 64 + d.val) % 64, by omega⟩ : Fin 64) = d := fun d => Fin.ext (by simp only; omega)
  rw [scoreV_at, ha, hb, hsq]
  simp only [hq, hm, hK]
  rw [half_sum (h.val % 2) (by omega) (fun x => code Q r ⟨x.val % 64, by omega⟩) (fun x => kt x j),
    half_sum (h.val % 2) (by omega) (fun x => mean Q ⟨x.val % 64, by omega⟩) (fun x => kt x j)]
  simp only [e]
  exact distrib h0 h1 _ _ _ _

theorem rowsA_at (sq : FVec Ideal S8x128 .f32) (S : Fin 13 → Vec Ideal S1x1x128 .f32) (t : Fin 13) (h : Fin 8) (j : Fin 128) :
    rowsA sq S t (ix2 h j) = sq (ix2 h j) * S t (ix3 0 0 j) := by
  pointwise [rowsA]

theorem rowsB_at (n : Fin 256) (mq : FVec Ideal S8x128 .bf16) (K : Fin 13 → Vec Ideal S1x1x128x128 .fp8e4m3) (S : Fin 13 → Vec Ideal S1x1x128 .f32)
    (t : Fin 13) (h : Fin 8) (j : Fin 128) :
    rowsB (BitVec.ofNat 32 n.val) mq K S t (ix2 h j) = (∑ x : Fin 128, mq (ix2 h x) * K t (ix4 0 0 x j)) * S t (ix3 0 0 j)
      + if n.val + t.val < 12 then ⊥ else 0 := by
  pointwise [rowsB]
  have e : Scalar.addi (BitVec.ofNat 32 n.val) (BitVec.ofNat 32 t.val) = BitVec.ofNat 32 (n.val + t.val) := by
    simp [Scalar.addi, IntOp.addi, BitVec.ofNat_add]
  rw [e, show Scalar.cmpi CmpIPredicate.slt (BitVec.ofNat 32 (n.val + t.val)) 12#32 = if n.val + t.val < 12 then 1#1 else 0#1 from
    slt_small (b := 12) (by omega) (by omega), show Ideal.ofBits .f32 4286578688#32 = ⊥ by simp [Ideal.ofBits, Ideal.ieee]]
  by_cases g : n.val + t.val < 12 <;> simp [g, Scalar.select]

end Cert.Proof.KernelIdeal
-- ==== Proof.KI.Store.lean ====
/- Loads from scratch that a trip stored itself: each reads the tile stored there. -/
module

public import proofs.«01_k».proof.Proof.KI.Head
public import Idealize.ShloMosaic.Lib.Pipeline.CanonAppend
public import Idealize.ShloMosaic.Lib.Pointwise

@[expose] public section

noncomputable section

namespace Cert.Proof.KernelIdeal

open Cert.KernelIdeal Cert.KernelIdeal.Gen Idealize.ShloMosaic

/-- Among stores to disjoint places, followed by any earlier ones, what stands at a place is what its own store put there. -/
theorem canon_map {Val : EltTy → Type} [∀ e, Nonempty (Val e)] {S : Shape} {e : EltTy} {ι : Type} [DecidableEq ι]
    (P : ι → View.Piece Val S e) (hd : ∀ s t, s ≠ t → Disjoint (P s).1.set (P t).1.set) (L : List (View.Piece Val S e)) (t : ι)
    (x : (P t).1.shape.Idx) : ∀ l : List ι, t ∈ l → View.canon (l.map P ++ L) ((P t).1.emb x) = (P t).2 x
  | [], h => by simp at h
  | s :: l, h => by
    by_cases hs : s = t
    · subst hs
      exact View.canon_cons_emb (P s).1 (P s).2 _ x
    · have hm : (P t).1.emb x ∈ (P t).1.set := (P t).1.idx_mem x
      rw [List.map_cons, List.cons_append, View.canon_cons_of_not_mem _ _ (Finset.disjoint_right.mp (hd s t hs) hm)]
      exact canon_map P hd L t x l ((List.mem_cons.mp h).resolve_left fun h' => hs h'.symm)

variable {F : FTy → Type} [FloatOps F] {sig' : RefSig} {κ : Kind} {sp : Space}

/-- Different tiles' places are disjoint. -/
theorem disj_s (e : Fin 2) (s t : Fin 12) (h : s ≠ t) : Disjoint (rS e s).set (rS e t).set :=
  Rect.unit_disjoint (1 : Fin 4) (by
    have : s.val ≠ t.val := fun h' => h (Fin.ext h')
    simp; omega)
theorem disj_p (e : Fin 2) (s t : Fin 13) (h : s ≠ t) : Disjoint (rP e s).set (rP e t).set :=
  Rect.unit_disjoint (2 : Fin 3) (by
    have : s.val ≠ t.val := fun h' => h (Fin.ext h')
    simp; omega)
theorem disj_a (s t : Fin 13) (h : s ≠ t) : Disjoint (rA s).set (rA t).set :=
  Rect.unit_disjoint (0 : Fin 3) (by
    have : s.val ≠ t.val := fun h' => h (Fin.ext h')
    simp; omega)

/-- A score tile read back is the score tile stored. -/
theorem load_s (v : View sig' κ sp S2x12x128x128 .f32) (e : Fin 2) (S : Fin 12 → FVec F S128x128 .f32)
    (L : List (View.Piece (Elt F) S2x12x128x128 .f32)) (t : Fin 12) :
    v.readCov (sPieces e S ++ L) (rS e t).toLoadRect = (sPiece e S t).2 := by
  rw [View.readCov_eq_canon']
  funext x
  exact canon_map (Val := Elt F) (sPiece e S) (disj_s e) L t x [11, 10, 9, 8, 7, 6, 5, 4, 3, 2, 1, 0] (by clear x; revert t; decide)

/-- A probability tile read back is the probability tile stored. -/
theorem load_p (v : View sig' κ sp S2x128x1664 .fp8e4m3) (e : Fin 2) (P : Fin 13 → FVec F S128x128 .fp8e4m3)
    (L : List (View.Piece (Elt F) S2x128x1664 .fp8e4m3)) (t : Fin 13) :
    v.readCov (pPieces e P ++ L) (rP e t).toLoadRect = (pPiece e P t).2 := by
  rw [View.readCov_eq_canon']
  funext x
  exact canon_map (Val := Elt F) (pPiece e P) (disj_p e) L t x [11, 10, 9, 8, 7, 6, 5, 4, 3, 2, 1, 12, 0] (by clear x; revert t; decide)

/-- The same at one element. -/
theorem load_s_at (v : View sig' κ sp S2x12x128x128 .f32) (e : Fin 2) (S : Fin 12 → FVec F S128x128 .f32)
    (L : List (View.Piece (Elt F) S2x12x128x128 .f32)) (t : Fin 12) (r j : Fin 128) :
    v.readCov (sPieces e S ++ L) (rS e t).toLoadRect (ix4 0 0 r j) = S t (ix2 r j) := by
  rw [load_s]
  have h : shapeCast S1x1x128x128 (S t) shapeCasts_S128x128_S1x1x128x128 (ix4 0 0 r j) = S t (ix2 r j) := by pointwise
  exact h

theorem load_p_at (v : View sig' κ sp S2x128x1664 .fp8e4m3) (e : Fin 2) (P : Fin 13 → FVec F S128x128 .fp8e4m3)
    (L : List (View.Piece (Elt F) S2x128x1664 .fp8e4m3)) (t : Fin 13) (r j : Fin 128) :
    v.readCov (pPieces e P ++ L) (rP e t).toLoadRect (ix3 0 r j) = P t (ix2 r j) := by
  rw [load_p]
  have h : shapeCast S1x128x128 (P t) shapeCasts_S128x128_S1x128x128 (ix3 0 r j) = P t (ix2 r j) := by pointwise
  exact h

/-- Head `h`'s row of a tile of scales read back is its row of the tile stored. -/
theorem load_a_at (v : View sig' κ sp S13x8x128 .f32) (A : Fin 13 → FVec F S8x128 .f32) (t : Fin 13) (h : Fin 8) (j : Fin 128) :
    v.readCov (aPieces A) (rR t h).toLoadRect (ix3 0 0 j) = A t (ix2 h j) := by
  rw [View.readCov_eq_canon']
  have e := canon_map (Val := Elt F) (aPiece A) disj_a [] t (ix3 0 h j) [12, 11, 10, 9, 8, 7, 6, 5, 4, 3, 2, 1, 0]
    (by clear h j; revert t; decide)
  have hx : (rR t h).toLoadRect.idx (ix3 0 0 j) = (rA t).emb (ix3 0 h j) := by
    funext a
    apply Fin.ext
    fin_cases a <;> simp [ix3]
  rw [List.append_nil] at e
  refine (congrArg (View.canon (aPieces A)) hx).trans (e.trans ?_)
  have h' : shapeCast S1x8x128 (A t) shapeCasts_S8x128_S1x8x128 (ix3 0 h j) = A t (ix2 h j) := by pointwise
  exact h'

end Cert.Proof.KernelIdeal
-- ==== Proof.KI.Quant.lean ====
/- What the quantising part of one trip of the attention kernel's loop computes, element by element: the means, the magnitudes, the
   scales, the codes and the two halves of a pair of heads with the other half zeroed. -/
module

public import proofs.«01_k».proof.Proof.KI.Struct
public import proofs.«01_k».proof.Proof.Ladder

@[expose] public section

noncomputable section

namespace Cert.Proof.KernelIdeal

open Cert.KernelIdeal Cert.KernelIdeal.Gen Idealize.ShloMosaic Cert.Proof.Spec Cert.Proof.Ladder

abbrev iR8 : IVec S8x128 32 := iota .tc S8x128 32 [0] iota_S8x128_d0_w32
abbrev iL1 : IVec S1x128 32 := iota .tc S1x128 32 [1] iota_S1x128_d1_w32
abbrev iRw : IVec S128x128 32 := iota .tc S128x128 32 [0] iota_S128x128_d0_w32
abbrev iCl : IVec S128x128 32 := iota .tc S128x128 32 [1] iota_S128x128_d1_w32

/-- Head `h`'s 128 positions in a loaded block of all heads. -/
def hb (X : Vec Ideal S1x128x512 .bf16) (h : Fin 8) : Fin 128 → Fin 64 → EReal := fun r d => X (ix3 0 r ⟨h.val * 64 + d.val, by omega⟩)

theorem mq_row (X : Vec Ideal S1x128x512 .bf16) (l : Fin 512) :
    k0_pay4 X (ix2 0 l) = mean (hb X ⟨l.val / 64, by omega⟩) ⟨l.val % 64, by omega⟩ := by
  pointwise [k0_pay4, k0_pay3, mean, hb]
  have e : (⟨l.val / 64 * 64 + l.val % 64, by omega⟩ : Fin 512) = l := Fin.ext (by simp only; omega)
  simp only [e]

theorem z_at (X : Vec Ideal S1x128x512 .bf16) (r : Fin 128) (l : Fin 512) :
    k0_pay6 X (ix2 r l) = hb X ⟨l.val / 64, by omega⟩ r ⟨l.val % 64, by omega⟩ - mean (hb X ⟨l.val / 64, by omega⟩) ⟨l.val % 64, by omega⟩ := by
  rw [← mq_row]
  have e : (⟨l.val / 64 * 64 + l.val % 64, by omega⟩ : Fin 512) = l := Fin.ext (by simp only; omega)
  pointwise [k0_pay6, k0_pay4, k0_pay3, mean, hb]
  simp only [e]

theorem col_at (X : Vec Ideal S1x128x512 .bf16) (l : Fin 512) :
    k0_pay7 X (ix2 0 l) = Finset.univ.fold max (cst 0xFF800000#32) fun r : Fin 128 => FloatOps.absf (F := Ideal) (φ := .f32)
      (hb X ⟨l.val / 64, by omega⟩ r ⟨l.val % 64, by omega⟩ - mean (hb X ⟨l.val / 64, by omega⟩) ⟨l.val % 64, by omega⟩) := by
  pointwise [k0_pay7]
  simp only [z_at]

theorem mask0 : ∀ (h : Fin 8) (l : Fin 128), trip.sl.v99 iR8 k0_pay729 (ix2 h l) = if h.val / 2 = 0 ∧ l.val / 64 = h.val % 2 then 1#1 else 0#1 := by
  decide +kernel
theorem mask1 : ∀ (h : Fin 8) (l : Fin 128), trip.sl.v134 iR8 k0_pay729 (ix2 h l) = if h.val / 2 = 1 ∧ l.val / 64 = h.val % 2 then 1#1 else 0#1 := by
  decide +kernel
theorem mask2 : ∀ (h : Fin 8) (l : Fin 128), trip.sl.v169 iR8 k0_pay729 (ix2 h l) = if h.val / 2 = 2 ∧ l.val / 64 = h.val % 2 then 1#1 else 0#1 := by
  decide +kernel
theorem mask3 : ∀ (h : Fin 8) (l : Fin 128), k0_pay22 iR8 k0_pay729 (2#32) (trip.sl.v109 iR8) (trip.sl.v116 iR8) (ix2 h l)
    = if h.val / 2 = 3 ∧ l.val / 64 = h.val % 2 then 1#1 else 0#1 := by
  decide +kernel

end Cert.Proof.KernelIdeal
-- ==== Proof.KI.Quant2.lean ====
/- The quantising part of one trip, continued: the magnitude, the scale and its reciprocal of each head, the codes, and the codes of a
   pair of heads with the other head's half zeroed. -/
module

public import proofs.«01_k».proof.Proof.KI.Quant
public import proofs.«01_k».proof.Proof.KI.Eval

@[expose] public section

noncomputable section

namespace Cert.Proof.KernelIdeal

open Cert.KernelIdeal Cert.KernelIdeal.Gen Idealize.ShloMosaic Cert.Proof.Spec Cert.Proof.Ladder

theorem halves (h : Fin 8) : h.val / 2 = 0 ∨ h.val / 2 = 1 ∨ h.val / 2 = 2 ∨ h.val / 2 = 3 := by omega

theorem neg_bits : Ideal.ofBits .f32 0xFF800000#32 = ⊥ := by simp [Ideal.ofBits, Ideal.ieee]

theorem abs_nonneg' (x : EReal) : 0 ≤ FloatOps.absf (F := Ideal) (φ := .f32) x := by
  show 0 ≤ max x (-x)
  rcases le_total 0 x with c | c
  · exact le_max_of_le_left c
  · exact le_max_of_le_right (EReal.neg_nonneg.2 c)

theorem amax_nonneg (Q : Fin 128 → Fin 64 → EReal) : 0 ≤ amax Q := by
  unfold amax
  exact (Finset.le_fold_max _).2 (Or.inr ⟨0, Finset.mem_univ _, (Finset.le_fold_max _).2 (Or.inr ⟨0, Finset.mem_univ _, abs_nonneg' _⟩)⟩)

theorem sel_nested (X : Fin 512 → EReal) (m : Fin 4 → BitVec 1) (h : Fin 8) (x : Fin 128)
    (hm : ∀ p, m p = if h.val / 2 = p.val ∧ x.val / 64 = h.val % 2 then 1#1 else 0#1) (z : EReal) (hz : z = 0) :
    Scalar.select (m 3) (X ⟨384 + x.val, by omega⟩) (Scalar.select (m 2) (X ⟨256 + x.val, by omega⟩) (Scalar.select (m 1) (X ⟨128 + x.val, by omega⟩)
      (Scalar.select (m 0) (X ⟨x.val, by omega⟩) z))) = if x.val / 64 = h.val % 2 then X ⟨h.val / 2 * 128 + x.val, by omega⟩ else 0 := by
  subst hz
  have g : ∀ n (e : h.val / 2 = n) (hn : n * 128 + x.val < 512), X ⟨n * 128 + x.val, hn⟩ = X ⟨h.val / 2 * 128 + x.val, by omega⟩ := by
    rintro n rfl _; rfl
  by_cases q : x.val / 64 = h.val % 2
  · rcases halves h with e | e | e | e <;> simp [hm, e, q, Scalar.select]
  · simp [hm, q, Scalar.select]

variable (c : Dev nD) (arg2 : Memref sig .tc .vmem S1x512x512 .bf16) (f : Bf (F := Ideal) c arg2) (k : Fin k0_t1_loop.trips)

theorem lane_head (h : Fin 8) (x : Fin 128) (q : x.val / 64 = h.val % 2) :
    (h.val / 2 * 128 + x.val) / 64 = h.val ∧ (h.val / 2 * 128 + x.val) % 64 = x.val % 64 := by omega

/-- The row of magnitudes of head `h`: its column maxima in its own half, zero in the other. -/
theorem am_inner (h : Fin 8) (x : Fin 128) :
    Scalar.select (k0_pay22 iR8 k0_pay729 (2#32) (trip.sl.v109 iR8) (trip.sl.v116 iR8) (ix2 h x)) (k0_pay7 (Xl c arg2 f k) (ix2 0 ⟨384 + x.val, by omega⟩))
      (trip.sl.v173 c arg2 iR8 k0_pay729 f k (ix2 h x))
      = if x.val / 64 = h.val % 2 then k0_pay7 (Xl c arg2 f k) (ix2 0 ⟨h.val / 2 * 128 + x.val, by omega⟩) else 0 := by
  refine Eq.trans ?_ (sel_nested (fun l => k0_pay7 (Xl c arg2 f k) (ix2 0 l)) ![trip.sl.v99 iR8 k0_pay729 (ix2 h x), trip.sl.v134 iR8 k0_pay729 (ix2 h x),
    trip.sl.v169 iR8 k0_pay729 (ix2 h x), k0_pay22 iR8 k0_pay729 (2#32) (trip.sl.v109 iR8) (trip.sl.v116 iR8) (ix2 h x)] h x ?_ _ zero_bits)
  · pointwise [trip.sl.v173, trip.sl.v172, trip.sl.v171, trip.sl.v170, trip.sl.v138, trip.sl.v137, trip.sl.v136, trip.sl.v135, trip.sl.v103, trip.sl.v102,
      trip.sl.v101, trip.sl.v100, k0_pay8, trip.sl.v70]
  · intro p
    fin_cases p
    · exact mask0 h x
    · exact mask1 h x
    · exact mask2 h x
    · exact mask3 h x

theorem am_at (h : Fin 8) (l : Fin 128) : trip.sl.v216 c arg2 iR8 k0_pay729 f k (ix2 h l) = amax (hb (Xl c arg2 f k) h) := by
  pointwise [trip.sl.v216, k0_pay24]
  rw [show trip.sl.v70 c arg2 f k = k0_pay7 (Xl c arg2 f k) from rfl]
  simp only [am_inner]
  have hcol : ∀ x : Fin 128, x.val / 64 = h.val % 2 → k0_pay7 (Xl c arg2 f k) (ix2 0 ⟨h.val / 2 * 128 + x.val, by omega⟩)
      = Finset.univ.fold max (cst 0xFF800000#32) fun r : Fin 128 => FloatOps.absf (F := Ideal) (φ := .f32)
        (hb (Xl c arg2 f k) h r ⟨x.val % 64, by omega⟩ - mean (hb (Xl c arg2 f k) h) ⟨x.val % 64, by omega⟩) := by
    intro x q
    rw [col_at]
    have e1 : (⟨(h.val / 2 * 128 + x.val) / 64, by omega⟩ : Fin 8) = h := Fin.ext (lane_head h x q).1
    have e2 : (⟨(h.val / 2 * 128 + x.val) % 64, by omega⟩ : Fin 64) = ⟨x.val % 64, by omega⟩ := Fin.ext (lane_head h x q).2
    simp only [e1, e2]
  apply le_antisymm
  · refine (Finset.fold_max_le _).2 ⟨by rw [neg_bits]; exact bot_le, fun x _ => ?_⟩
    split_ifs with q
    · rw [hcol x q]
      refine (Finset.fold_max_le _).2 ⟨by rw [cst, neg_bits]; exact bot_le, fun r _ => ?_⟩
      exact (Finset.le_fold_max _).2 (Or.inr ⟨r, Finset.mem_univ _, (Finset.le_fold_max _).2 (Or.inr ⟨_, Finset.mem_univ _, le_rfl⟩)⟩)
    · exact amax_nonneg _
  · refine (Finset.fold_max_le _).2 ⟨by rw [cst, neg_bits]; exact bot_le, fun r _ => ?_⟩
    refine (Finset.fold_max_le _).2 ⟨by rw [cst, neg_bits]; exact bot_le, fun d _ => ?_⟩
    have q : ((⟨h.val % 2 * 64 + d.val, by omega⟩ : Fin 128) : ℕ) / 64 = h.val % 2 := by simp only; omega
    refine (Finset.le_fold_max _).2 (Or.inr ⟨⟨h.val % 2 * 64 + d.val, by omega⟩, Finset.mem_univ _, ?_⟩)
    rw [if_pos q, hcol _ q]
    refine (Finset.le_fold_max _).2 (Or.inr ⟨r, Finset.mem_univ _, ?_⟩)
    have e : (⟨(h.val % 2 * 64 + d.val) % 64, by omega⟩ : Fin 64) = d := Fin.ext (by simp only; omega)
    simp only [e]
    exact le_rfl

/-- The means of head `h`, in its own half of the lanes. -/
theorem mq8_at (h : Fin 8) (x : Fin 128) : trip.sl.v294 c arg2 iR8 k0_pay729 f k (ix2 h x)
    = if x.val / 64 = h.val % 2 then mean (hb (Xl c arg2 f k) h) ⟨x.val % 64, by omega⟩ else 0 := by
  have h1 : trip.sl.v294 c arg2 iR8 k0_pay729 f k (ix2 h x) = if x.val / 64 = h.val % 2 then k0_pay4 (Xl c arg2 f k) (ix2 0 ⟨h.val / 2 * 128 + x.val, by omega⟩) else 0 := by
    refine Eq.trans ?_ (sel_nested (fun l => k0_pay4 (Xl c arg2 f k) (ix2 0 l)) ![trip.sl.v99 iR8 k0_pay729 (ix2 h x), trip.sl.v134 iR8 k0_pay729 (ix2 h x),
      trip.sl.v169 iR8 k0_pay729 (ix2 h x), k0_pay22 iR8 k0_pay729 (2#32) (trip.sl.v109 iR8) (trip.sl.v116 iR8) (ix2 h x)] h x ?_ _ zero_bits)
    · pointwise [trip.sl.v294, k0_pay32, trip.sl.v212, k0_pay23, trip.sl.v177, trip.sl.v176, trip.sl.v175, trip.sl.v174, trip.sl.v142, trip.sl.v141, trip.sl.v140, trip.sl.v139, trip.sl.v107, trip.sl.v106,
        trip.sl.v105, trip.sl.v104, k0_pay9, trip.sl.v61]
    · intro p
      fin_cases p
      · exact mask0 h x
      · exact mask1 h x
      · exact mask2 h x
      · exact mask3 h x
  rw [h1]
  by_cases q : x.val / 64 = h.val % 2
  · rw [if_pos q, if_pos q, mq_row]
    have e1 : (⟨(h.val / 2 * 128 + x.val) / 64, by omega⟩ : Fin 8) = h := Fin.ext (lane_head h x q).1
    have e2 : (⟨(h.val / 2 * 128 + x.val) % 64, by omega⟩ : Fin 64) = ⟨x.val % 64, by omega⟩ := Fin.ext (lane_head h x q).2
    simp only [e1, e2]
  · rw [if_neg q, if_neg q]

/-- One halving step on every element. -/
def stepV (t : FVec Ideal S8x128 .f32) (f : IVec S8x128 32) (s : BitVec 32) : IVec S8x128 32 :=
  select (cmpf .oge t (bitcastToFloat .f32 (shli (addi f (broadcast S8x128 s)) (broadcast S8x128 23#32)))) (addi f (broadcast S8x128 s)) f

theorem stepV_at (t : FVec Ideal S8x128 .f32) (f : IVec S8x128 32) (s : BitVec 32) (h : Fin 8) (l : Fin 128) :
    stepV t f s (ix2 h l) = lstep (t (ix2 h l)) (f (ix2 h l)) s := by
  pointwise [stepV, lstep]

theorem word_at (h : Fin 8) (l : Fin 128) : k0_pay28 (trip.sl.v216 c arg2 iR8 k0_pay729 f k) (trip.sl.v279 c arg2 iR8 k0_pay729 f k) trip.sl.cst_68 (ix2 h l)
    = up (amax (hb (Xl c arg2 f k) h)) := by
  have e1 : trip.sl.v279 c arg2 iR8 k0_pay729 f k = addi (shli (stepV (trip.sl.v218 c arg2 iR8 k0_pay729 f k) (stepV (trip.sl.v218 c arg2 iR8 k0_pay729 f k) (stepV (trip.sl.v218 c arg2 iR8 k0_pay729 f k) (stepV (trip.sl.v218 c arg2 iR8 k0_pay729 f k) (stepV (trip.sl.v218 c arg2 iR8 k0_pay729 f k) (stepV (trip.sl.v218 c arg2 iR8 k0_pay729 f k) (stepV (trip.sl.v218 c arg2 iR8 k0_pay729 f k) (stepV (trip.sl.v218 c arg2 iR8 k0_pay729 f k)
      (broadcast S8x128 0#32) 128#32) 64#32) 32#32) 16#32) 8#32) 4#32) 2#32) 1#32) (broadcast S8x128 23#32)) (broadcast S8x128 8388608#32) := rfl
  have e2 : trip.sl.v218 c arg2 iR8 k0_pay729 f k (ix2 h l) = amax (hb (Xl c arg2 f k) h) * cst 0x3B124925#32 := by
    rw [← am_at c arg2 f k h l]
    pointwise [trip.sl.v218, k0_pay25]
    rfl
  rw [e1]
  pointwise [k0_pay28, stepV_at, e2, am_at, up, field]
  rw [show trip.sl.cst_68 (F := Ideal) = (0 : EReal) from zero_bits]

/-- The scale of head `h`, and its reciprocal. -/
theorem sq_at (h : Fin 8) (l : Fin 128) (b : amax (hb (Xl c arg2 f k) h) * cst 0x3B124925#32 < (((2 : ℝ) ^ (121 : ℤ) : ℝ) : EReal)) :
    trip.sl.v286 c arg2 iR8 k0_pay729 f k (ix2 h l) = scale (amax (hb (Xl c arg2 f k) h)) := by
  refine Eq.trans ?_ (up_scale (amax_nonneg _) b).1
  rw [← word_at c arg2 f k h l]
  rfl

theorem inv_at (h : Fin 8) (l : Fin 128) (b : amax (hb (Xl c arg2 f k) h) * cst 0x3B124925#32 < (((2 : ℝ) ^ (121 : ℤ) : ℝ) : EReal)) :
    trip.sl.v287 c arg2 iR8 k0_pay729 f k (ix2 h l) = Ideal.div 1 (scale (amax (hb (Xl c arg2 f k) h))) := by
  refine Eq.trans ?_ (up_scale (amax_nonneg _) b).2
  rw [← word_at c arg2 f k h l]
  rfl

end Cert.Proof.KernelIdeal
-- ==== Proof.KI.Quant3.lean ====
/- The codes of the four pairs of heads, element by element: as stored, and with one head of the pair zeroed. -/
module

public import proofs.«01_k».proof.Proof.KI.Quant2

@[expose] public section

noncomputable section

namespace Cert.Proof.KernelIdeal

open Cert.KernelIdeal Cert.KernelIdeal.Gen Idealize.ShloMosaic Cert.Proof.Spec Cert.Proof.Ladder

/-- The code of lane `l` of pair `p` of heads at position `r`. -/
def codeP (X : Vec Ideal S1x128x512 .bf16) (p : Fin 4) (r l : Fin 128) : EReal :=
  code (hb X ⟨2 * p.val + l.val / 64, by omega⟩) r ⟨l.val % 64, by omega⟩

theorem fp8_zero : Ideal.ofBits .fp8e4m3 0x00#8 = 0 := by simp [Ideal.ofBits, Ideal.e4m3fn]

theorem sge_small {a b : ℕ} (ha : a < 2 ^ 31) (hb : b < 2 ^ 31) : IntOp.cmpi CmpIPredicate.sge (BitVec.ofNat 32 a) (BitVec.ofNat 32 b)
    = if b ≤ a then 1#1 else 0#1 := by
  rw [← sle_small hb ha]
  rfl

theorem code_of (X : Vec Ideal S1x128x512 .bf16) (p : Fin 4) (r l : Fin 128) (z : EReal)
    (hz : z = k0_pay6 X (ix2 r ⟨128 * p.val + l.val, by omega⟩)) :
    min (Ideal.ofBits .f32 1138753536#32) (max (Ideal.ofBits .f32 3286237184#32) (z *
      Scalar.select (if l.val < 64 then 1#1 else 0#1) (Ideal.div 1 (scale (amax (hb X ⟨2 * p.val, by omega⟩))))
        (Ideal.div 1 (scale (amax (hb X ⟨2 * p.val + 1, by omega⟩)))))) = codeP X p r l := by
  have e1 : (⟨(128 * p.val + l.val) / 64, by omega⟩ : Fin 8) = ⟨2 * p.val + l.val / 64, by omega⟩ := Fin.ext (by simp only; omega)
  have e2 : (⟨(128 * p.val + l.val) % 64, by omega⟩ : Fin 64) = ⟨l.val % 64, by omega⟩ := Fin.ext (by simp only; omega)
  rw [hz, z_at, codeP, code]
  simp only [e1, e2]
  by_cases q : l.val < 64
  · have e : (⟨2 * p.val + l.val / 64, by omega⟩ : Fin 8) = ⟨2 * p.val, by omega⟩ := Fin.ext (by simp only; omega)
    simp [q, Scalar.select, e, cst]
  · have e : (⟨2 * p.val + l.val / 64, by omega⟩ : Fin 8) = ⟨2 * p.val + 1, by omega⟩ := Fin.ext (by simp only; omega)
    simp [q, Scalar.select, e, cst]

variable (c : Dev nD) (arg2 : Memref sig .tc .vmem S1x512x512 .bf16) (f : Bf (F := Ideal) c arg2) (k : Fin k0_t1_loop.trips)

/-- The codes of pair 0 of heads, as used and as stored. -/
theorem codes0 (b : ∀ h, amax (hb (Xl c arg2 f k) h) * cst 0x3B124925#32 < (((2 : ℝ) ^ (121 : ℤ) : ℝ) : EReal)) (r l : Fin 128) :
    k0_pay86 iL1 (trip.sl.v67 c arg2 f k) (trip.sl.v287 c arg2 iR8 k0_pay729 f k) (ix2 r l) = codeP (Xl c arg2 f k) 0 r l := by
  pointwise [k0_pay86, k0_pay85]
  rw [slt_small (by omega) (by omega), inv_at _ _ _ _ _ _ (b _), inv_at _ _ _ _ _ _ (b _)]
  exact code_of _ 0 r l _ (congrArg (fun w => k0_pay6 (Xl c arg2 f k) (ix2 r w)) (Fin.ext (by simp)))

theorem stored0 (b : ∀ h, amax (hb (Xl c arg2 f k) h) * cst 0x3B124925#32 < (((2 : ℝ) ^ (121 : ℤ) : ℝ) : EReal)) (r l : Fin 128) :
    k0_pay87 iL1 (trip.sl.v67 c arg2 f k) (trip.sl.v287 c arg2 iR8 k0_pay729 f k) (ix3 0 l r) = codeP (Xl c arg2 f k) 0 r l := by
  rw [← codes0 c arg2 f k b r l]
  pointwise [k0_pay87, k0_pay86, k0_pay85]

theorem low0 (b : ∀ h, amax (hb (Xl c arg2 f k) h) * cst 0x3B124925#32 < (((2 : ℝ) ^ (121 : ℤ) : ℝ) : EReal)) (r l : Fin 128) :
    trip.sl.v642 c arg2 iR8 k0_pay729 iL1 iCl f k (ix2 r l) = if l.val / 64 = 0 then codeP (Xl c arg2 f k) 0 r l else 0 := by
  rw [← codes0 c arg2 f k b r l]
  pointwise [trip.sl.v642, k0_pay88]
  rw [slt_small (by omega) (by omega), fp8_zero]
  by_cases q : l.val < 64
  · simp [q, Scalar.select, show l.val / 64 = 0 by omega]; try rfl
  · simp [q, Scalar.select, show ¬ l.val < 64 by omega]

theorem high0 (b : ∀ h, amax (hb (Xl c arg2 f k) h) * cst 0x3B124925#32 < (((2 : ℝ) ^ (121 : ℤ) : ℝ) : EReal)) (r l : Fin 128) :
    trip.sl.v1157 c arg2 iR8 k0_pay729 iL1 iCl f k (ix2 r l) = if l.val / 64 = 1 then codeP (Xl c arg2 f k) 0 r l else 0 := by
  rw [← codes0 c arg2 f k b r l]
  pointwise [trip.sl.v1157, k0_pay165, trip.sl.v632]
  rw [sge_small (by omega) (by omega), fp8_zero]
  by_cases q : 64 ≤ l.val
  · simp [q, Scalar.select, show l.val / 64 = 1 by omega]; try rfl
  · simp [q, Scalar.select, show ¬ l.val / 64 = 1 by omega]

/-- The codes of pair 1 of heads, as used and as stored. -/
theorem codes1 (b : ∀ h, amax (hb (Xl c arg2 f k) h) * cst 0x3B124925#32 < (((2 : ℝ) ^ (121 : ℤ) : ℝ) : EReal)) (r l : Fin 128) :
    k0_pay244 iL1 (trip.sl.v67 c arg2 f k) (trip.sl.v287 c arg2 iR8 k0_pay729 f k) (ix2 r l) = codeP (Xl c arg2 f k) 1 r l := by
  pointwise [k0_pay244, k0_pay243]
  rw [slt_small (by omega) (by omega), inv_at _ _ _ _ _ _ (b _), inv_at _ _ _ _ _ _ (b _)]
  exact code_of _ 1 r l _ (congrArg (fun w => k0_pay6 (Xl c arg2 f k) (ix2 r w)) (Fin.ext (by simp)))

theorem stored1 (b : ∀ h, amax (hb (Xl c arg2 f k) h) * cst 0x3B124925#32 < (((2 : ℝ) ^ (121 : ℤ) : ℝ) : EReal)) (r l : Fin 128) :
    k0_pay246 (trip.sl.v1691 c arg2 iR8 k0_pay729 iL1 f k) (ix3 0 l r) = codeP (Xl c arg2 f k) 1 r l := by
  rw [← codes1 c arg2 f k b r l]
  pointwise [k0_pay246, trip.sl.v1691, k0_pay245, k0_pay244, k0_pay243]

theorem low1 (b : ∀ h, amax (hb (Xl c arg2 f k) h) * cst 0x3B124925#32 < (((2 : ℝ) ^ (121 : ℤ) : ℝ) : EReal)) (r l : Fin 128) :
    trip.sl.v1699 c arg2 iR8 k0_pay729 iL1 iCl f k (ix2 r l) = if l.val / 64 = 0 then codeP (Xl c arg2 f k) 1 r l else 0 := by
  rw [← codes1 c arg2 f k b r l]
  pointwise [trip.sl.v1699, k0_pay247, trip.sl.v1689]
  rw [slt_small (by omega) (by omega), fp8_zero]
  by_cases q : l.val < 64
  · simp [q, Scalar.select, show l.val / 64 = 0 by omega]; try rfl
  · simp [q, Scalar.select, show ¬ l.val < 64 by omega]

theorem high1 (b : ∀ h, amax (hb (Xl c arg2 f k) h) * cst 0x3B124925#32 < (((2 : ℝ) ^ (121 : ℤ) : ℝ) : EReal)) (r l : Fin 128) :
    trip.sl.v2214 c arg2 iR8 k0_pay729 iL1 iCl f k (ix2 r l) = if l.val / 64 = 1 then codeP (Xl c arg2 f k) 1 r l else 0 := by
  rw [← codes1 c arg2 f k b r l]
  pointwise [trip.sl.v2214, k0_pay325, trip.sl.v1689]
  rw [sge_small (by omega) (by omega), fp8_zero]
  by_cases q : 64 ≤ l.val
  · simp [q, Scalar.select, show l.val / 64 = 1 by omega]; try rfl
  · simp [q, Scalar.select, show ¬ l.val / 64 = 1 by omega]

/-- The codes of pair 2 of heads, as used and as stored. -/
theorem codes2 (b : ∀ h, amax (hb (Xl c arg2 f k) h) * cst 0x3B124925#32 < (((2 : ℝ) ^ (121 : ℤ) : ℝ) : EReal)) (r l : Fin 128) :
    k0_pay404 iL1 (trip.sl.v67 c arg2 f k) (trip.sl.v287 c arg2 iR8 k0_pay729 f k) (ix2 r l) = codeP (Xl c arg2 f k) 2 r l := by
  pointwise [k0_pay404, k0_pay403]
  rw [slt_small (by omega) (by omega), inv_at _ _ _ _ _ _ (b _), inv_at _ _ _ _ _ _ (b _)]
  exact code_of _ 2 r l _ (congrArg (fun w => k0_pay6 (Xl c arg2 f k) (ix2 r w)) (Fin.ext (by simp)))

theorem stored2 (b : ∀ h, amax (hb (Xl c arg2 f k) h) * cst 0x3B124925#32 < (((2 : ℝ) ^ (121 : ℤ) : ℝ) : EReal)) (r l : Fin 128) :
    k0_pay405 iL1 (trip.sl.v67 c arg2 f k) (trip.sl.v287 c arg2 iR8 k0_pay729 f k) (ix3 0 l r) = codeP (Xl c arg2 f k) 2 r l := by
  rw [← codes2 c arg2 f k b r l]
  pointwise [k0_pay405, k0_pay404, k0_pay403]

theorem low2 (b : ∀ h, amax (hb (Xl c arg2 f k) h) * cst 0x3B124925#32 < (((2 : ℝ) ^ (121 : ℤ) : ℝ) : EReal)) (r l : Fin 128) :
    trip.sl.v2756 c arg2 iR8 k0_pay729 iL1 iCl f k (ix2 r l) = if l.val / 64 = 0 then codeP (Xl c arg2 f k) 2 r l else 0 := by
  rw [← codes2 c arg2 f k b r l]
  pointwise [trip.sl.v2756, k0_pay406]
  rw [slt_small (by omega) (by omega), fp8_zero]
  by_cases q : l.val < 64
  · simp [q, Scalar.select, show l.val / 64 = 0 by omega]; try rfl
  · simp [q, Scalar.select, show ¬ l.val < 64 by omega]

theorem high2 (b : ∀ h, amax (hb (Xl c arg2 f k) h) * cst 0x3B124925#32 < (((2 : ℝ) ^ (121 : ℤ) : ℝ) : EReal)) (r l : Fin 128) :
    trip.sl.v3271 c arg2 iR8 k0_pay729 iL1 iCl f k (ix2 r l) = if l.val / 64 = 1 then codeP (Xl c arg2 f k) 2 r l else 0 := by
  rw [← codes2 c arg2 f k b r l]
  pointwise [trip.sl.v3271, k0_pay482, trip.sl.v2746]
  rw [sge_small (by omega) (by omega), fp8_zero]
  by_cases q : 64 ≤ l.val
  · simp [q, Scalar.select, show l.val / 64 = 1 by omega]; try rfl
  · simp [q, Scalar.select, show ¬ l.val / 64 = 1 by omega]

/-- The codes of pair 3 of heads, as used and as stored. -/
theorem codes3 (b : ∀ h, amax (hb (Xl c arg2 f k) h) * cst 0x3B124925#32 < (((2 : ℝ) ^ (121 : ℤ) : ℝ) : EReal)) (r l : Fin 128) :
    k0_pay562 (trip.sl.v3796 c arg2 f k) (trip.sl.v3797 c arg2 iR8 k0_pay729 iL1 f k) (ix2 r l) = codeP (Xl c arg2 f k) 3 r l := by
  pointwise [k0_pay562, k0_pay561, trip.sl.v3796, trip.sl.v3797, k0_pay559, k0_pay560]
  rw [slt_small (by omega) (by omega), inv_at _ _ _ _ _ _ (b _), inv_at _ _ _ _ _ _ (b _)]
  exact code_of _ 3 r l _ (congrArg (fun w => k0_pay6 (Xl c arg2 f k) (ix2 r w)) (Fin.ext (by simp)))

theorem stored3 (b : ∀ h, amax (hb (Xl c arg2 f k) h) * cst 0x3B124925#32 < (((2 : ℝ) ^ (121 : ℤ) : ℝ) : EReal)) (r l : Fin 128) :
    k0_pay563 (trip.sl.v3796 c arg2 f k) (trip.sl.v3797 c arg2 iR8 k0_pay729 iL1 f k) (ix3 0 l r) = codeP (Xl c arg2 f k) 3 r l := by
  rw [← codes3 c arg2 f k b r l]
  pointwise [k0_pay563, k0_pay562, k0_pay561, trip.sl.v3796, trip.sl.v3797, k0_pay559, k0_pay560]

theorem low3 (b : ∀ h, amax (hb (Xl c arg2 f k) h) * cst 0x3B124925#32 < (((2 : ℝ) ^ (121 : ℤ) : ℝ) : EReal)) (r l : Fin 128) :
    trip.sl.v3813 c arg2 iR8 k0_pay729 iL1 iCl f k (ix2 r l) = if l.val / 64 = 0 then codeP (Xl c arg2 f k) 3 r l else 0 := by
  rw [← codes3 c arg2 f k b r l]
  pointwise [trip.sl.v3813, k0_pay564]
  rw [slt_small (by omega) (by omega), fp8_zero]
  by_cases q : l.val < 64
  · simp [q, Scalar.select, show l.val / 64 = 0 by omega]; try rfl
  · simp [q, Scalar.select, show ¬ l.val < 64 by omega]

theorem high3 (b : ∀ h, amax (hb (Xl c arg2 f k) h) * cst 0x3B124925#32 < (((2 : ℝ) ^ (121 : ℤ) : ℝ) : EReal)) (r l : Fin 128) :
    trip.sl.v4328 c arg2 iR8 k0_pay729 iL1 iCl f k (ix2 r l) = if l.val / 64 = 1 then codeP (Xl c arg2 f k) 3 r l else 0 := by
  rw [← codes3 c arg2 f k b r l]
  pointwise [trip.sl.v4328, k0_pay646, trip.sl.v3803]
  rw [sge_small (by omega) (by omega), fp8_zero]
  by_cases q : 64 ≤ l.val
  · simp [q, Scalar.select, show l.val / 64 = 1 by omega]; try rfl
  · simp [q, Scalar.select, show ¬ l.val / 64 = 1 by omega]

end Cert.Proof.KernelIdeal
-- ==== Proof.KI.TripVal.lean ====
/- One trip of the kernel's loop over query blocks: what it loads from its blocks, and the output of each head as the attention
   of the block's rows. -/
module

public import proofs.«01_k».proof.Proof.KI.HeadOut
public import proofs.«01_k».proof.Proof.KI.Store
public import proofs.«01_k».proof.Proof.KI.Quant3
public import Idealize.ShloMosaic.Lib.Pipeline.ValueKit.Tiles

@[expose] public section

noncomputable section

namespace Cert.Proof.KernelIdeal

open Cert.KernelIdeal Cert.KernelIdeal.Gen Idealize.ShloMosaic Idealize.ShloMosaic.TcCoe Cert.Proof.Spec Cert.Proof.Window

theorem trips4 : k0_t1_loop.trips = 4 := by decide

theorem step_lt (i : grid0.Coords) : (i 1).val < 64 := (i 1).isLt

/-- The number of the query block the trip works on. -/
def nb (i : grid0.Coords) (k : Fin k0_t1_loop.trips) : Fin 256 :=
  ⟨4 * (i 1).val + k.val, by have := step_lt i; have := k.isLt; have := trips4; omega⟩

/-- The block of queries of head `h` the trip works on, out of the point's four. -/
def xb (x2 : Vec Ideal S1x512x512 .bf16) (k : Fin k0_t1_loop.trips) (h : Fin 8) : Fin 128 → Fin 64 → EReal := fun r d =>
  x2 (ix3 0 ⟨128 * k.val + r.val, by have := k.isLt; have := trips4; omega⟩ ⟨h.val * 64 + d.val, by omega⟩)

/-- The score of row `r` against key `j` of tile `τ`, the window aside. -/
def tscB (x2 : Vec Ideal S1x512x512 .bf16) (x3 : Vec Ideal S1x268x128x128 .fp8e4m3) (x5 : Vec Ideal S1x268x128 .f32) (k : Fin k0_t1_loop.trips)
    (h : Fin 8) (r : Fin 128) (τ : Fin 268) (j : Fin 128) : EReal :=
  x5 (ix3 0 τ j) * (scale (amax (xb x2 k h)) * ∑ d : Fin 64, code (xb x2 k h) r d * x3 (ix4 0 τ ⟨h.val % 2 * 64 + d.val, by omega⟩ j)
    + ∑ d : Fin 64, mean (xb x2 k h) d * x3 (ix4 0 τ ⟨h.val % 2 * 64 + d.val, by omega⟩ j))

/-- The output of head `h` at row `r` and column `d` of the head's pair. -/
def outB (i : grid0.Coords) (k : Fin k0_t1_loop.trips) (x2 : Vec Ideal S1x512x512 .bf16) (x3 x4 : Vec Ideal S1x268x128x128 .fp8e4m3)
    (x5 : Vec Ideal S1x268x128 .f32) (x6 : Vec Ideal S1x1x128 .f32) (h : Fin 8) (r d : Fin 128) : EReal :=
  attend (sc (nb i k) r (tscB x2 x3 x5 k h r)) (fun κ => x4 (ix4 0 ⟨12 + κ.val / 128, by omega⟩ d ⟨κ.val % 128, by omega⟩)) (x6 (ix3 0 0 d))

section

variable (c : Dev nD) (i : grid0.Coords)
    (arg2 : Memref sig .tc .vmem S1x512x512 .bf16) (harg2 : arg2.IsWhole) (arg3 : Memref sig .tc .vmem S1x268x128x128 .fp8e4m3) (harg3 : arg3.IsWhole)
    (arg4 : Memref sig .tc .vmem S1x268x128x128 .fp8e4m3) (harg4 : arg4.IsWhole) (arg5 : Memref sig .tc .vmem S1x268x128 .f32) (harg5 : arg5.IsWhole)
    (arg6 : Memref sig .tc .vmem S1x1x128 .f32) (harg6 : arg6.IsWhole) (arg11 : Memref sig .tc .vmem S2x12x128x128 .f32)
    (arg12 : Memref sig .tc .vmem S2x128x1664 .fp8e4m3) (arg13 : Memref sig .tc .vmem S13x8x128 .f32)
    (arg14 : Memref sig .tc .vmem S13x8x128 .f32)
    (x2 : Vec Ideal S1x512x512 .bf16) (x3 x4 : Vec Ideal S1x268x128x128 .fp8e4m3) (x5 : Vec Ideal S1x268x128 .f32) (x6 : Vec Ideal S1x1x128 .f32)
    (k : Fin k0_t1_loop.trips)

theorem base_eq : trip.sl.v49 (BitVec.ofNat 32 (i 1).val) k = BitVec.ofNat 32 (nb i k).val := by
  have h := step_lt i
  have h' : k.val < 4 := trips4 ▸ k.isLt
  show Scalar.addi (Scalar.muli (BitVec.ofNat 32 (i 1).val) 4#32) _ = _
  apply BitVec.eq_of_toNat_eq
  have e : (trip.sl.arg15 k).toNat = k.val := by revert k; decide
  simp [Scalar.addi, Scalar.muli, IntOp.addi, IntOp.muli, nb, e]
  omega

theorem Xl_at (r : Fin 128) (l : Fin 512) : Xl (F := Ideal) c arg2 (harg2.unread x2) k (ix3 0 r l)
    = x2 (ix3 0 ⟨128 * k.val + r.val, by have := k.isLt; have := trips4; omega⟩ l) := by
  unfold Xl
  rw [View.readAt_eq_ld, harg2.read_unread]
  refine View.ld_unit_apply_of _ _ _ _ _ _ fun a => ?_
  refine Eq.trans ?_ (congrArg (fun z => z + _) (congrFun (k0_off1_eq k) a).symm)
  fin_cases a <;> simp [ix3]

theorem Kl_at (arg3 : Memref sig .tc .vmem S1x268x128x128 .fp8e4m3) (harg3 : arg3.IsWhole) (x3 : Vec Ideal S1x268x128x128 .fp8e4m3)
    (t : Fin 13) (x j : Fin 128) : Kl (F := Ideal) c i arg3 (harg3.unread x3) k t (ix4 0 0 x j)
    = x3 (ix4 0 ⟨(nb i k).val + t.val, by omega⟩ x j) := by
  unfold Kl
  rw [View.readAt_eq_ld, harg3.read_unread]
  refine View.ld_unit_apply_of _ _ _ _ _ _ fun a => ?_
  refine Eq.trans ?_ (congrArg (fun z => z + _) (congrFun (k0_off4_eq i k t) a).symm)
  fin_cases a <;> simp [ix4, nb]

theorem Sl_at (t : Fin 13) (j : Fin 128) : Sl (F := Ideal) c i arg5 (harg5.unread x5) k t (ix3 0 0 j)
    = x5 (ix3 0 ⟨(nb i k).val + t.val, by omega⟩ j) := by
  unfold Sl
  rw [View.readAt_eq_ld, harg5.read_unread]
  refine View.ld_unit_apply_of _ _ _ _ _ _ fun a => ?_
  refine Eq.trans ?_ (congrArg (fun z => z + _) (congrFun (k0_off5_eq i k t) a).symm)
  fin_cases a <;> simp [ix3, nb]

theorem Wl_at (j : Fin 128) : Wl (F := Ideal) c arg6 (harg6.unread x6) (ix3 0 0 j) = x6 (ix3 0 0 j) := by
  unfold Wl
  rw [View.readAt_eq_ld, harg6.read_unread]
  refine View.ld_unit_apply_of _ _ _ _ _ _ fun a => ?_
  fin_cases a <;> simp [ix3]

theorem hb_Xl (h : Fin 8) : hb (Xl (F := Ideal) c arg2 (harg2.unread x2) k) h = xb x2 k h := by
  funext r d
  exact Xl_at c arg2 harg2 x2 k r _

/-- What a head leaves in scratch determines its output: the attention of the rows of its block. -/
theorem head_trip (h : Fin 8) (e : Fin 2) (q : FVec Ideal S128x128 .fp8e4m3)
    (Hs Ls : List (View.Piece (Elt Ideal) S2x12x128x128 .f32)) (Hp Lp : List (View.Piece (Elt Ideal) S2x128x1664 .fp8e4m3))
    (es : Hs = sPieces e (tileV cz q (Kl c i arg3 (harg3.unread x3) k) (Al c i arg2 arg5 arg13 iR8 k0_pay729 (harg2.unread x2) (harg5.unread x5) k h)
      (Bl c i arg2 arg3 arg5 arg14 (BitVec.ofNat 32 (i 1).val) iR8 k0_pay729 (harg2.unread x2) (harg3.unread x3) (harg5.unread x5) k h)) ++ Ls)
    (ep : Hp = pPieces e (probV cz (shiftV (tileV cz q (Kl c i arg3 (harg3.unread x3) k) (Al c i arg2 arg5 arg13 iR8 k0_pay729 (harg2.unread x2) (harg5.unread x5) k h)
      (Bl c i arg2 arg3 arg5 arg14 (BitVec.ofNat 32 (i 1).val) iR8 k0_pay729 (harg2.unread x2) (harg3.unread x3) (harg5.unread x5) k h)))
        fun t => arg11.view.readCov Hs (rS e t).toLoadRect) ++ Lp)
    (hq : ∀ r x, q (ix2 r x) = if x.val / 64 = h.val % 2 then code (hb (Xl c arg2 (harg2.unread x2) k) h) r ⟨x.val % 64, by omega⟩ else 0)
    (b : ∀ h, amax (xb x2 k h) * cst 0x3B124925#32 < (((2 : ℝ) ^ (121 : ℤ) : ℝ) : EReal))
    (h0 : ∀ t j, 0 ≤ x5 (ix3 0 t j)) (h1 : ∀ t j, x5 (ix3 0 t j) ≠ ⊤) (r d : Fin 128) :
    headV (fun t => arg12.view.readCov Hp (rP e t).toLoadRect) (Vl c i arg4 (harg4.unread x4) k) (Wl c arg6 (harg6.unread x6))
      (sumV (shiftV (tileV cz q (Kl c i arg3 (harg3.unread x3) k) (Al c i arg2 arg5 arg13 iR8 k0_pay729 (harg2.unread x2) (harg5.unread x5) k h)
        (Bl c i arg2 arg3 arg5 arg14 (BitVec.ofNat 32 (i 1).val) iR8 k0_pay729 (harg2.unread x2) (harg3.unread x3) (harg5.unread x5) k h)))
        fun t => arg11.view.readCov Hs (rS e t).toLoadRect) (ix2 r d)
      = outB i k x2 x3 x4 x5 x6 h r d := by
  rw [outB, ← Wl_at c arg6 harg6 x6 d]
  refine head_out (nb i k) r (tscB x2 x3 x5 k h r) (fun τ x => x4 (ix4 0 τ d x)) q _ _ _ _ _ _ _ d ?_ ?_ ?_ ?_
  · intro t j
    rw [es, load_s_at]
  · intro t j
    rw [ep, load_p_at]
  · intro t j
    rw [tile, score_tile (nb i k) h (xb x2 k h) r q (trip.sl.v294 c arg2 iR8 k0_pay729 (harg2.unread x2) k)
      (trip.sl.v286 c arg2 iR8 k0_pay729 (harg2.unread x2) k) _ _ _ (fun x j => x3 (ix4 0 ⟨(nb i k).val + t.val, by omega⟩ x j))
      (x5 (ix3 0 ⟨(nb i k).val + t.val, by omega⟩ j)) (if (nb i k).val + t.val < 12 then ⊥ else 0) j]
    · rw [tscB]
      by_cases g : (nb i k).val + t.val < 12
      · rw [if_pos g, if_pos g, EReal.add_bot]
      · rw [if_neg g, if_neg g, add_zero]
    · intro x; rw [hq, hb_Xl]
    · intro x; rw [mq8_at, hb_Xl]
    · intro x; exact Kl_at c i k arg3 harg3 x3 t x j
    · rw [Al, arg13_eq, load_a_at, rowsA_at, Sl_at]
    · rw [Bl, arg14_eq, load_a_at, base_eq, rowsB_at, Sl_at]
    · rw [sq_at _ _ _ _ _ _ (by rw [hb_Xl]; exact b h), hb_Xl]
    · exact h0 _ _
    · exact h1 _ _
  · intro t x
    exact Kl_at c i k arg4 harg4 x4 t d x

end

end Cert.Proof.KernelIdeal
-- ==== Proof.KI.Heads.lean ====
/- The outputs of the four pairs of heads one trip stores: the attention of the rows of its query block. -/
module

public import proofs.«01_k».proof.Proof.KI.TripVal

@[expose] public section

noncomputable section

namespace Cert.Proof.KernelIdeal

open Cert.KernelIdeal Cert.KernelIdeal.Gen Idealize.ShloMosaic Idealize.ShloMosaic.TcCoe Cert.Proof.Spec Cert.Proof.Window

/-- The masked codes of one head of a pair are the head's codes in its half of the lanes. -/
theorem half_code (X : Vec Ideal S1x128x512 .bf16) (p : Fin 4) (h : Fin 8) (e : ℕ) (he : e = h.val % 2) (hp : h.val = 2 * p.val + e) (r x : Fin 128) :
    (if x.val / 64 = e then codeP X p r x else 0) = if x.val / 64 = h.val % 2 then code (hb X h) r ⟨x.val % 64, by omega⟩ else 0 := by
  rw [← he]
  by_cases g : x.val / 64 = e
  · rw [if_pos g, if_pos g, codeP]
    have : (⟨2 * p.val + x.val / 64, by omega⟩ : Fin 8) = h := Fin.ext (by simp only; omega)
    rw [this]
  · rw [if_neg g, if_neg g]

/-- The pair's block holds each head's output in the head's half of the lanes. -/
theorem pair_out (G : Fin 8 → Fin 128 → Fin 128 → EReal) (p : Fin 4) (o0 o1 : FVec Ideal S128x128 .f32)
    (h0 : ∀ r l, o0 (ix2 r l) = G ⟨2 * p.val, by omega⟩ r l) (h1 : ∀ r l, o1 (ix2 r l) = G ⟨2 * p.val + 1, by omega⟩ r l) (r l : Fin 128) :
    pairV iCl o0 o1 (ix3 0 r l) = G ⟨2 * p.val + l.val / 64, by omega⟩ r l := by
  refine (pairV_at o0 o1 r l).trans ?_
  by_cases g : l.val < 64
  · rw [if_pos g, h0]
    exact congrArg (fun w => G w r l) (Fin.ext (by simp only; omega))
  · rw [if_neg g, h1]
    exact congrArg (fun w => G w r l) (Fin.ext (by simp only; omega))

section

variable (c : Dev nD) (i : grid0.Coords)
    (arg2 : Memref sig .tc .vmem S1x512x512 .bf16) (harg2 : arg2.IsWhole) (arg3 : Memref sig .tc .vmem S1x268x128x128 .fp8e4m3) (harg3 : arg3.IsWhole)
    (arg4 : Memref sig .tc .vmem S1x268x128x128 .fp8e4m3) (harg4 : arg4.IsWhole) (arg5 : Memref sig .tc .vmem S1x268x128 .f32) (harg5 : arg5.IsWhole)
    (arg6 : Memref sig .tc .vmem S1x1x128 .f32) (harg6 : arg6.IsWhole) (arg11 : Memref sig .tc .vmem S2x12x128x128 .f32)
    (arg12 : Memref sig .tc .vmem S2x128x1664 .fp8e4m3) (arg13 : Memref sig .tc .vmem S13x8x128 .f32)
    (arg14 : Memref sig .tc .vmem S13x8x128 .f32)
    (x2 : Vec Ideal S1x512x512 .bf16) (x3 x4 : Vec Ideal S1x268x128x128 .fp8e4m3) (x5 : Vec Ideal S1x268x128 .f32) (x6 : Vec Ideal S1x1x128 .f32)
    (k : Fin k0_t1_loop.trips)
    (b : ∀ h, amax (xb x2 k h) * cst 0x3B124925#32 < (((2 : ℝ) ^ (121 : ℤ) : ℝ) : EReal))
    (h0 : ∀ t j, 0 ≤ x5 (ix3 0 t j)) (h1 : ∀ t j, x5 (ix3 0 t j) ≠ ⊤)

include b in
theorem bX : ∀ h, amax (hb (Xl c arg2 (harg2.unread x2) k) h) * cst 0x3B124925#32 < (((2 : ℝ) ^ (121 : ℤ) : ℝ) : EReal) :=
  fun h => by rw [hb_Xl]; exact b h

include b h0 h1 in
/-- The block of outputs of pair 0. -/
theorem out0_at (r l : Fin 128) : k0_pay242 iCl (trip.sl.v1153 c i arg2 arg3 arg4 arg5 arg6 arg11 arg12 arg13 arg14 (BitVec.ofNat 32 (i 1).val) iR8 k0_pay729 iL1 iRw iCl (harg2.unread x2) (harg3.unread x3) (harg4.unread x4) (harg5.unread x5) (harg6.unread x6) k) (trip.sl.v1557 c i arg2 arg3 arg5 arg11 arg13 arg14 (BitVec.ofNat 32 (i 1).val) iR8 k0_pay729 iL1 iRw iCl (harg2.unread x2) (harg3.unread x3) (harg5.unread x5) k) (trip.sl.v1646 c i arg2 arg3 arg4 arg5 arg11 arg12 arg13 arg14 (BitVec.ofNat 32 (i 1).val) iR8 k0_pay729 iL1 iRw iCl (harg2.unread x2) (harg3.unread x3) (harg4.unread x4) (harg5.unread x5) k) (trip.sl.v1648 c i arg2 arg3 arg5 arg11 arg12 arg13 arg14 (BitVec.ofNat 32 (i 1).val) iR8 k0_pay729 iL1 iRw iCl (harg2.unread x2) (harg3.unread x3) (harg5.unread x5) k) (View.readAt (Elt Ideal) arg4.view (Rect.unit (s := S1x268x128x128) (k0_off4 i k 11#32) S1x1x128x128.size (k0_off4_inb i k 11)).toLoadRect (harg4.unread x4)) (trip.sl.v1655 c i arg2 arg3 arg5 arg11 arg12 arg13 arg14 (BitVec.ofNat 32 (i 1).val) iR8 k0_pay729 iL1 iRw iCl (harg2.unread x2) (harg3.unread x3) (harg5.unread x5) k) (View.readAt (Elt Ideal) arg4.view (Rect.unit (s := S1x268x128x128) (k0_off4 i k 12#32) S1x1x128x128.size (k0_off4_inb i k 12)).toLoadRect (harg4.unread x4)) (View.readAt (Elt Ideal) arg6.view (Rect.unit (s := S1x1x128) ![0, 0, 0] S1x1x128.size inb_S1x1x128_S1x1x128_0_0_0).toLoadRect (harg6.unread x6)) (ix3 0 r l)
    = outB i k x2 x3 x4 x5 x6 ⟨2 * (0 : Fin 4).val + l.val / 64, by omega⟩ r l := by
  rw [show k0_pay242 iCl (trip.sl.v1153 c i arg2 arg3 arg4 arg5 arg6 arg11 arg12 arg13 arg14 (BitVec.ofNat 32 (i 1).val) iR8 k0_pay729 iL1 iRw iCl (harg2.unread x2) (harg3.unread x3) (harg4.unread x4) (harg5.unread x5) (harg6.unread x6) k) (trip.sl.v1557 c i arg2 arg3 arg5 arg11 arg13 arg14 (BitVec.ofNat 32 (i 1).val) iR8 k0_pay729 iL1 iRw iCl (harg2.unread x2) (harg3.unread x3) (harg5.unread x5) k) (trip.sl.v1646 c i arg2 arg3 arg4 arg5 arg11 arg12 arg13 arg14 (BitVec.ofNat 32 (i 1).val) iR8 k0_pay729 iL1 iRw iCl (harg2.unread x2) (harg3.unread x3) (harg4.unread x4) (harg5.unread x5) k) (trip.sl.v1648 c i arg2 arg3 arg5 arg11 arg12 arg13 arg14 (BitVec.ofNat 32 (i 1).val) iR8 k0_pay729 iL1 iRw iCl (harg2.unread x2) (harg3.unread x3) (harg5.unread x5) k) (View.readAt (Elt Ideal) arg4.view (Rect.unit (s := S1x268x128x128) (k0_off4 i k 11#32) S1x1x128x128.size (k0_off4_inb i k 11)).toLoadRect (harg4.unread x4)) (trip.sl.v1655 c i arg2 arg3 arg5 arg11 arg12 arg13 arg14 (BitVec.ofNat 32 (i 1).val) iR8 k0_pay729 iL1 iRw iCl (harg2.unread x2) (harg3.unread x3) (harg5.unread x5) k) (View.readAt (Elt Ideal) arg4.view (Rect.unit (s := S1x268x128x128) (k0_off4 i k 12#32) S1x1x128x128.size (k0_off4_inb i k 12)).toLoadRect (harg4.unread x4)) (View.readAt (Elt Ideal) arg6.view (Rect.unit (s := S1x1x128) ![0, 0, 0] S1x1x128.size inb_S1x1x128_S1x1x128_0_0_0).toLoadRect (harg6.unread x6)) = _ from o0_eq ..]
  exact pair_out (fun h r l => outB i k x2 x3 x4 x5 x6 h r l) 0 _ _
    (head_trip c i arg2 harg2 arg3 harg3 arg4 harg4 arg5 harg5 arg6 harg6 arg11 arg12 arg13 arg14 x2 x3 x4 x5 x6 k 0 0 _ _ _ _ _ (s0_eq ..) (p0_eq ..)
      (fun r x => (low0 c arg2 _ k (bX c arg2 harg2 x2 k b) r x).trans (half_code _ 0 0 0 rfl rfl r x)) b h0 h1)
    (head_trip c i arg2 harg2 arg3 harg3 arg4 harg4 arg5 harg5 arg6 harg6 arg11 arg12 arg13 arg14 x2 x3 x4 x5 x6 k 1 1 _ _ _ _ _ (s1_eq ..) (p1_eq ..)
      (fun r x => (high0 c arg2 _ k (bX c arg2 harg2 x2 k b) r x).trans (half_code _ 0 1 1 rfl rfl r x)) b h0 h1) r l

include b h0 h1 in
/-- The block of outputs of pair 1. -/
theorem out1_at (r l : Fin 128) : k0_pay402 iCl (trip.sl.v2210 c i arg2 arg3 arg4 arg5 arg6 arg11 arg12 arg13 arg14 (BitVec.ofNat 32 (i 1).val) iR8 k0_pay729 iL1 iRw iCl (harg2.unread x2) (harg3.unread x3) (harg4.unread x4) (harg5.unread x5) (harg6.unread x6) k) (trip.sl.v2614 c i arg2 arg3 arg5 arg11 arg13 arg14 (BitVec.ofNat 32 (i 1).val) iR8 k0_pay729 iL1 iRw iCl (harg2.unread x2) (harg3.unread x3) (harg5.unread x5) k) (trip.sl.v2719 c i arg2 arg3 arg4 arg5 arg11 arg12 arg13 arg14 (BitVec.ofNat 32 (i 1).val) iR8 k0_pay729 iL1 iRw iCl (harg2.unread x2) (harg3.unread x3) (harg4.unread x4) (harg5.unread x5) k) (trip.sl.v2720 c arg6 (harg6.unread x6)) (ix3 0 r l)
    = outB i k x2 x3 x4 x5 x6 ⟨2 * (1 : Fin 4).val + l.val / 64, by omega⟩ r l := by
  rw [show k0_pay402 iCl (trip.sl.v2210 c i arg2 arg3 arg4 arg5 arg6 arg11 arg12 arg13 arg14 (BitVec.ofNat 32 (i 1).val) iR8 k0_pay729 iL1 iRw iCl (harg2.unread x2) (harg3.unread x3) (harg4.unread x4) (harg5.unread x5) (harg6.unread x6) k) (trip.sl.v2614 c i arg2 arg3 arg5 arg11 arg13 arg14 (BitVec.ofNat 32 (i 1).val) iR8 k0_pay729 iL1 iRw iCl (harg2.unread x2) (harg3.unread x3) (harg5.unread x5) k) (trip.sl.v2719 c i arg2 arg3 arg4 arg5 arg11 arg12 arg13 arg14 (BitVec.ofNat 32 (i 1).val) iR8 k0_pay729 iL1 iRw iCl (harg2.unread x2) (harg3.unread x3) (harg4.unread x4) (harg5.unread x5) k) (trip.sl.v2720 c arg6 (harg6.unread x6)) = _ from o1_eq ..]
  exact pair_out (fun h r l => outB i k x2 x3 x4 x5 x6 h r l) 1 _ _
    (head_trip c i arg2 harg2 arg3 harg3 arg4 harg4 arg5 harg5 arg6 harg6 arg11 arg12 arg13 arg14 x2 x3 x4 x5 x6 k 2 0 _ _ _ _ _ (s2_eq ..) (p2_eq ..)
      (fun r x => (low1 c arg2 _ k (bX c arg2 harg2 x2 k b) r x).trans (half_code _ 1 2 0 rfl rfl r x)) b h0 h1)
    (head_trip c i arg2 harg2 arg3 harg3 arg4 harg4 arg5 harg5 arg6 harg6 arg11 arg12 arg13 arg14 x2 x3 x4 x5 x6 k 3 1 _ _ _ _ _ (s3_eq ..) (p3_eq ..)
      (fun r x => (high1 c arg2 _ k (bX c arg2 harg2 x2 k b) r x).trans (half_code _ 1 3 1 rfl rfl r x)) b h0 h1) r l

include b h0 h1 in
/-- The block of outputs of pair 2. -/
theorem out2_at (r l : Fin 128) : k0_pay558 iCl (trip.sl.v3267 c i arg2 arg3 arg4 arg5 arg6 arg11 arg12 arg13 arg14 (BitVec.ofNat 32 (i 1).val) iR8 k0_pay729 iL1 iRw iCl (harg2.unread x2) (harg3.unread x3) (harg4.unread x4) (harg5.unread x5) (harg6.unread x6) k) (trip.sl.v3671 c i arg2 arg3 arg5 arg11 arg13 arg14 (BitVec.ofNat 32 (i 1).val) iR8 k0_pay729 iL1 iRw iCl (harg2.unread x2) (harg3.unread x3) (harg5.unread x5) k) (trip.sl.v3760 c i arg2 arg3 arg4 arg5 arg11 arg12 arg13 arg14 (BitVec.ofNat 32 (i 1).val) iR8 k0_pay729 iL1 iRw iCl (harg2.unread x2) (harg3.unread x3) (harg4.unread x4) (harg5.unread x5) k) (trip.sl.v3761 c i arg2 arg3 arg5 arg11 arg12 arg13 arg14 (BitVec.ofNat 32 (i 1).val) iR8 k0_pay729 iL1 iRw iCl (harg2.unread x2) (harg3.unread x3) (harg5.unread x5) k) (View.readAt (Elt Ideal) arg4.view (Rect.unit (s := S1x268x128x128) (k0_off4 i k 11#32) S1x1x128x128.size (k0_off4_inb i k 11)).toLoadRect (harg4.unread x4)) (trip.sl.v3769 c i arg2 arg3 arg5 arg11 arg12 arg13 arg14 (BitVec.ofNat 32 (i 1).val) iR8 k0_pay729 iL1 iRw iCl (harg2.unread x2) (harg3.unread x3) (harg5.unread x5) k) (View.readAt (Elt Ideal) arg4.view (Rect.unit (s := S1x268x128x128) (k0_off4 i k 12#32) S1x1x128x128.size (k0_off4_inb i k 12)).toLoadRect (harg4.unread x4)) (View.readAt (Elt Ideal) arg6.view (Rect.unit (s := S1x1x128) ![0, 0, 0] S1x1x128.size inb_S1x1x128_S1x1x128_0_0_0).toLoadRect (harg6.unread x6)) (ix3 0 r l)
    = outB i k x2 x3 x4 x5 x6 ⟨2 * (2 : Fin 4).val + l.val / 64, by omega⟩ r l := by
  rw [show k0_pay558 iCl (trip.sl.v3267 c i arg2 arg3 arg4 arg5 arg6 arg11 arg12 arg13 arg14 (BitVec.ofNat 32 (i 1).val) iR8 k0_pay729 iL1 iRw iCl (harg2.unread x2) (harg3.unread x3) (harg4.unread x4) (harg5.unread x5) (harg6.unread x6) k) (trip.sl.v3671 c i arg2 arg3 arg5 arg11 arg13 arg14 (BitVec.ofNat 32 (i 1).val) iR8 k0_pay729 iL1 iRw iCl (harg2.unread x2) (harg3.unread x3) (harg5.unread x5) k) (trip.sl.v3760 c i arg2 arg3 arg4 arg5 arg11 arg12 arg13 arg14 (BitVec.ofNat 32 (i 1).val) iR8 k0_pay729 iL1 iRw iCl (harg2.unread x2) (harg3.unread x3) (harg4.unread x4) (harg5.unread x5) k) (trip.sl.v3761 c i arg2 arg3 arg5 arg11 arg12 arg13 arg14 (BitVec.ofNat 32 (i 1).val) iR8 k0_pay729 iL1 iRw iCl (harg2.unread x2) (harg3.unread x3) (harg5.unread x5) k) (View.readAt (Elt Ideal) arg4.view (Rect.unit (s := S1x268x128x128) (k0_off4 i k 11#32) S1x1x128x128.size (k0_off4_inb i k 11)).toLoadRect (harg4.unread x4)) (trip.sl.v3769 c i arg2 arg3 arg5 arg11 arg12 arg13 arg14 (BitVec.ofNat 32 (i 1).val) iR8 k0_pay729 iL1 iRw iCl (harg2.unread x2) (harg3.unread x3) (harg5.unread x5) k) (View.readAt (Elt Ideal) arg4.view (Rect.unit (s := S1x268x128x128) (k0_off4 i k 12#32) S1x1x128x128.size (k0_off4_inb i k 12)).toLoadRect (harg4.unread x4)) (View.readAt (Elt Ideal) arg6.view (Rect.unit (s := S1x1x128) ![0, 0, 0] S1x1x128.size inb_S1x1x128_S1x1x128_0_0_0).toLoadRect (harg6.unread x6)) = _ from o2_eq ..]
  exact pair_out (fun h r l => outB i k x2 x3 x4 x5 x6 h r l) 2 _ _
    (head_trip c i arg2 harg2 arg3 harg3 arg4 harg4 arg5 harg5 arg6 harg6 arg11 arg12 arg13 arg14 x2 x3 x4 x5 x6 k 4 0 _ _ _ _ _ (s4_eq ..) (p4_eq ..)
      (fun r x => (low2 c arg2 _ k (bX c arg2 harg2 x2 k b) r x).trans (half_code _ 2 4 0 rfl rfl r x)) b h0 h1)
    (head_trip c i arg2 harg2 arg3 harg3 arg4 harg4 arg5 harg5 arg6 harg6 arg11 arg12 arg13 arg14 x2 x3 x4 x5 x6 k 5 1 _ _ _ _ _ (s5_eq ..) (p5_eq ..)
      (fun r x => (high2 c arg2 _ k (bX c arg2 harg2 x2 k b) r x).trans (half_code _ 2 5 1 rfl rfl r x)) b h0 h1) r l

include b h0 h1 in
/-- The block of outputs of pair 3. -/
theorem out3_at (r l : Fin 128) : k0_pay2 (trip.sl.v4324 c i arg2 arg3 arg4 arg5 arg6 arg11 arg12 arg13 arg14 (BitVec.ofNat 32 (i 1).val) iR8 k0_pay729 iL1 iRw iCl (harg2.unread x2) (harg3.unread x3) (harg4.unread x4) (harg5.unread x5) (harg6.unread x6) k) (trip.sl.v4728 c i arg2 arg3 arg5 arg11 arg13 arg14 (BitVec.ofNat 32 (i 1).val) iR8 k0_pay729 iL1 iRw iCl (harg2.unread x2) (harg3.unread x3) (harg5.unread x5) k) (trip.sl.v4825 c i arg2 arg3 arg4 arg5 arg11 arg12 arg13 arg14 (BitVec.ofNat 32 (i 1).val) iR8 k0_pay729 iL1 iRw iCl (harg2.unread x2) (harg3.unread x3) (harg4.unread x4) (harg5.unread x5) k) (trip.sl.v4827 c i arg2 arg3 arg5 arg11 arg12 arg13 arg14 (BitVec.ofNat 32 (i 1).val) iR8 k0_pay729 iL1 iRw iCl (harg2.unread x2) (harg3.unread x3) (harg5.unread x5) k) (View.readAt (Elt Ideal) arg4.view (Rect.unit (s := S1x268x128x128) (k0_off4 i k 12#32) S1x1x128x128.size (k0_off4_inb i k 12)).toLoadRect (harg4.unread x4)) (View.readAt (Elt Ideal) arg6.view (Rect.unit (s := S1x1x128) ![0, 0, 0] S1x1x128.size inb_S1x1x128_S1x1x128_0_0_0).toLoadRect (harg6.unread x6)) (ix3 0 r l)
    = outB i k x2 x3 x4 x5 x6 ⟨2 * (3 : Fin 4).val + l.val / 64, by omega⟩ r l := by
  rw [show k0_pay2 (trip.sl.v4324 c i arg2 arg3 arg4 arg5 arg6 arg11 arg12 arg13 arg14 (BitVec.ofNat 32 (i 1).val) iR8 k0_pay729 iL1 iRw iCl (harg2.unread x2) (harg3.unread x3) (harg4.unread x4) (harg5.unread x5) (harg6.unread x6) k) (trip.sl.v4728 c i arg2 arg3 arg5 arg11 arg13 arg14 (BitVec.ofNat 32 (i 1).val) iR8 k0_pay729 iL1 iRw iCl (harg2.unread x2) (harg3.unread x3) (harg5.unread x5) k) (trip.sl.v4825 c i arg2 arg3 arg4 arg5 arg11 arg12 arg13 arg14 (BitVec.ofNat 32 (i 1).val) iR8 k0_pay729 iL1 iRw iCl (harg2.unread x2) (harg3.unread x3) (harg4.unread x4) (harg5.unread x5) k) (trip.sl.v4827 c i arg2 arg3 arg5 arg11 arg12 arg13 arg14 (BitVec.ofNat 32 (i 1).val) iR8 k0_pay729 iL1 iRw iCl (harg2.unread x2) (harg3.unread x3) (harg5.unread x5) k) (View.readAt (Elt Ideal) arg4.view (Rect.unit (s := S1x268x128x128) (k0_off4 i k 12#32) S1x1x128x128.size (k0_off4_inb i k 12)).toLoadRect (harg4.unread x4)) (View.readAt (Elt Ideal) arg6.view (Rect.unit (s := S1x1x128) ![0, 0, 0] S1x1x128.size inb_S1x1x128_S1x1x128_0_0_0).toLoadRect (harg6.unread x6)) = _ from o3_eq ..]
  exact pair_out (fun h r l => outB i k x2 x3 x4 x5 x6 h r l) 3 _ _
    (head_trip c i arg2 harg2 arg3 harg3 arg4 harg4 arg5 harg5 arg6 harg6 arg11 arg12 arg13 arg14 x2 x3 x4 x5 x6 k 6 0 _ _ _ _ _ (s6_eq ..) (p6_eq ..)
      (fun r x => (low3 c arg2 _ k (bX c arg2 harg2 x2 k b) r x).trans (half_code _ 3 6 0 rfl rfl r x)) b h0 h1)
    (head_trip c i arg2 harg2 arg3 harg3 arg4 harg4 arg5 harg5 arg6 harg6 arg11 arg12 arg13 arg14 x2 x3 x4 x5 x6 k 7 1 _ _ _ _ _ (s7_eq ..) (p7_eq ..)
      (fun r x => (high3 c arg2 _ k (bX c arg2 harg2 x2 k b) r x).trans (half_code _ 3 7 1 rfl rfl r x)) b h0 h1) r l

end

end Cert.Proof.KernelIdeal
-- ==== Proof.KI.Run.lean ====
module

public import proofs.«01_k».proof.Proof.KI.Trip

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The loop over the four query blocks of a grid point -/

/-- The pieces of two stretches of trips, the later one's first. -/
def Pcs.app (a b : Pcs F) : Pcs F := (a.1 ++ b.1, a.2.1 ++ b.2.1, a.2.2.1 ++ b.2.2.1, a.2.2.2 ++ b.2.2.2)

/-- The pieces of the trips before `k` of a run whose trip `j` leaves `T j`, the last trip's first. -/
def accum (T : Fin k0_t1_loop.trips → Pcs F) : ℕ → Pcs F
  | 0 => ([], [], [], [])
  | k + 1 => if h : k < k0_t1_loop.trips then (T ⟨k, h⟩).app (accum T k) else accum T k

theorem accum_succ (T : Fin k0_t1_loop.trips → Pcs F) (k : Fin k0_t1_loop.trips) :
    accum T (k.val + 1) = (T k).app (accum T k.val) := by
  rw [accum.eq_2]; exact dif_pos k.isLt

/-- The pieces the trips before `k` leave in the four results' blocks, the last trip's first. -/
def pcs (c : Dev nD) (i : grid0.Coords)
    (arg2 : Memref sig .tc .vmem S1x512x512 .bf16) (harg2 : arg2.IsWhole)
    (arg3 : Memref sig .tc .vmem S1x268x128x128 .fp8e4m3) (harg3 : arg3.IsWhole)
    (arg4 : Memref sig .tc .vmem S1x268x128x128 .fp8e4m3) (harg4 : arg4.IsWhole)
    (arg5 : Memref sig .tc .vmem S1x268x128 .f32) (harg5 : arg5.IsWhole)
    (arg6 : Memref sig .tc .vmem S1x1x128 .f32) (harg6 : arg6.IsWhole)
    (arg7 : Memref sig .tc .vmem S1x512x512 .bf16) (harg7 : arg7.IsWhole)
    (arg8 : Memref sig .tc .vmem S1x512x512 .fp8e4m3) (harg8 : arg8.IsWhole)
    (arg9 : Memref sig .tc .vmem S1x1x32x128 .f32) (harg9 : arg9.IsWhole)
    (arg10 : Memref sig .tc .vmem S1x1x4x512 .f32) (harg10 : arg10.IsWhole)
    (arg11 : Memref sig .tc .vmem S2x12x128x128 .f32) (harg11 : arg11.IsWhole)
    (arg12 : Memref sig .tc .vmem S2x128x1664 .fp8e4m3) (harg12 : arg12.IsWhole)
    (arg13 : Memref sig .tc .vmem S13x8x128 .f32) (harg13 : arg13.IsWhole)
    (arg14 : Memref sig .tc .vmem S13x8x128 .f32) (harg14 : arg14.IsWhole)
    (arg1 : BitVec 32) (v0 : IVec S8x128 32) (v42 : IVec S8x128 1) (v43 : IVec S1x128 32) (v44 : IVec S128x128 32) (v45 : IVec S128x128 32)
    (f_arg2 : Bf (F := F) c arg2) (f_arg3 : Bf (F := F) c arg3) (f_arg4 : Bf (F := F) c arg4) (f_arg5 : Bf (F := F) c arg5) (f_arg6 : Bf (F := F) c arg6) : ℕ → Pcs F :=
  accum fun k => (trip (F := F) c i arg2 harg2 arg3 harg3 arg4 harg4 arg5 harg5 arg6 harg6 arg7 harg7 arg8 harg8 arg9 harg9 arg10 harg10 arg11 harg11 arg12 harg12 arg13 harg13 arg14 harg14 arg1 v0 v42 v43 v44 v45 f_arg2 f_arg3 f_arg4 f_arg5 f_arg6 k).1

theorem pcs_succ (c : Dev nD) (i : grid0.Coords)
    (arg2 : Memref sig .tc .vmem S1x512x512 .bf16) (harg2 : arg2.IsWhole)
    (arg3 : Memref sig .tc .vmem S1x268x128x128 .fp8e4m3) (harg3 : arg3.IsWhole)
    (arg4 : Memref sig .tc .vmem S1x268x128x128 .fp8e4m3) (harg4 : arg4.IsWhole)
    (arg5 : Memref sig .tc .vmem S1x268x128 .f32) (harg5 : arg5.IsWhole)
    (arg6 : Memref sig .tc .vmem S1x1x128 .f32) (harg6 : arg6.IsWhole)
    (arg7 : Memref sig .tc .vmem S1x512x512 .bf16) (harg7 : arg7.IsWhole)
    (arg8 : Memref sig .tc .vmem S1x512x512 .fp8e4m3) (harg8 : arg8.IsWhole)
    (arg9 : Memref sig .tc .vmem S1x1x32x128 .f32) (harg9 : arg9.IsWhole)
    (arg10 : Memref sig .tc .vmem S1x1x4x512 .f32) (harg10 : arg10.IsWhole)
    (arg11 : Memref sig .tc .vmem S2x12x128x128 .f32) (harg11 : arg11.IsWhole)
    (arg12 : Memref sig .tc .vmem S2x128x1664 .fp8e4m3) (harg12 : arg12.IsWhole)
    (arg13 : Memref sig .tc .vmem S13x8x128 .f32) (harg13 : arg13.IsWhole)
    (arg14 : Memref sig .tc .vmem S13x8x128 .f32) (harg14 : arg14.IsWhole)
    (arg1 : BitVec 32) (v0 : IVec S8x128 32) (v42 : IVec S8x128 1) (v43 : IVec S1x128 32) (v44 : IVec S128x128 32) (v45 : IVec S128x128 32)
    (f_arg2 : Bf (F := F) c arg2) (f_arg3 : Bf (F := F) c arg3) (f_arg4 : Bf (F := F) c arg4) (f_arg5 : Bf (F := F) c arg5) (f_arg6 : Bf (F := F) c arg6) (k : Fin k0_t1_loop.trips) :
    pcs (F := F) c i arg2 harg2 arg3 harg3 arg4 harg4 arg5 harg5 arg6 harg6 arg7 harg7 arg8 harg8 arg9 harg9 arg10 harg10 arg11 harg11 arg12 harg12 arg13 harg13 arg14 harg14 arg1 v0 v42 v43 v44 v45 f_arg2 f_arg3 f_arg4 f_arg5 f_arg6 (k.val + 1) = (trip (F := F) c i arg2 harg2 arg3 harg3 arg4 harg4 arg5 harg5 arg6 harg6 arg7 harg7 arg8 harg8 arg9 harg9 arg10 harg10 arg11 harg11 arg12 harg12 arg13 harg13 arg14 harg14 arg1 v0 v42 v43 v44 v45 f_arg2 f_arg3 f_arg4 f_arg5 f_arg6 k).1.app (pcs (F := F) c i arg2 harg2 arg3 harg3 arg4 harg4 arg5 harg5 arg6 harg6 arg7 harg7 arg8 harg8 arg9 harg9 arg10 harg10 arg11 harg11 arg12 harg12 arg13 harg13 arg14 harg14 arg1 v0 v42 v43 v44 v45 f_arg2 f_arg3 f_arg4 f_arg5 f_arg6 k.val) :=
  accum_succ _ k

/-- The loop's invariant: before trip `k` the five operands are as they were, each result's buffer holds the pieces of
    the trips before `k`, and the scratch buffers hold anything. -/
abbrev inv (c : Dev nD) (i : grid0.Coords)
    (arg2 : Memref sig .tc .vmem S1x512x512 .bf16) (harg2 : arg2.IsWhole)
    (arg3 : Memref sig .tc .vmem S1x268x128x128 .fp8e4m3) (harg3 : arg3.IsWhole)
    (arg4 : Memref sig .tc .vmem S1x268x128x128 .fp8e4m3) (harg4 : arg4.IsWhole)
    (arg5 : Memref sig .tc .vmem S1x268x128 .f32) (harg5 : arg5.IsWhole)
    (arg6 : Memref sig .tc .vmem S1x1x128 .f32) (harg6 : arg6.IsWhole)
    (arg7 : Memref sig .tc .vmem S1x512x512 .bf16) (harg7 : arg7.IsWhole)
    (arg8 : Memref sig .tc .vmem S1x512x512 .fp8e4m3) (harg8 : arg8.IsWhole)
    (arg9 : Memref sig .tc .vmem S1x1x32x128 .f32) (harg9 : arg9.IsWhole)
    (arg10 : Memref sig .tc .vmem S1x1x4x512 .f32) (harg10 : arg10.IsWhole)
    (arg11 : Memref sig .tc .vmem S2x12x128x128 .f32) (harg11 : arg11.IsWhole)
    (arg12 : Memref sig .tc .vmem S2x128x1664 .fp8e4m3) (harg12 : arg12.IsWhole)
    (arg13 : Memref sig .tc .vmem S13x8x128 .f32) (harg13 : arg13.IsWhole)
    (arg14 : Memref sig .tc .vmem S13x8x128 .f32) (harg14 : arg14.IsWhole)
    (arg1 : BitVec 32) (v0 : IVec S8x128 32) (v42 : IVec S8x128 1) (v43 : IVec S1x128 32) (v44 : IVec S128x128 32) (v45 : IVec S128x128 32)
    (f_arg2 : Bf (F := F) c arg2) (f_arg3 : Bf (F := F) c arg3) (f_arg4 : Bf (F := F) c arg4) (f_arg5 : Bf (F := F) c arg5) (f_arg6 : Bf (F := F) c arg6)
    (f_arg7 : Bf (F := F) c arg7) (f_arg8 : Bf (F := F) c arg8) (f_arg9 : Bf (F := F) c arg9) (f_arg10 : Bf (F := F) c arg10) (k : ℕ) : sProp 𝕄 :=
  iprop(pt c arg2 f_arg2 ∗ pt c arg3 f_arg3 ∗ pt c arg4 f_arg4 ∗ pt c arg5 f_arg5 ∗ pt c arg6 f_arg6 ∗ (∃ f, pt c arg7 f ∗ ⌜f = arg7.view.writes (Elt F) f_arg7 (pcs (F := F) c i arg2 harg2 arg3 harg3 arg4 harg4 arg5 harg5 arg6 harg6 arg7 harg7 arg8 harg8 arg9 harg9 arg10 harg10 arg11 harg11 arg12 harg12 arg13 harg13 arg14 harg14 arg1 v0 v42 v43 v44 v45 f_arg2 f_arg3 f_arg4 f_arg5 f_arg6 k).1⌝) ∗ (∃ f, pt c arg8 f ∗ ⌜f = arg8.view.writes (Elt F) f_arg8 (pcs (F := F) c i arg2 harg2 arg3 harg3 arg4 harg4 arg5 harg5 arg6 harg6 arg7 harg7 arg8 harg8 arg9 harg9 arg10 harg10 arg11 harg11 arg12 harg12 arg13 harg13 arg14 harg14 arg1 v0 v42 v43 v44 v45 f_arg2 f_arg3 f_arg4 f_arg5 f_arg6 k).2.1⌝) ∗ (∃ f, pt c arg9 f ∗ ⌜f = arg9.view.writes (Elt F) f_arg9 (pcs (F := F) c i arg2 harg2 arg3 harg3 arg4 harg4 arg5 harg5 arg6 harg6 arg7 harg7 arg8 harg8 arg9 harg9 arg10 harg10 arg11 harg11 arg12 harg12 arg13 harg13 arg14 harg14 arg1 v0 v42 v43 v44 v45 f_arg2 f_arg3 f_arg4 f_arg5 f_arg6 k).2.2.1⌝) ∗ (∃ f, pt c arg10 f ∗ ⌜f = arg10.view.writes (Elt F) f_arg10 (pcs (F := F) c i arg2 harg2 arg3 harg3 arg4 harg4 arg5 harg5 arg6 harg6 arg7 harg7 arg8 harg8 arg9 harg9 arg10 harg10 arg11 harg11 arg12 harg12 arg13 harg13 arg14 harg14 arg1 v0 v42 v43 v44 v45 f_arg2 f_arg3 f_arg4 f_arg5 f_arg6 k).2.2.2⌝) ∗ (∃ f, pt c arg11 f) ∗ (∃ f, pt c arg12 f) ∗ (∃ f, pt c arg13 f) ∗ (∃ f, pt c arg14 f))

/-- One trip takes the invariant from `k` to `k + 1`. -/
theorem inv_step (c : Dev nD) (i : grid0.Coords)
    (arg2 : Memref sig .tc .vmem S1x512x512 .bf16) (harg2 : arg2.IsWhole)
    (arg3 : Memref sig .tc .vmem S1x268x128x128 .fp8e4m3) (harg3 : arg3.IsWhole)
    (arg4 : Memref sig .tc .vmem S1x268x128x128 .fp8e4m3) (harg4 : arg4.IsWhole)
    (arg5 : Memref sig .tc .vmem S1x268x128 .f32) (harg5 : arg5.IsWhole)
    (arg6 : Memref sig .tc .vmem S1x1x128 .f32) (harg6 : arg6.IsWhole)
    (arg7 : Memref sig .tc .vmem S1x512x512 .bf16) (harg7 : arg7.IsWhole)
    (arg8 : Memref sig .tc .vmem S1x512x512 .fp8e4m3) (harg8 : arg8.IsWhole)
    (arg9 : Memref sig .tc .vmem S1x1x32x128 .f32) (harg9 : arg9.IsWhole)
    (arg10 : Memref sig .tc .vmem S1x1x4x512 .f32) (harg10 : arg10.IsWhole)
    (arg11 : Memref sig .tc .vmem S2x12x128x128 .f32) (harg11 : arg11.IsWhole)
    (arg12 : Memref sig .tc .vmem S2x128x1664 .fp8e4m3) (harg12 : arg12.IsWhole)
    (arg13 : Memref sig .tc .vmem S13x8x128 .f32) (harg13 : arg13.IsWhole)
    (arg14 : Memref sig .tc .vmem S13x8x128 .f32) (harg14 : arg14.IsWhole)
    (arg1 : BitVec 32) (v0 : IVec S8x128 32) (v42 : IVec S8x128 1) (v43 : IVec S1x128 32) (v44 : IVec S128x128 32) (v45 : IVec S128x128 32)
    (f_arg2 : Bf (F := F) c arg2) (f_arg3 : Bf (F := F) c arg3) (f_arg4 : Bf (F := F) c arg4) (f_arg5 : Bf (F := F) c arg5) (f_arg6 : Bf (F := F) c arg6)
    (f_arg7 : Bf (F := F) c arg7) (f_arg8 : Bf (F := F) c arg8) (f_arg9 : Bf (F := F) c arg9) (f_arg10 : Bf (F := F) c arg10) (k : Fin k0_t1_loop.trips) (acc : PUnit) :
    inv (F := F) c i arg2 harg2 arg3 harg3 arg4 harg4 arg5 harg5 arg6 harg6 arg7 harg7 arg8 harg8 arg9 harg9 arg10 harg10 arg11 harg11 arg12 harg12 arg13 harg13 arg14 harg14 arg1 v0 v42 v43 v44 v45 f_arg2 f_arg3 f_arg4 f_arg5 f_arg6 f_arg7 f_arg8 f_arg9 f_arg10 k.val ⊢
      wp frame (wpE (defs₀ (F := F)) Variants.none (c : Thread nD τ) none) Set.univ (k0_t1_body (F := F) i arg2 harg2 arg3 harg3 arg4 harg4 arg5 harg5 arg6 harg6 arg7 harg7 arg8 harg8 arg9 harg9 arg10 harg10 arg11 harg11 arg12 harg12 arg13 harg13 arg14 harg14 arg1 v0 v42 v43 v44 v45 k acc)
        (fun _ => inv (F := F) c i arg2 harg2 arg3 harg3 arg4 harg4 arg5 harg5 arg6 harg6 arg7 harg7 arg8 harg8 arg9 harg9 arg10 harg10 arg11 harg11 arg12 harg12 arg13 harg13 arg14 harg14 arg1 v0 v42 v43 v44 v45 f_arg2 f_arg3 f_arg4 f_arg5 f_arg6 f_arg7 f_arg8 f_arg9 f_arg10 (k.val + 1)) := by
  unfold inv
  iintro ⟨H_arg2, H_arg3, H_arg4, H_arg5, H_arg6, ⟨%g_arg7, H_arg7, %e_arg7⟩, ⟨%g_arg8, H_arg8, %e_arg8⟩, ⟨%g_arg9, H_arg9, %e_arg9⟩, ⟨%g_arg10, H_arg10, %e_arg10⟩, ⟨%g_arg11, H_arg11⟩, ⟨%g_arg12, H_arg12⟩, ⟨%g_arg13, H_arg13⟩, ⟨%g_arg14, H_arg14⟩⟩
  subst e_arg7 e_arg8 e_arg9 e_arg10
  rw [pcs_succ]
  iapply (wp_wand_r frame (wpE (defs₀ (F := F)) Variants.none (c : Thread nD τ) none) Set.univ (p := k0_t1_body (F := F) i arg2 harg2 arg3 harg3 arg4 harg4 arg5 harg5 arg6 harg6 arg7 harg7 arg8 harg8 arg9 harg9 arg10 harg10 arg11 harg11 arg12 harg12 arg13 harg13 arg14 harg14 arg1 v0 v42 v43 v44 v45 k PUnit.unit))
  isplitl [H_arg2 H_arg3 H_arg4 H_arg5 H_arg6 H_arg7 H_arg8 H_arg9 H_arg10 H_arg11 H_arg12 H_arg13 H_arg14]
  · iapply ((trip (F := F) c i arg2 harg2 arg3 harg3 arg4 harg4 arg5 harg5 arg6 harg6 arg7 harg7 arg8 harg8 arg9 harg9 arg10 harg10 arg11 harg11 arg12 harg12 arg13 harg13 arg14 harg14 arg1 v0 v42 v43 v44 v45 f_arg2 f_arg3 f_arg4 f_arg5 f_arg6 k).2 _ _ _ _ g_arg11 g_arg12 g_arg13 g_arg14)
    sl_close
  iintro %_ ⟨H_arg2, H_arg3, H_arg4, H_arg5, H_arg6, H_arg7, H_arg8, H_arg9, H_arg10, ⟨%h_arg11, H_arg11⟩, ⟨%h_arg12, H_arg12⟩, ⟨%h_arg13, H_arg13⟩, ⟨%h_arg14, H_arg14⟩⟩
  simp only [Pcs.app, View.writes_append]
  sl_close

/-- The pieces a run of the body leaves in the four results' blocks. -/
def pieces (c : Dev nD) (i : grid0.Coords)
    (arg2 : Memref sig .tc .vmem S1x512x512 .bf16) (harg2 : arg2.IsWhole)
    (arg3 : Memref sig .tc .vmem S1x268x128x128 .fp8e4m3) (harg3 : arg3.IsWhole)
    (arg4 : Memref sig .tc .vmem S1x268x128x128 .fp8e4m3) (harg4 : arg4.IsWhole)
    (arg5 : Memref sig .tc .vmem S1x268x128 .f32) (harg5 : arg5.IsWhole)
    (arg6 : Memref sig .tc .vmem S1x1x128 .f32) (harg6 : arg6.IsWhole)
    (arg7 : Memref sig .tc .vmem S1x512x512 .bf16) (harg7 : arg7.IsWhole)
    (arg8 : Memref sig .tc .vmem S1x512x512 .fp8e4m3) (harg8 : arg8.IsWhole)
    (arg9 : Memref sig .tc .vmem S1x1x32x128 .f32) (harg9 : arg9.IsWhole)
    (arg10 : Memref sig .tc .vmem S1x1x4x512 .f32) (harg10 : arg10.IsWhole)
    (arg11 : Memref sig .tc .vmem S2x12x128x128 .f32) (harg11 : arg11.IsWhole)
    (arg12 : Memref sig .tc .vmem S2x128x1664 .fp8e4m3) (harg12 : arg12.IsWhole)
    (arg13 : Memref sig .tc .vmem S13x8x128 .f32) (harg13 : arg13.IsWhole)
    (arg14 : Memref sig .tc .vmem S13x8x128 .f32) (harg14 : arg14.IsWhole)
    (f_arg2 : Bf (F := F) c arg2) (f_arg3 : Bf (F := F) c arg3) (f_arg4 : Bf (F := F) c arg4) (f_arg5 : Bf (F := F) c arg5) (f_arg6 : Bf (F := F) c arg6) : Pcs F :=
  pcs (F := F) c i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (iota .tc S8x128 32 [0] iota_S8x128_d0_w32) k0_pay729
    (iota .tc S1x128 32 [1] iota_S1x128_d1_w32) (iota .tc S128x128 32 [0] iota_S128x128_d0_w32)
    (iota .tc S128x128 32 [1] iota_S128x128_d1_w32) f_arg2 f_arg3 f_arg4 f_arg5 f_arg6 (Scf.trips k0_t1_loop.lb k0_t1_loop.ub k0_t1_loop.st)

/-- The body is the loop over its four query blocks. -/
theorem body_eq (i : grid0.Coords)
    (arg2 : Memref sig .tc .vmem S1x512x512 .bf16) (harg2 : arg2.IsWhole)
    (arg3 : Memref sig .tc .vmem S1x268x128x128 .fp8e4m3) (harg3 : arg3.IsWhole)
    (arg4 : Memref sig .tc .vmem S1x268x128x128 .fp8e4m3) (harg4 : arg4.IsWhole)
    (arg5 : Memref sig .tc .vmem S1x268x128 .f32) (harg5 : arg5.IsWhole)
    (arg6 : Memref sig .tc .vmem S1x1x128 .f32) (harg6 : arg6.IsWhole)
    (arg7 : Memref sig .tc .vmem S1x512x512 .bf16) (harg7 : arg7.IsWhole)
    (arg8 : Memref sig .tc .vmem S1x512x512 .fp8e4m3) (harg8 : arg8.IsWhole)
    (arg9 : Memref sig .tc .vmem S1x1x32x128 .f32) (harg9 : arg9.IsWhole)
    (arg10 : Memref sig .tc .vmem S1x1x4x512 .f32) (harg10 : arg10.IsWhole)
    (arg11 : Memref sig .tc .vmem S2x12x128x128 .f32) (harg11 : arg11.IsWhole)
    (arg12 : Memref sig .tc .vmem S2x128x1664 .fp8e4m3) (harg12 : arg12.IsWhole)
    (arg13 : Memref sig .tc .vmem S13x8x128 .f32) (harg13 : arg13.IsWhole)
    (arg14 : Memref sig .tc .vmem S13x8x128 .f32) (harg14 : arg14.IsWhole) :
    cc0_attend (F := F) i arg2 harg2 arg3 harg3 arg4 harg4 arg5 harg5 arg6 harg6 arg7 harg7 arg8 harg8 arg9 harg9 arg10 harg10 arg11 harg11 arg12 harg12 arg13 harg13 arg14 harg14 =
      (Scf.Loop.for k0_t1_loop k0_t1_ok PUnit.unit (k0_t1_body (F := F) i arg2 harg2 arg3 harg3 arg4 harg4 arg5 harg5 arg6 harg6 arg7 harg7 arg8 harg8 arg9 harg9 arg10 harg10 arg11 harg11 arg12 harg12 arg13 harg13 arg14 harg14
        (BitVec.ofNat 32 (i 1).val) (iota .tc S8x128 32 [0] iota_S8x128_d0_w32) k0_pay729
        (iota .tc S1x128 32 [1] iota_S1x128_d1_w32) (iota .tc S128x128 32 [0] iota_S128x128_d0_w32)
        (iota .tc S128x128 32 [1] iota_S128x128_d1_w32)) >>= fun _ => pure PUnit.unit) := by
  rw [cc0_attend_eq_skeleton]; rfl

/-- The body's run at a grid point: it leaves the operands as they were and each result's block at the point's pieces. -/
theorem body_run (c : Dev nD) (i : grid0.Coords)
    (arg2 : Memref sig .tc .vmem S1x512x512 .bf16) (harg2 : arg2.IsWhole)
    (arg3 : Memref sig .tc .vmem S1x268x128x128 .fp8e4m3) (harg3 : arg3.IsWhole)
    (arg4 : Memref sig .tc .vmem S1x268x128x128 .fp8e4m3) (harg4 : arg4.IsWhole)
    (arg5 : Memref sig .tc .vmem S1x268x128 .f32) (harg5 : arg5.IsWhole)
    (arg6 : Memref sig .tc .vmem S1x1x128 .f32) (harg6 : arg6.IsWhole)
    (arg7 : Memref sig .tc .vmem S1x512x512 .bf16) (harg7 : arg7.IsWhole)
    (arg8 : Memref sig .tc .vmem S1x512x512 .fp8e4m3) (harg8 : arg8.IsWhole)
    (arg9 : Memref sig .tc .vmem S1x1x32x128 .f32) (harg9 : arg9.IsWhole)
    (arg10 : Memref sig .tc .vmem S1x1x4x512 .f32) (harg10 : arg10.IsWhole)
    (arg11 : Memref sig .tc .vmem S2x12x128x128 .f32) (harg11 : arg11.IsWhole)
    (arg12 : Memref sig .tc .vmem S2x128x1664 .fp8e4m3) (harg12 : arg12.IsWhole)
    (arg13 : Memref sig .tc .vmem S13x8x128 .f32) (harg13 : arg13.IsWhole)
    (arg14 : Memref sig .tc .vmem S13x8x128 .f32) (harg14 : arg14.IsWhole)
    (f_arg2 : Bf (F := F) c arg2) (f_arg3 : Bf (F := F) c arg3) (f_arg4 : Bf (F := F) c arg4) (f_arg5 : Bf (F := F) c arg5) (f_arg6 : Bf (F := F) c arg6) (f_arg7 : Bf (F := F) c arg7) (f_arg8 : Bf (F := F) c arg8) (f_arg9 : Bf (F := F) c arg9) (f_arg10 : Bf (F := F) c arg10) (f_arg11 : Bf (F := F) c arg11) (f_arg12 : Bf (F := F) c arg12) (f_arg13 : Bf (F := F) c arg13) (f_arg14 : Bf (F := F) c arg14) (K : PUnit → sProp 𝕄) :
    iprop(pt c arg2 f_arg2 ∗ pt c arg3 f_arg3 ∗ pt c arg4 f_arg4 ∗ pt c arg5 f_arg5 ∗ pt c arg6 f_arg6 ∗ pt c arg7 f_arg7 ∗ pt c arg8 f_arg8 ∗ pt c arg9 f_arg9 ∗ pt c arg10 f_arg10 ∗ pt c arg11 f_arg11 ∗ pt c arg12 f_arg12 ∗ pt c arg13 f_arg13 ∗ pt c arg14 f_arg14 ∗ (iprop(pt c arg2 f_arg2 ∗ pt c arg3 f_arg3 ∗ pt c arg4 f_arg4 ∗ pt c arg5 f_arg5 ∗ pt c arg6 f_arg6 ∗ (∃ f, pt c arg7 f ∗ ⌜f = arg7.view.writes (Elt F) f_arg7 (pieces (F := F) c i arg2 harg2 arg3 harg3 arg4 harg4 arg5 harg5 arg6 harg6 arg7 harg7 arg8 harg8 arg9 harg9 arg10 harg10 arg11 harg11 arg12 harg12 arg13 harg13 arg14 harg14 f_arg2 f_arg3 f_arg4 f_arg5 f_arg6).1⌝) ∗ (∃ f, pt c arg8 f ∗ ⌜f = arg8.view.writes (Elt F) f_arg8 (pieces (F := F) c i arg2 harg2 arg3 harg3 arg4 harg4 arg5 harg5 arg6 harg6 arg7 harg7 arg8 harg8 arg9 harg9 arg10 harg10 arg11 harg11 arg12 harg12 arg13 harg13 arg14 harg14 f_arg2 f_arg3 f_arg4 f_arg5 f_arg6).2.1⌝) ∗ (∃ f, pt c arg9 f ∗ ⌜f = arg9.view.writes (Elt F) f_arg9 (pieces (F := F) c i arg2 harg2 arg3 harg3 arg4 harg4 arg5 harg5 arg6 harg6 arg7 harg7 arg8 harg8 arg9 harg9 arg10 harg10 arg11 harg11 arg12 harg12 arg13 harg13 arg14 harg14 f_arg2 f_arg3 f_arg4 f_arg5 f_arg6).2.2.1⌝) ∗ (∃ f, pt c arg10 f ∗ ⌜f = arg10.view.writes (Elt F) f_arg10 (pieces (F := F) c i arg2 harg2 arg3 harg3 arg4 harg4 arg5 harg5 arg6 harg6 arg7 harg7 arg8 harg8 arg9 harg9 arg10 harg10 arg11 harg11 arg12 harg12 arg13 harg13 arg14 harg14 f_arg2 f_arg3 f_arg4 f_arg5 f_arg6).2.2.2⌝) ∗ (∃ f, pt c arg11 f) ∗ (∃ f, pt c arg12 f) ∗ (∃ f, pt c arg13 f) ∗ (∃ f, pt c arg14 f)) -∗ K ⟨⟩))
      ⊢ wp frame (wpE (defs₀ (F := F)) Variants.none (c : Thread nD τ) none) Set.univ (cc0_attend (F := F) i arg2 harg2 arg3 harg3 arg4 harg4 arg5 harg5 arg6 harg6 arg7 harg7 arg8 harg8 arg9 harg9 arg10 harg10 arg11 harg11 arg12 harg12 arg13 harg13 arg14 harg14) K := by
  rw [body_eq, wp_bind]
  unfold pieces
  iintro ⟨H_arg2, H_arg3, H_arg4, H_arg5, H_arg6, H_arg7, H_arg8, H_arg9, H_arg10, H_arg11, H_arg12, H_arg13, H_arg14, Hk⟩
  iapply (Scf.wp_for frame (wpE (defs₀ (F := F)) Variants.none (c : Thread nD τ) none) Set.univ _ _ _ k0_t1_ok PUnit.unit _
    (fun k _ => inv (F := F) c i arg2 harg2 arg3 harg3 arg4 harg4 arg5 harg5 arg6 harg6 arg7 harg7 arg8 harg8 arg9 harg9 arg10 harg10 arg11 harg11 arg12 harg12 arg13 harg13 arg14 harg14 _ _ _ _ _ _ f_arg2 f_arg3 f_arg4 f_arg5 f_arg6 f_arg7 f_arg8 f_arg9 f_arg10 k)
    (fun k acc => inv_step (F := F) c i arg2 harg2 arg3 harg3 arg4 harg4 arg5 harg5 arg6 harg6 arg7 harg7 arg8 harg8 arg9 harg9 arg10 harg10 arg11 harg11 arg12 harg12 arg13 harg13 arg14 harg14 _ _ _ _ _ _ f_arg2 f_arg3 f_arg4 f_arg5 f_arg6 f_arg7 f_arg8 f_arg9 f_arg10 k acc))
  isplitl [H_arg2 H_arg3 H_arg4 H_arg5 H_arg6 H_arg7 H_arg8 H_arg9 H_arg10 H_arg11 H_arg12 H_arg13 H_arg14]
  · unfold inv
    sl_close
  iintro %_ HI
  sl_step
  iapply Hk
  iexact HI

end Cert.Proof.KernelIdeal

end
-- ==== Proof.KI.Frame.lean ====
module

public import proofs.«01_k».proof.Proof.KI.Run
public import proofs.«01_k».proof.Proof.Gen.KernelIdeal.Points

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-! ## What a run of the body leaves -/

/-- The pieces of the four trips cover the block of the result at `arg7`. -/
theorem cover_arg7 (c : Dev nD) (i : grid0.Coords)
    (arg2 : Memref sig .tc .vmem S1x512x512 .bf16) (harg2 : arg2.IsWhole)
    (arg3 : Memref sig .tc .vmem S1x268x128x128 .fp8e4m3) (harg3 : arg3.IsWhole)
    (arg4 : Memref sig .tc .vmem S1x268x128x128 .fp8e4m3) (harg4 : arg4.IsWhole)
    (arg5 : Memref sig .tc .vmem S1x268x128 .f32) (harg5 : arg5.IsWhole)
    (arg6 : Memref sig .tc .vmem S1x1x128 .f32) (harg6 : arg6.IsWhole)
    (arg7 : Memref sig .tc .vmem S1x512x512 .bf16) (harg7 : arg7.IsWhole)
    (arg8 : Memref sig .tc .vmem S1x512x512 .fp8e4m3) (harg8 : arg8.IsWhole)
    (arg9 : Memref sig .tc .vmem S1x1x32x128 .f32) (harg9 : arg9.IsWhole)
    (arg10 : Memref sig .tc .vmem S1x1x4x512 .f32) (harg10 : arg10.IsWhole)
    (arg11 : Memref sig .tc .vmem S2x12x128x128 .f32) (harg11 : arg11.IsWhole)
    (arg12 : Memref sig .tc .vmem S2x128x1664 .fp8e4m3) (harg12 : arg12.IsWhole)
    (arg13 : Memref sig .tc .vmem S13x8x128 .f32) (harg13 : arg13.IsWhole)
    (arg14 : Memref sig .tc .vmem S13x8x128 .f32) (harg14 : arg14.IsWhole)
    (f_arg2 : Bf (F := F) c arg2) (f_arg3 : Bf (F := F) c arg3) (f_arg4 : Bf (F := F) c arg4) (f_arg5 : Bf (F := F) c arg5) (f_arg6 : Bf (F := F) c arg6) : ∀ y, ∃ p ∈ (pieces (F := F) c i arg2 harg2 arg3 harg3 arg4 harg4 arg5 harg5 arg6 harg6 arg7 harg7 arg8 harg8 arg9 harg9 arg10 harg10 arg11 harg11 arg12 harg12 arg13 harg13 arg14 harg14 f_arg2 f_arg3 f_arg4 f_arg5 f_arg6).1, y ∈ p.1.set :=
  View.cover_of_tiledL _ S1x128x128.size (by sl_kernel_rfl)

/-- The pieces of the four trips cover the block of the result at `arg8`. -/
theorem cover_arg8 (c : Dev nD) (i : grid0.Coords)
    (arg2 : Memref sig .tc .vmem S1x512x512 .bf16) (harg2 : arg2.IsWhole)
    (arg3 : Memref sig .tc .vmem S1x268x128x128 .fp8e4m3) (harg3 : arg3.IsWhole)
    (arg4 : Memref sig .tc .vmem S1x268x128x128 .fp8e4m3) (harg4 : arg4.IsWhole)
    (arg5 : Memref sig .tc .vmem S1x268x128 .f32) (harg5 : arg5.IsWhole)
    (arg6 : Memref sig .tc .vmem S1x1x128 .f32) (harg6 : arg6.IsWhole)
    (arg7 : Memref sig .tc .vmem S1x512x512 .bf16) (harg7 : arg7.IsWhole)
    (arg8 : Memref sig .tc .vmem S1x512x512 .fp8e4m3) (harg8 : arg8.IsWhole)
    (arg9 : Memref sig .tc .vmem S1x1x32x128 .f32) (harg9 : arg9.IsWhole)
    (arg10 : Memref sig .tc .vmem S1x1x4x512 .f32) (harg10 : arg10.IsWhole)
    (arg11 : Memref sig .tc .vmem S2x12x128x128 .f32) (harg11 : arg11.IsWhole)
    (arg12 : Memref sig .tc .vmem S2x128x1664 .fp8e4m3) (harg12 : arg12.IsWhole)
    (arg13 : Memref sig .tc .vmem S13x8x128 .f32) (harg13 : arg13.IsWhole)
    (arg14 : Memref sig .tc .vmem S13x8x128 .f32) (harg14 : arg14.IsWhole)
    (f_arg2 : Bf (F := F) c arg2) (f_arg3 : Bf (F := F) c arg3) (f_arg4 : Bf (F := F) c arg4) (f_arg5 : Bf (F := F) c arg5) (f_arg6 : Bf (F := F) c arg6) : ∀ y, ∃ p ∈ (pieces (F := F) c i arg2 harg2 arg3 harg3 arg4 harg4 arg5 harg5 arg6 harg6 arg7 harg7 arg8 harg8 arg9 harg9 arg10 harg10 arg11 harg11 arg12 harg12 arg13 harg13 arg14 harg14 f_arg2 f_arg3 f_arg4 f_arg5 f_arg6).2.1, y ∈ p.1.set :=
  View.cover_of_tiledL _ S1x128x128.size (by sl_kernel_rfl)

/-- The pieces of the four trips cover the block of the result at `arg9`. -/
theorem cover_arg9 (c : Dev nD) (i : grid0.Coords)
    (arg2 : Memref sig .tc .vmem S1x512x512 .bf16) (harg2 : arg2.IsWhole)
    (arg3 : Memref sig .tc .vmem S1x268x128x128 .fp8e4m3) (harg3 : arg3.IsWhole)
    (arg4 : Memref sig .tc .vmem S1x268x128x128 .fp8e4m3) (harg4 : arg4.IsWhole)
    (arg5 : Memref sig .tc .vmem S1x268x128 .f32) (harg5 : arg5.IsWhole)
    (arg6 : Memref sig .tc .vmem S1x1x128 .f32) (harg6 : arg6.IsWhole)
    (arg7 : Memref sig .tc .vmem S1x512x512 .bf16) (harg7 : arg7.IsWhole)
    (arg8 : Memref sig .tc .vmem S1x512x512 .fp8e4m3) (harg8 : arg8.IsWhole)
    (arg9 : Memref sig .tc .vmem S1x1x32x128 .f32) (harg9 : arg9.IsWhole)
    (arg10 : Memref sig .tc .vmem S1x1x4x512 .f32) (harg10 : arg10.IsWhole)
    (arg11 : Memref sig .tc .vmem S2x12x128x128 .f32) (harg11 : arg11.IsWhole)
    (arg12 : Memref sig .tc .vmem S2x128x1664 .fp8e4m3) (harg12 : arg12.IsWhole)
    (arg13 : Memref sig .tc .vmem S13x8x128 .f32) (harg13 : arg13.IsWhole)
    (arg14 : Memref sig .tc .vmem S13x8x128 .f32) (harg14 : arg14.IsWhole)
    (f_arg2 : Bf (F := F) c arg2) (f_arg3 : Bf (F := F) c arg3) (f_arg4 : Bf (F := F) c arg4) (f_arg5 : Bf (F := F) c arg5) (f_arg6 : Bf (F := F) c arg6) : ∀ y, ∃ p ∈ (pieces (F := F) c i arg2 harg2 arg3 harg3 arg4 harg4 arg5 harg5 arg6 harg6 arg7 harg7 arg8 harg8 arg9 harg9 arg10 harg10 arg11 harg11 arg12 harg12 arg13 harg13 arg14 harg14 f_arg2 f_arg3 f_arg4 f_arg5 f_arg6).2.2.1, y ∈ p.1.set :=
  View.cover_of_tiledL _ S1x1x8x128.size (by sl_kernel_rfl)

/-- The pieces of the four trips cover the block of the result at `arg10`. -/
theorem cover_arg10 (c : Dev nD) (i : grid0.Coords)
    (arg2 : Memref sig .tc .vmem S1x512x512 .bf16) (harg2 : arg2.IsWhole)
    (arg3 : Memref sig .tc .vmem S1x268x128x128 .fp8e4m3) (harg3 : arg3.IsWhole)
    (arg4 : Memref sig .tc .vmem S1x268x128x128 .fp8e4m3) (harg4 : arg4.IsWhole)
    (arg5 : Memref sig .tc .vmem S1x268x128 .f32) (harg5 : arg5.IsWhole)
    (arg6 : Memref sig .tc .vmem S1x1x128 .f32) (harg6 : arg6.IsWhole)
    (arg7 : Memref sig .tc .vmem S1x512x512 .bf16) (harg7 : arg7.IsWhole)
    (arg8 : Memref sig .tc .vmem S1x512x512 .fp8e4m3) (harg8 : arg8.IsWhole)
    (arg9 : Memref sig .tc .vmem S1x1x32x128 .f32) (harg9 : arg9.IsWhole)
    (arg10 : Memref sig .tc .vmem S1x1x4x512 .f32) (harg10 : arg10.IsWhole)
    (arg11 : Memref sig .tc .vmem S2x12x128x128 .f32) (harg11 : arg11.IsWhole)
    (arg12 : Memref sig .tc .vmem S2x128x1664 .fp8e4m3) (harg12 : arg12.IsWhole)
    (arg13 : Memref sig .tc .vmem S13x8x128 .f32) (harg13 : arg13.IsWhole)
    (arg14 : Memref sig .tc .vmem S13x8x128 .f32) (harg14 : arg14.IsWhole)
    (f_arg2 : Bf (F := F) c arg2) (f_arg3 : Bf (F := F) c arg3) (f_arg4 : Bf (F := F) c arg4) (f_arg5 : Bf (F := F) c arg5) (f_arg6 : Bf (F := F) c arg6) : ∀ y, ∃ p ∈ (pieces (F := F) c i arg2 harg2 arg3 harg3 arg4 harg4 arg5 harg5 arg6 harg6 arg7 harg7 arg8 harg8 arg9 harg9 arg10 harg10 arg11 harg11 arg12 harg12 arg13 harg13 arg14 harg14 f_arg2 f_arg3 f_arg4 f_arg5 f_arg6).2.2.2, y ∈ p.1.set :=
  View.cover_of_tiledL _ S1x1x1x512.size (by sl_kernel_rfl)

/-- The four results' blocks after a run of the body, from the five operands' blocks. -/
def outs (c : Dev nD) (i : grid0.Coords)
    (arg2 : Memref sig .tc .vmem S1x512x512 .bf16) (harg2 : arg2.IsWhole)
    (arg3 : Memref sig .tc .vmem S1x268x128x128 .fp8e4m3) (harg3 : arg3.IsWhole)
    (arg4 : Memref sig .tc .vmem S1x268x128x128 .fp8e4m3) (harg4 : arg4.IsWhole)
    (arg5 : Memref sig .tc .vmem S1x268x128 .f32) (harg5 : arg5.IsWhole)
    (arg6 : Memref sig .tc .vmem S1x1x128 .f32) (harg6 : arg6.IsWhole)
    (arg7 : Memref sig .tc .vmem S1x512x512 .bf16) (harg7 : arg7.IsWhole)
    (arg8 : Memref sig .tc .vmem S1x512x512 .fp8e4m3) (harg8 : arg8.IsWhole)
    (arg9 : Memref sig .tc .vmem S1x1x32x128 .f32) (harg9 : arg9.IsWhole)
    (arg10 : Memref sig .tc .vmem S1x1x4x512 .f32) (harg10 : arg10.IsWhole)
    (arg11 : Memref sig .tc .vmem S2x12x128x128 .f32) (harg11 : arg11.IsWhole)
    (arg12 : Memref sig .tc .vmem S2x128x1664 .fp8e4m3) (harg12 : arg12.IsWhole)
    (arg13 : Memref sig .tc .vmem S13x8x128 .f32) (harg13 : arg13.IsWhole)
    (arg14 : Memref sig .tc .vmem S13x8x128 .f32) (harg14 : arg14.IsWhole)
    (x_arg2 : Vec F S1x512x512 .bf16) (x_arg3 : Vec F S1x268x128x128 .fp8e4m3) (x_arg4 : Vec F S1x268x128x128 .fp8e4m3) (x_arg5 : Vec F S1x268x128 .f32) (x_arg6 : Vec F S1x1x128 .f32) :
    Vec F S1x512x512 .bf16 × Vec F S1x512x512 .fp8e4m3 × Vec F S1x1x32x128 .f32 × Vec F S1x1x4x512 .f32 :=
  (View.canon (pieces (F := F) c i arg2 harg2 arg3 harg3 arg4 harg4 arg5 harg5 arg6 harg6 arg7 harg7 arg8 harg8 arg9 harg9 arg10 harg10 arg11 harg11 arg12 harg12 arg13 harg13 arg14 harg14 (harg2.unread x_arg2) (harg3.unread x_arg3) (harg4.unread x_arg4) (harg5.unread x_arg5) (harg6.unread x_arg6)).1, View.canon (pieces (F := F) c i arg2 harg2 arg3 harg3 arg4 harg4 arg5 harg5 arg6 harg6 arg7 harg7 arg8 harg8 arg9 harg9 arg10 harg10 arg11 harg11 arg12 harg12 arg13 harg13 arg14 harg14 (harg2.unread x_arg2) (harg3.unread x_arg3) (harg4.unread x_arg4) (harg5.unread x_arg5) (harg6.unread x_arg6)).2.1, View.canon (pieces (F := F) c i arg2 harg2 arg3 harg3 arg4 harg4 arg5 harg5 arg6 harg6 arg7 harg7 arg8 harg8 arg9 harg9 arg10 harg10 arg11 harg11 arg12 harg12 arg13 harg13 arg14 harg14 (harg2.unread x_arg2) (harg3.unread x_arg3) (harg4.unread x_arg4) (harg5.unread x_arg5) (harg6.unread x_arg6)).2.2.1, View.canon (pieces (F := F) c i arg2 harg2 arg3 harg3 arg4 harg4 arg5 harg5 arg6 harg6 arg7 harg7 arg8 harg8 arg9 harg9 arg10 harg10 arg11 harg11 arg12 harg12 arg13 harg13 arg14 harg14 (harg2.unread x_arg2) (harg3.unread x_arg3) (harg4.unread x_arg4) (harg5.unread x_arg5) (harg6.unread x_arg6)).2.2.2)

set_option maxHeartbeats 4000000 in
/-- The body's run on its staging memrefs: the operands' blocks stay, the results' blocks end at `outs`. -/
theorem body_triple (c : Dev nD) (i : grid0.Coords)
    (arg2 : Memref sig .tc .vmem S1x512x512 .bf16) (harg2 : arg2.IsWhole)
    (arg3 : Memref sig .tc .vmem S1x268x128x128 .fp8e4m3) (harg3 : arg3.IsWhole)
    (arg4 : Memref sig .tc .vmem S1x268x128x128 .fp8e4m3) (harg4 : arg4.IsWhole)
    (arg5 : Memref sig .tc .vmem S1x268x128 .f32) (harg5 : arg5.IsWhole)
    (arg6 : Memref sig .tc .vmem S1x1x128 .f32) (harg6 : arg6.IsWhole)
    (arg7 : Memref sig .tc .vmem S1x512x512 .bf16) (harg7 : arg7.IsWhole)
    (arg8 : Memref sig .tc .vmem S1x512x512 .fp8e4m3) (harg8 : arg8.IsWhole)
    (arg9 : Memref sig .tc .vmem S1x1x32x128 .f32) (harg9 : arg9.IsWhole)
    (arg10 : Memref sig .tc .vmem S1x1x4x512 .f32) (harg10 : arg10.IsWhole)
    (arg11 : Memref sig .tc .vmem S2x12x128x128 .f32) (harg11 : arg11.IsWhole)
    (arg12 : Memref sig .tc .vmem S2x128x1664 .fp8e4m3) (harg12 : arg12.IsWhole)
    (arg13 : Memref sig .tc .vmem S13x8x128 .f32) (harg13 : arg13.IsWhole)
    (arg14 : Memref sig .tc .vmem S13x8x128 .f32) (harg14 : arg14.IsWhole)
    (x_arg2 : Vec F S1x512x512 .bf16) (x_arg3 : Vec F S1x268x128x128 .fp8e4m3) (x_arg4 : Vec F S1x268x128x128 .fp8e4m3) (x_arg5 : Vec F S1x268x128 .f32) (x_arg6 : Vec F S1x1x128 .f32) (K : PUnit → sProp 𝕄) :
    iprop(owns (c : Thread nD τ) arg2 fullShare x_arg2 ∗ owns (c : Thread nD τ) arg3 fullShare x_arg3 ∗ owns (c : Thread nD τ) arg4 fullShare x_arg4 ∗ owns (c : Thread nD τ) arg5 fullShare x_arg5 ∗ owns (c : Thread nD τ) arg6 fullShare x_arg6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ f, pt c arg11 f) ∗ (∃ f, pt c arg12 f) ∗ (∃ f, pt c arg13 f) ∗ (∃ f, pt c arg14 f) ∗ (iprop(owns (c : Thread nD τ) arg2 fullShare x_arg2 ∗ owns (c : Thread nD τ) arg3 fullShare x_arg3 ∗ owns (c : Thread nD τ) arg4 fullShare x_arg4 ∗ owns (c : Thread nD τ) arg5 fullShare x_arg5 ∗ owns (c : Thread nD τ) arg6 fullShare x_arg6 ∗ owns (c : Thread nD τ) arg7 fullShare (outs (F := F) c i arg2 harg2 arg3 harg3 arg4 harg4 arg5 harg5 arg6 harg6 arg7 harg7 arg8 harg8 arg9 harg9 arg10 harg10 arg11 harg11 arg12 harg12 arg13 harg13 arg14 harg14 x_arg2 x_arg3 x_arg4 x_arg5 x_arg6).1 ∗ owns (c : Thread nD τ) arg8 fullShare (outs (F := F) c i arg2 harg2 arg3 harg3 arg4 harg4 arg5 harg5 arg6 harg6 arg7 harg7 arg8 harg8 arg9 harg9 arg10 harg10 arg11 harg11 arg12 harg12 arg13 harg13 arg14 harg14 x_arg2 x_arg3 x_arg4 x_arg5 x_arg6).2.1 ∗ owns (c : Thread nD τ) arg9 fullShare (outs (F := F) c i arg2 harg2 arg3 harg3 arg4 harg4 arg5 harg5 arg6 harg6 arg7 harg7 arg8 harg8 arg9 harg9 arg10 harg10 arg11 harg11 arg12 harg12 arg13 harg13 arg14 harg14 x_arg2 x_arg3 x_arg4 x_arg5 x_arg6).2.2.1 ∗ owns (c : Thread nD τ) arg10 fullShare (outs (F := F) c i arg2 harg2 arg3 harg3 arg4 harg4 arg5 harg5 arg6 harg6 arg7 harg7 arg8 harg8 arg9 harg9 arg10 harg10 arg11 harg11 arg12 harg12 arg13 harg13 arg14 harg14 x_arg2 x_arg3 x_arg4 x_arg5 x_arg6).2.2.2 ∗ (∃ f, pt c arg11 f) ∗ (∃ f, pt c arg12 f) ∗ (∃ f, pt c arg13 f) ∗ (∃ f, pt c arg14 f)) -∗ K ⟨⟩))
      ⊢ wp frame (wpE (defs₀ (F := F)) Variants.none (c : Thread nD τ) none) Set.univ (cc0_attend (F := F) i arg2 harg2 arg3 harg3 arg4 harg4 arg5 harg5 arg6 harg6 arg7 harg7 arg8 harg8 arg9 harg9 arg10 harg10 arg11 harg11 arg12 harg12 arg13 harg13 arg14 harg14) K := by
  unfold owns
  rw [harg2.set_eq_univ]; rw [harg3.set_eq_univ]; rw [harg4.set_eq_univ]; rw [harg5.set_eq_univ]; rw [harg6.set_eq_univ]; rw [harg7.set_eq_univ]; rw [harg8.set_eq_univ]; rw [harg9.set_eq_univ]; rw [harg10.set_eq_univ]
  iintro ⟨⟨%f_arg2, %e_arg2, H_arg2⟩, ⟨%f_arg3, %e_arg3, H_arg3⟩, ⟨%f_arg4, %e_arg4, H_arg4⟩, ⟨%f_arg5, %e_arg5, H_arg5⟩, ⟨%f_arg6, %e_arg6, H_arg6⟩, ⟨%d_arg7, %f_arg7, -, H_arg7⟩, ⟨%d_arg8, %f_arg8, -, H_arg8⟩, ⟨%d_arg9, %f_arg9, -, H_arg9⟩, ⟨%d_arg10, %f_arg10, -, H_arg10⟩, ⟨%f_arg11, H_arg11⟩, ⟨%f_arg12, H_arg12⟩, ⟨%f_arg13, H_arg13⟩, ⟨%f_arg14, H_arg14⟩, Hk⟩
  obtain rfl := harg2.eq_unread e_arg2; obtain rfl := harg3.eq_unread e_arg3; obtain rfl := harg4.eq_unread e_arg4; obtain rfl := harg5.eq_unread e_arg5; obtain rfl := harg6.eq_unread e_arg6
  iapply (body_run (F := F) c i arg2 harg2 arg3 harg3 arg4 harg4 arg5 harg5 arg6 harg6 arg7 harg7 arg8 harg8 arg9 harg9 arg10 harg10 arg11 harg11 arg12 harg12 arg13 harg13 arg14 harg14 (harg2.unread x_arg2) (harg3.unread x_arg3) (harg4.unread x_arg4) (harg5.unread x_arg5) (harg6.unread x_arg6) f_arg7 f_arg8 f_arg9 f_arg10 f_arg11 f_arg12 f_arg13 f_arg14 K)
  isplitl [H_arg2]; · iexact H_arg2
  isplitl [H_arg3]; · iexact H_arg3
  isplitl [H_arg4]; · iexact H_arg4
  isplitl [H_arg5]; · iexact H_arg5
  isplitl [H_arg6]; · iexact H_arg6
  isplitl [H_arg7]; · iexact H_arg7
  isplitl [H_arg8]; · iexact H_arg8
  isplitl [H_arg9]; · iexact H_arg9
  isplitl [H_arg10]; · iexact H_arg10
  isplitl [H_arg11]; · iexact H_arg11
  isplitl [H_arg12]; · iexact H_arg12
  isplitl [H_arg13]; · iexact H_arg13
  isplitl [H_arg14]; · iexact H_arg14
  iintro ⟨H_arg2, H_arg3, H_arg4, H_arg5, H_arg6, ⟨%g_arg7, H_arg7, %e_arg7⟩, ⟨%g_arg8, H_arg8, %e_arg8⟩, ⟨%g_arg9, H_arg9, %e_arg9⟩, ⟨%g_arg10, H_arg10, %e_arg10⟩, H_arg11, H_arg12, H_arg13, H_arg14⟩
  subst e_arg7 e_arg8 e_arg9 e_arg10
  iapply Hk
  isplitl [H_arg2]
  · iexists _
    isplitr
    · ipureintro; exact harg2.read_unread _
    iexact H_arg2
  isplitl [H_arg3]
  · iexists _
    isplitr
    · ipureintro; exact harg3.read_unread _
    iexact H_arg3
  isplitl [H_arg4]
  · iexists _
    isplitr
    · ipureintro; exact harg4.read_unread _
    iexact H_arg4
  isplitl [H_arg5]
  · iexists _
    isplitr
    · ipureintro; exact harg5.read_unread _
    iexact H_arg5
  isplitl [H_arg6]
  · iexists _
    isplitr
    · ipureintro; exact harg6.read_unread _
    iexact H_arg6
  isplitl [H_arg7]
  · iexists _
    isplitr
    swap; · iexact H_arg7
    ipureintro
    dsimp only [outs]
    exact View.read_writes_eq_canon _ _ _ (cover_arg7 (F := F) c i arg2 harg2 arg3 harg3 arg4 harg4 arg5 harg5 arg6 harg6 arg7 harg7 arg8 harg8 arg9 harg9 arg10 harg10 arg11 harg11 arg12 harg12 arg13 harg13 arg14 harg14 (harg2.unread x_arg2) (harg3.unread x_arg3) (harg4.unread x_arg4) (harg5.unread x_arg5) (harg6.unread x_arg6))
  isplitl [H_arg8]
  · iexists _
    isplitr
    swap; · iexact H_arg8
    ipureintro
    dsimp only [outs]
    exact View.read_writes_eq_canon _ _ _ (cover_arg8 (F := F) c i arg2 harg2 arg3 harg3 arg4 harg4 arg5 harg5 arg6 harg6 arg7 harg7 arg8 harg8 arg9 harg9 arg10 harg10 arg11 harg11 arg12 harg12 arg13 harg13 arg14 harg14 (harg2.unread x_arg2) (harg3.unread x_arg3) (harg4.unread x_arg4) (harg5.unread x_arg5) (harg6.unread x_arg6))
  isplitl [H_arg9]
  · iexists _
    isplitr
    swap; · iexact H_arg9
    ipureintro
    dsimp only [outs]
    exact View.read_writes_eq_canon _ _ _ (cover_arg9 (F := F) c i arg2 harg2 arg3 harg3 arg4 harg4 arg5 harg5 arg6 harg6 arg7 harg7 arg8 harg8 arg9 harg9 arg10 harg10 arg11 harg11 arg12 harg12 arg13 harg13 arg14 harg14 (harg2.unread x_arg2) (harg3.unread x_arg3) (harg4.unread x_arg4) (harg5.unread x_arg5) (harg6.unread x_arg6))
  isplitl [H_arg10]
  · iexists _
    isplitr
    swap; · iexact H_arg10
    ipureintro
    dsimp only [outs]
    exact View.read_writes_eq_canon _ _ _ (cover_arg10 (F := F) c i arg2 harg2 arg3 harg3 arg4 harg4 arg5 harg5 arg6 harg6 arg7 harg7 arg8 harg8 arg9 harg9 arg10 harg10 arg11 harg11 arg12 harg12 arg13 harg13 arg14 harg14 (harg2.unread x_arg2) (harg3.unread x_arg3) (harg4.unread x_arg4) (harg5.unread x_arg5) (harg6.unread x_arg6))
  isplitl [H_arg11]; · iexact H_arg11
  isplitl [H_arg12]; · iexact H_arg12
  isplitl [H_arg13]; · iexact H_arg13
  iexact H_arg14

/-! ## The pipeline's proof data -/

variable (m : (ℓ : Loc nD τ sig) → Buf (Elt F) ℓ) (ρ : Dev nD → PrngReg)

/-- The four results' blocks the body leaves at grid point `t`. -/
def outsAt (c : Dev nD) (t : Fin cfg0.N) :
    Vec F S1x512x512 .bf16 × Vec F S1x512x512 .fp8e4m3 × Vec F S1x1x32x128 .f32 × Vec F S1x1x4x512 .f32 :=
  outs (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _)
    (iblk m c 0 t) (iblk m c 1 t) (iblk m c 2 t) (iblk m c 3 t) (iblk m c 4 t)

/-- The arrays as the launch finds them; after the body each operand's buffer at its block, each result's at `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t).1
    | ⟨6, _⟩ => (outsAt m c t).2.1
    | ⟨7, _⟩ => (outsAt m c t).2.2.1
    | ⟨8, _⟩ => (outsAt m c t).2.2.2
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt m c t).1 := by dsimp only [dats]
theorem after0_6 (c : Dev nD) (t : Fin cfg0.N) : (dats m 0 c).after 6 t = (outsAt m c t).2.1 := by dsimp only [dats]
theorem after0_7 (c : Dev nD) (t : Fin cfg0.N) : (dats m 0 c).after 7 t = (outsAt m c t).2.2.1 := by dsimp only [dats]
theorem after0_8 (c : Dev nD) (t : Fin cfg0.N) : (dats m 0 c).after 8 t = (outsAt m c t).2.2.2 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

set_option maxHeartbeats 4000000 in
/-- The body obligation: at every grid point the body takes each operand's block to itself and leaves `outsAt`. -/
theorem body_obligation (c : Dev nD) : BodyObligation (dats (F := F) m 0 c) (defs₀ (F := F)) Variants.none () Set.univ := fun t => by
  rw [bigSep_W0, bigSep_W0]
  sl_whnfR [defs₀, Defs.onTc]
  simp only [before0_0, before0_1, before0_2, before0_3, before0_4]
  rw [show (dats m 0 c).Φ t.succ = (dats m 0 c).Φ t.castSucc from rfl,
    show (dats m 0 c).owesAt () t.succ = (dats m 0 c).owesAt () t.castSucc from rfl, after0_0, after0_1, after0_2, after0_3, after0_4, after0_5, after0_6, after0_7, after0_8,
    show (dats m 0 c).Φ t.castSucc = Pipeline.ΦA spec0 c from rfl]
  unfold Pipeline.ΦA
  rw [scopedRest0_eq]
  unfold outsAt
  iintro ⟨⟨⟨⟨%s0, S0⟩, ⟨%s1, S1⟩, ⟨%s2, S2⟩, ⟨%s3, S3⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_triple (F := F) c (grid0.coords t) _ _ _ _ _ _ _ _ _ _ _ _ _ _ _ _ _ _ _ _ _ _ _ _ _ _ (iblk m c 0 t) (iblk m c 1 t) (iblk m c 2 t) (iblk m c 3 t) (iblk m c 4 t))
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [S0]; · iexists _; iexact S0
  isplitl [S1]; · iexists _; iexact S1
  isplitl [S2]; · iexists _; iexact S2
  isplitl [S3]; · iexists _; iexact S3
  iintro ⟨H0, H1, H2, H3, H4, H5, H6, H7, H8, S0, S1, S2, S3⟩
  isplitl [S0 S1 S2 S3 Hr]
  · isplitl [S0 S1 S2 S3]
    · isplitl [S0]; · iexact S0
      isplitl [S1]; · iexact S1
      isplitl [S2]; · iexact S2
      iexact S3
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option backward.isDefEq.respectTransparency.types false in
/-- Every weakly fair execution terminates; at the end every array is what the proof data computes and every semaphore
    counter is zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

end Cert.Proof.KernelIdeal

end
-- ==== Proof.KI.Block.lean ====
/- The four results' blocks after a run of the body at a grid point, element by element: four trips' stores read together. -/
module

public import proofs.«01_k».proof.Proof.KI.Heads
public import proofs.«01_k».proof.Proof.KI.Frame

@[expose] public section

noncomputable section

namespace Cert.Proof.KernelIdeal

open Cert.KernelIdeal Cert.KernelIdeal.Gen Idealize.ShloMosaic Idealize.ShloMosaic.TcCoe Cert.Proof.Spec Cert.Proof.Window

/-- Query block `n` of the point's four. -/
def kq (n : ℕ) (h : n < 4) : Fin k0_t1_loop.trips := ⟨n, by rw [trips4]; exact h⟩

/-- The four results' blocks at a grid point. -/
def B7 (i : grid0.Coords) (x2 : Vec Ideal S1x512x512 .bf16) (x3 x4 : Vec Ideal S1x268x128x128 .fp8e4m3) (x5 : Vec Ideal S1x268x128 .f32)
    (x6 : Vec Ideal S1x1x128 .f32) (s l : Fin 512) : EReal :=
  outB i (kq (s.val / 128) (by omega)) x2 x3 x4 x5 x6 ⟨l.val / 64, by omega⟩ ⟨s.val % 128, by omega⟩ ⟨l.val % 128, by omega⟩
def B8 (x2 : Vec Ideal S1x512x512 .bf16) (l s : Fin 512) : EReal :=
  code (xb x2 (kq (s.val / 128) (by omega)) ⟨l.val / 64, by omega⟩) ⟨s.val % 128, by omega⟩ ⟨l.val % 64, by omega⟩
def B9 (x2 : Vec Ideal S1x512x512 .bf16) (s : Fin 32) : EReal := scale (amax (xb x2 (kq (s.val / 8) (by omega)) ⟨s.val % 8, by omega⟩))
def B10 (x2 : Vec Ideal S1x512x512 .bf16) (s : Fin 4) (l : Fin 512) : EReal :=
  mean (xb x2 (kq s.val s.isLt) ⟨l.val / 64, by omega⟩) ⟨l.val % 64, by omega⟩

/-- A stretch of trips leaves only pieces of its trips. -/
theorem accum_all {P : (p : View.Piece (Elt Ideal) S1x512x512 .bf16) → Prop} {Q : (p : View.Piece (Elt Ideal) S1x512x512 .fp8e4m3) → Prop}
    {R : (p : View.Piece (Elt Ideal) S1x1x32x128 .f32) → Prop} {U : (p : View.Piece (Elt Ideal) S1x1x4x512 .f32) → Prop}
    (T : Fin k0_t1_loop.trips → Pcs Ideal) (hT : ∀ k, (∀ p ∈ (T k).1, P p) ∧ (∀ p ∈ (T k).2.1, Q p) ∧ (∀ p ∈ (T k).2.2.1, R p) ∧ ∀ p ∈ (T k).2.2.2, U p) (n : ℕ) :
    (∀ p ∈ (accum T n).1, P p) ∧ (∀ p ∈ (accum T n).2.1, Q p) ∧ (∀ p ∈ (accum T n).2.2.1, R p) ∧ ∀ p ∈ (accum T n).2.2.2, U p := by
  induction n with
  | zero => exact ⟨fun p hp => absurd hp List.not_mem_nil, fun p hp => absurd hp List.not_mem_nil, fun p hp => absurd hp List.not_mem_nil, fun p hp => absurd hp List.not_mem_nil⟩
  | succ n ih =>
    rw [accum.eq_2]
    by_cases h : n < k0_t1_loop.trips
    · rw [dif_pos h]
      obtain ⟨a1, a2, a3, a4⟩ := hT ⟨n, h⟩
      obtain ⟨b1, b2, b3, b4⟩ := ih
      exact ⟨fun p hp => (List.mem_append.1 hp).elim (a1 p) (b1 p), fun p hp => (List.mem_append.1 hp).elim (a2 p) (b2 p),
        fun p hp => (List.mem_append.1 hp).elim (a3 p) (b3 p), fun p hp => (List.mem_append.1 hp).elim (a4 p) (b4 p)⟩
    · rw [dif_neg h]
      exact ih

theorem B7_mk (i : grid0.Coords) (x2 : Vec Ideal S1x512x512 .bf16) (x3 x4 : Vec Ideal S1x268x128x128 .fp8e4m3) (x5 : Vec Ideal S1x268x128 .f32)
    (x6 : Vec Ideal S1x1x128 .f32) (k : Fin k0_t1_loop.trips) (p : Fin 4) (r l : Fin 128) (s t : Fin 512) (hs : s.val = 128 * k.val + r.val)
    (ht : t.val = 128 * p.val + l.val) : outB i k x2 x3 x4 x5 x6 ⟨2 * p.val + l.val / 64, by omega⟩ r l = B7 i x2 x3 x4 x5 x6 s t := by
  unfold B7
  congr 1
  · exact Fin.ext (by simp only [kq]; omega)
  · exact Fin.ext (by simp only; omega)
  · exact Fin.ext (by simp only; omega)
  · exact Fin.ext (by simp only; omega)

theorem B8_mk (x2 : Vec Ideal S1x512x512 .bf16) (k : Fin k0_t1_loop.trips) (p : Fin 4) (l r : Fin 128) (t s : Fin 512) (ht : t.val = 128 * p.val + l.val)
    (hs : s.val = 128 * k.val + r.val) :
    code (xb x2 k ⟨2 * p.val + l.val / 64, by omega⟩) r ⟨l.val % 64, by omega⟩ = B8 x2 t s := by
  unfold B8
  have e1 : k = kq (s.val / 128) (by omega) := Fin.ext (by simp only [kq]; omega)
  have e2 : (⟨2 * p.val + l.val / 64, by omega⟩ : Fin 8) = ⟨t.val / 64, by omega⟩ := Fin.ext (by simp only; omega)
  have e3 : r = ⟨s.val % 128, by omega⟩ := Fin.ext (by simp only; omega)
  have e4 : (⟨l.val % 64, by omega⟩ : Fin 64) = ⟨t.val % 64, by omega⟩ := Fin.ext (by simp only; omega)
  rw [e2, e4, ← e1, ← e3]

theorem B9_mk (x2 : Vec Ideal S1x512x512 .bf16) (k : Fin k0_t1_loop.trips) (h : Fin 8) (s : Fin 32) (hs : s.val = 8 * k.val + h.val) :
    scale (amax (xb x2 k h)) = B9 x2 s := by
  unfold B9
  have e1 : k = kq (s.val / 8) (by omega) := Fin.ext (by simp only [kq]; omega)
  have e2 : h = ⟨s.val % 8, by omega⟩ := Fin.ext (by simp only; omega)
  rw [← e1, ← e2]

theorem B10_mk (x2 : Vec Ideal S1x512x512 .bf16) (k : Fin k0_t1_loop.trips) (l : Fin 512) (s : Fin 4) (t : Fin 512) (hs : s.val = k.val) (ht : t.val = l.val) :
    mean (xb x2 k ⟨l.val / 64, by omega⟩) ⟨l.val % 64, by omega⟩ = B10 x2 s t := by
  have e1 : k = kq s.val s.isLt := Fin.ext (by simp only [kq]; omega)
  obtain rfl : t = l := Fin.ext ht
  unfold B10
  rw [← e1]

/-- A store of a pair's outputs writes the block's elements. -/
theorem piece7 (i : grid0.Coords) (x2 : Vec Ideal S1x512x512 .bf16) (x3 x4 : Vec Ideal S1x268x128x128 .fp8e4m3) (x5 : Vec Ideal S1x268x128 .f32)
    (x6 : Vec Ideal S1x1x128 .f32) (k : Fin k0_t1_loop.trips) (p : Fin 4) (off : Fin 3 → ℕ) (inb : ∀ a, off a + S1x128x128.size a ≤ S1x512x512.size a)
    (ho : off = ![0, 128 * k.val, 128 * p.val]) (X : Vec Ideal S1x128x128 .bf16)
    (hX : ∀ r l : Fin 128, X (ix3 0 r l) = outB i k x2 x3 x4 x5 x6 ⟨2 * p.val + l.val / 64, by omega⟩ r l) (y : S1x128x128.Idx) :
    X y = B7 i x2 x3 x4 x5 x6 ((Rect.unit (s := S1x512x512) off S1x128x128.size inb).emb y 1) ((Rect.unit (s := S1x512x512) off S1x128x128.size inb).emb y 2) := by
  subst ho
  obtain ⟨r, l, rfl⟩ : ∃ r l : Fin 128, y = ix3 0 r l := by
    refine ⟨y 1, y 2, ?_⟩
    funext a; fin_cases a
    · exact Fin.ext (by have := (y 0).isLt; simp [ix3] at *; omega)
    · rfl
    · rfl
  exact (hX r l).trans (B7_mk i x2 x3 x4 x5 x6 k p r l _ _ (by simp [ix3]) (by simp [ix3]))

/-- A store of a pair's codes writes the block's elements. -/
theorem piece8 (x2 : Vec Ideal S1x512x512 .bf16) (X0 : Vec Ideal S1x128x512 .bf16) (k : Fin k0_t1_loop.trips) (hb0 : ∀ h, hb X0 h = xb x2 k h)
    (p : Fin 4) (off : Fin 3 → ℕ) (inb : ∀ a, off a + S1x128x128.size a ≤ S1x512x512.size a)
    (ho : off = ![0, 128 * p.val, 128 * k.val]) (X : Vec Ideal S1x128x128 .fp8e4m3)
    (hX : ∀ r l : Fin 128, X (ix3 0 l r) = codeP X0 p r l) (y : S1x128x128.Idx) :
    X y = B8 x2 ((Rect.unit (s := S1x512x512) off S1x128x128.size inb).emb y 1) ((Rect.unit (s := S1x512x512) off S1x128x128.size inb).emb y 2) := by
  subst ho
  obtain ⟨l, r, rfl⟩ : ∃ l r : Fin 128, y = ix3 0 l r := by
    refine ⟨y 1, y 2, ?_⟩
    funext a; fin_cases a
    · exact Fin.ext (by have := (y 0).isLt; simp [ix3] at *; omega)
    · rfl
    · rfl
  refine (hX r l).trans ?_
  rw [codeP, hb0]
  exact B8_mk x2 k p l r _ _ (by simp [ix3]) (by simp [ix3])

/-- A store of a query block's scales writes the block's elements. -/
theorem piece9 (x2 : Vec Ideal S1x512x512 .bf16) (k : Fin k0_t1_loop.trips) (off : Fin 4 → ℕ) (inb : ∀ a, off a + S1x1x8x128.size a ≤ S1x1x32x128.size a)
    (ho : off = ![0, 0, 8 * k.val, 0]) (X : Vec Ideal S1x1x8x128 .f32)
    (hX : ∀ (h : Fin 8) (l : Fin 128), X (ix4 0 0 h l) = scale (amax (xb x2 k h))) (y : S1x1x8x128.Idx) :
    X y = B9 x2 ((Rect.unit (s := S1x1x32x128) off S1x1x8x128.size inb).emb y 2) := by
  subst ho
  obtain ⟨h, l, rfl⟩ : ∃ (h : Fin 8) (l : Fin 128), y = ix4 0 0 h l := by
    refine ⟨y 2, y 3, ?_⟩
    funext a; fin_cases a
    · exact Fin.ext (by have := (y 0).isLt; simp [ix4] at *; omega)
    · exact Fin.ext (by have := (y 1).isLt; simp [ix4] at *; omega)
    · rfl
    · rfl
  exact (hX h l).trans (B9_mk x2 k h _ (by simp [ix4]))

/-- A store of a query block's means writes the block's elements. -/
theorem piece10 (x2 : Vec Ideal S1x512x512 .bf16) (k : Fin k0_t1_loop.trips) (off : Fin 4 → ℕ) (inb : ∀ a, off a + S1x1x1x512.size a ≤ S1x1x4x512.size a)
    (ho : off = ![0, 0, k.val, 0]) (X : Vec Ideal S1x1x1x512 .f32)
    (hX : ∀ l : Fin 512, X (ix4 0 0 0 l) = mean (xb x2 k ⟨l.val / 64, by omega⟩) ⟨l.val % 64, by omega⟩) (y : S1x1x1x512.Idx) :
    X y = B10 x2 ((Rect.unit (s := S1x1x4x512) off S1x1x1x512.size inb).emb y 2) ((Rect.unit (s := S1x1x4x512) off S1x1x1x512.size inb).emb y 3) := by
  subst ho
  obtain ⟨l, rfl⟩ : ∃ l : Fin 512, y = ix4 0 0 0 l := by
    refine ⟨y 3, ?_⟩
    funext a; fin_cases a
    · exact Fin.ext (by have := (y 0).isLt; simp [ix4] at *; omega)
    · exact Fin.ext (by have := (y 1).isLt; simp [ix4] at *; omega)
    · exact Fin.ext (by have := (y 2).isLt; simp [ix4] at *; omega)
    · rfl
  exact (hX l).trans (B10_mk x2 k l _ _ (by simp [ix4]) (by simp [ix4]))

section

variable (c : Dev nD) (i : grid0.Coords)
    (arg2 : Memref sig .tc .vmem S1x512x512 .bf16) (harg2 : arg2.IsWhole)
    (arg3 : Memref sig .tc .vmem S1x268x128x128 .fp8e4m3) (harg3 : arg3.IsWhole)
    (arg4 : Memref sig .tc .vmem S1x268x128x128 .fp8e4m3) (harg4 : arg4.IsWhole)
    (arg5 : Memref sig .tc .vmem S1x268x128 .f32) (harg5 : arg5.IsWhole)
    (arg6 : Memref sig .tc .vmem S1x1x128 .f32) (harg6 : arg6.IsWhole)
    (arg7 : Memref sig .tc .vmem S1x512x512 .bf16) (harg7 : arg7.IsWhole)
    (arg8 : Memref sig .tc .vmem S1x512x512 .fp8e4m3) (harg8 : arg8.IsWhole)
    (arg9 : Memref sig .tc .vmem S1x1x32x128 .f32) (harg9 : arg9.IsWhole)
    (arg10 : Memref sig .tc .vmem S1x1x4x512 .f32) (harg10 : arg10.IsWhole)
    (arg11 : Memref sig .tc .vmem S2x12x128x128 .f32) (harg11 : arg11.IsWhole)
    (arg12 : Memref sig .tc .vmem S2x128x1664 .fp8e4m3) (harg12 : arg12.IsWhole)
    (arg13 : Memref sig .tc .vmem S13x8x128 .f32) (harg13 : arg13.IsWhole)
    (arg14 : Memref sig .tc .vmem S13x8x128 .f32) (harg14 : arg14.IsWhole)
    (x2 : Vec Ideal S1x512x512 .bf16) (x3 x4 : Vec Ideal S1x268x128x128 .fp8e4m3) (x5 : Vec Ideal S1x268x128 .f32) (x6 : Vec Ideal S1x1x128 .f32)

section

variable (k : Fin k0_t1_loop.trips)
    (b : ∀ h, amax (xb x2 k h) * cst 0x3B124925#32 < (((2 : ℝ) ^ (121 : ℤ) : ℝ) : EReal))
    (h0 : ∀ t j, 0 ≤ x5 (ix3 0 t j)) (h1 : ∀ t j, x5 (ix3 0 t j) ≠ ⊤)

include b h0 h1 in
/-- What one trip stores in the outputs' block. -/
theorem trip7 : ∀ p ∈ (trip (F := Ideal) c i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) iR8 k0_pay729 iL1 iRw iCl (harg2.unread x2) (harg3.unread x3) (harg4.unread x4) (harg5.unread x5) (harg6.unread x6) k).1.1, ∀ y, p.2 y = B7 i x2 x3 x4 x5 x6 (p.1.emb y 1) (p.1.emb y 2) := by
  intro p hp
  rcases List.mem_cons.1 hp with rfl | hp
  · exact piece7 i x2 x3 x4 x5 x6 k 3 _ (k0_off13_inb k) (k0_off13_eq k) _ (out3_at c i arg2 harg2 arg3 harg3 arg4 harg4 arg5 harg5 arg6 harg6 arg11 arg12 arg13 arg14 x2 x3 x4 x5 x6 k b h0 h1)
  rcases List.mem_cons.1 hp with rfl | hp
  · exact piece7 i x2 x3 x4 x5 x6 k 2 _ (k0_off11_inb k) (k0_off11_eq k) _ (out2_at c i arg2 harg2 arg3 harg3 arg4 harg4 arg5 harg5 arg6 harg6 arg11 arg12 arg13 arg14 x2 x3 x4 x5 x6 k b h0 h1)
  rcases List.mem_cons.1 hp with rfl | hp
  · exact piece7 i x2 x3 x4 x5 x6 k 1 _ (k0_off9_inb k) (k0_off9_eq k) _ (out1_at c i arg2 harg2 arg3 harg3 arg4 harg4 arg5 harg5 arg6 harg6 arg11 arg12 arg13 arg14 x2 x3 x4 x5 x6 k b h0 h1)
  rcases List.mem_singleton.1 hp with rfl
  exact piece7 i x2 x3 x4 x5 x6 k 0 _ (k0_off7_inb k) (k0_off7_eq k) _ (out0_at c i arg2 harg2 arg3 harg3 arg4 harg4 arg5 harg5 arg6 harg6 arg11 arg12 arg13 arg14 x2 x3 x4 x5 x6 k b h0 h1)

include b in
/-- What one trip stores in the codes' block. -/
theorem trip8 : ∀ p ∈ (trip (F := Ideal) c i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) iR8 k0_pay729 iL1 iRw iCl (harg2.unread x2) (harg3.unread x3) (harg4.unread x4) (harg5.unread x5) (harg6.unread x6) k).1.2.1, ∀ y, p.2 y = B8 x2 (p.1.emb y 1) (p.1.emb y 2) := by
  intro p hp
  rcases List.mem_cons.1 hp with rfl | hp
  · exact piece8 x2 _ k (hb_Xl c arg2 harg2 x2 k) 3 _ (k0_off12_inb k) (k0_off12_eq k) _ (stored3 c arg2 _ k (bX c arg2 harg2 x2 k b))
  rcases List.mem_cons.1 hp with rfl | hp
  · exact piece8 x2 _ k (hb_Xl c arg2 harg2 x2 k) 2 _ (k0_off10_inb k) (k0_off10_eq k) _ (stored2 c arg2 _ k (bX c arg2 harg2 x2 k b))
  rcases List.mem_cons.1 hp with rfl | hp
  · exact piece8 x2 _ k (hb_Xl c arg2 harg2 x2 k) 1 _ (k0_off8_inb k) (k0_off8_eq k) _ (stored1 c arg2 _ k (bX c arg2 harg2 x2 k b))
  rcases List.mem_singleton.1 hp with rfl
  exact piece8 x2 _ k (hb_Xl c arg2 harg2 x2 k) 0 _ (k0_off6_inb k) (k0_off6_eq k) _ (stored0 c arg2 _ k (bX c arg2 harg2 x2 k b))

theorem scale_row (f : Bf (F := Ideal) c arg2) (h : Fin 8) (l : Fin 128) :
    k0_pay31 (trip.sl.v216 c arg2 iR8 k0_pay729 f k) (trip.sl.v279 c arg2 iR8 k0_pay729 f k) (trip.sl.cst_68 (F := Ideal)) (ix4 0 0 h l)
      = trip.sl.v286 c arg2 iR8 k0_pay729 f k (ix2 h l) := by
  pointwise [k0_pay31]
  rfl

include b in
/-- What one trip stores in the scales' block. -/
theorem trip9 : ∀ p ∈ (trip (F := Ideal) c i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) iR8 k0_pay729 iL1 iRw iCl (harg2.unread x2) (harg3.unread x3) (harg4.unread x4) (harg5.unread x5) (harg6.unread x6) k).1.2.2.1, ∀ y, p.2 y = B9 x2 (p.1.emb y 2) := by
  intro p hp
  rcases List.mem_singleton.1 hp with rfl
  exact piece9 x2 k _ (k0_off3_inb k) (k0_off3_eq k) _ fun h l => (scale_row c arg2 k _ h l).trans
    ((sq_at c arg2 _ k h l (bX c arg2 harg2 x2 k b h)).trans (by rw [hb_Xl]))

/-- What one trip stores in the means' block. -/
theorem trip10 : ∀ p ∈ (trip (F := Ideal) c i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) iR8 k0_pay729 iL1 iRw iCl (harg2.unread x2) (harg3.unread x3) (harg4.unread x4) (harg5.unread x5) (harg6.unread x6) k).1.2.2.2, ∀ y, p.2 y = B10 x2 (p.1.emb y 2) (p.1.emb y 3) := by
  intro p hp
  rcases List.mem_singleton.1 hp with rfl
  refine piece10 x2 k _ (k0_off2_inb k) (k0_off2_eq k) _ fun l => ?_
  have e : k0_pay5 (Xl c arg2 (harg2.unread x2) k) (ix4 0 0 0 l) = k0_pay4 (Xl c arg2 (harg2.unread x2) k) (ix2 0 l) := by
    pointwise [k0_pay5]
  exact e.trans ((mq_row _ l).trans (by rw [hb_Xl]))

end

variable (b : ∀ k h, amax (xb x2 k h) * cst 0x3B124925#32 < (((2 : ℝ) ^ (121 : ℤ) : ℝ) : EReal))
    (h0 : ∀ t j, 0 ≤ x5 (ix3 0 t j)) (h1 : ∀ t j, x5 (ix3 0 t j) ≠ ⊤)

include b h0 h1 in
theorem pieces_all : (∀ p ∈ (pieces (F := Ideal) c i arg2 harg2 arg3 harg3 arg4 harg4 arg5 harg5 arg6 harg6 arg7 harg7 arg8 harg8 arg9 harg9 arg10 harg10 arg11 harg11 arg12 harg12 arg13 harg13 arg14 harg14 (harg2.unread x2) (harg3.unread x3) (harg4.unread x4) (harg5.unread x5) (harg6.unread x6)).1, ∀ y, p.2 y = B7 i x2 x3 x4 x5 x6 (p.1.emb y 1) (p.1.emb y 2))
    ∧ (∀ p ∈ (pieces (F := Ideal) c i arg2 harg2 arg3 harg3 arg4 harg4 arg5 harg5 arg6 harg6 arg7 harg7 arg8 harg8 arg9 harg9 arg10 harg10 arg11 harg11 arg12 harg12 arg13 harg13 arg14 harg14 (harg2.unread x2) (harg3.unread x3) (harg4.unread x4) (harg5.unread x5) (harg6.unread x6)).2.1, ∀ y, p.2 y = B8 x2 (p.1.emb y 1) (p.1.emb y 2))
    ∧ (∀ p ∈ (pieces (F := Ideal) c i arg2 harg2 arg3 harg3 arg4 harg4 arg5 harg5 arg6 harg6 arg7 harg7 arg8 harg8 arg9 harg9 arg10 harg10 arg11 harg11 arg12 harg12 arg13 harg13 arg14 harg14 (harg2.unread x2) (harg3.unread x3) (harg4.unread x4) (harg5.unread x5) (harg6.unread x6)).2.2.1, ∀ y, p.2 y = B9 x2 (p.1.emb y 2))
    ∧ ∀ p ∈ (pieces (F := Ideal) c i arg2 harg2 arg3 harg3 arg4 harg4 arg5 harg5 arg6 harg6 arg7 harg7 arg8 harg8 arg9 harg9 arg10 harg10 arg11 harg11 arg12 harg12 arg13 harg13 arg14 harg14 (harg2.unread x2) (harg3.unread x3) (harg4.unread x4) (harg5.unread x5) (harg6.unread x6)).2.2.2, ∀ y, p.2 y = B10 x2 (p.1.emb y 2) (p.1.emb y 3) :=
  accum_all _ (fun k => ⟨trip7 c i arg2 harg2 arg3 harg3 arg4 harg4 arg5 harg5 arg6 harg6 arg7 harg7 arg8 harg8 arg9 harg9 arg10 harg10 arg11 harg11 arg12 harg12 arg13 harg13 arg14 harg14 x2 x3 x4 x5 x6 k (b k) h0 h1, trip8 c i arg2 harg2 arg3 harg3 arg4 harg4 arg5 harg5 arg6 harg6 arg7 harg7 arg8 harg8 arg9 harg9 arg10 harg10 arg11 harg11 arg12 harg12 arg13 harg13 arg14 harg14 x2 x3 x4 x5 x6 k (b k), trip9 c i arg2 harg2 arg3 harg3 arg4 harg4 arg5 harg5 arg6 harg6 arg7 harg7 arg8 harg8 arg9 harg9 arg10 harg10 arg11 harg11 arg12 harg12 arg13 harg13 arg14 harg14 x2 x3 x4 x5 x6 k (b k), trip10 c i arg2 harg2 arg3 harg3 arg4 harg4 arg5 harg5 arg6 harg6 arg7 harg7 arg8 harg8 arg9 harg9 arg10 harg10 arg11 harg11 arg12 harg12 arg13 harg13 arg14 harg14 x2 x3 x4 x5 x6 k⟩) _

include b h0 h1 in
theorem canon7 (y : S1x512x512.Idx) : View.canon (pieces (F := Ideal) c i arg2 harg2 arg3 harg3 arg4 harg4 arg5 harg5 arg6 harg6 arg7 harg7 arg8 harg8 arg9 harg9 arg10 harg10 arg11 harg11 arg12 harg12 arg13 harg13 arg14 harg14 (harg2.unread x2) (harg3.unread x3) (harg4.unread x4) (harg5.unread x5) (harg6.unread x6)).1 y = B7 i x2 x3 x4 x5 x6 (y 1) (y 2) :=
  View.canon_apply_of_pieces (fun y : S1x512x512.Idx => B7 i x2 x3 x4 x5 x6 (y 1) (y 2)) _ (pieces_all c i arg2 harg2 arg3 harg3 arg4 harg4 arg5 harg5 arg6 harg6 arg7 harg7 arg8 harg8 arg9 harg9 arg10 harg10 arg11 harg11 arg12 harg12 arg13 harg13 arg14 harg14 x2 x3 x4 x5 x6 b h0 h1).1 y (cover_arg7 c i arg2 harg2 arg3 harg3 arg4 harg4 arg5 harg5 arg6 harg6 arg7 harg7 arg8 harg8 arg9 harg9 arg10 harg10 arg11 harg11 arg12 harg12 arg13 harg13 arg14 harg14 (harg2.unread x2) (harg3.unread x3) (harg4.unread x4) (harg5.unread x5) (harg6.unread x6) y)

include b h0 h1 in
theorem canon8 (y : S1x512x512.Idx) : View.canon (pieces (F := Ideal) c i arg2 harg2 arg3 harg3 arg4 harg4 arg5 harg5 arg6 harg6 arg7 harg7 arg8 harg8 arg9 harg9 arg10 harg10 arg11 harg11 arg12 harg12 arg13 harg13 arg14 harg14 (harg2.unread x2) (harg3.unread x3) (harg4.unread x4) (harg5.unread x5) (harg6.unread x6)).2.1 y = B8 x2 (y 1) (y 2) :=
  View.canon_apply_of_pieces (fun y : S1x512x512.Idx => B8 x2 (y 1) (y 2)) _ (pieces_all c i arg2 harg2 arg3 harg3 arg4 harg4 arg5 harg5 arg6 harg6 arg7 harg7 arg8 harg8 arg9 harg9 arg10 harg10 arg11 harg11 arg12 harg12 arg13 harg13 arg14 harg14 x2 x3 x4 x5 x6 b h0 h1).2.1 y (cover_arg8 c i arg2 harg2 arg3 harg3 arg4 harg4 arg5 harg5 arg6 harg6 arg7 harg7 arg8 harg8 arg9 harg9 arg10 harg10 arg11 harg11 arg12 harg12 arg13 harg13 arg14 harg14 (harg2.unread x2) (harg3.unread x3) (harg4.unread x4) (harg5.unread x5) (harg6.unread x6) y)

include b h0 h1 in
theorem canon9 (y : S1x1x32x128.Idx) : View.canon (pieces (F := Ideal) c i arg2 harg2 arg3 harg3 arg4 harg4 arg5 harg5 arg6 harg6 arg7 harg7 arg8 harg8 arg9 harg9 arg10 harg10 arg11 harg11 arg12 harg12 arg13 harg13 arg14 harg14 (harg2.unread x2) (harg3.unread x3) (harg4.unread x4) (harg5.unread x5) (harg6.unread x6)).2.2.1 y = B9 x2 (y 2) :=
  View.canon_apply_of_pieces (fun y : S1x1x32x128.Idx => B9 x2 (y 2)) _ (pieces_all c i arg2 harg2 arg3 harg3 arg4 harg4 arg5 harg5 arg6 harg6 arg7 harg7 arg8 harg8 arg9 harg9 arg10 harg10 arg11 harg11 arg12 harg12 arg13 harg13 arg14 harg14 x2 x3 x4 x5 x6 b h0 h1).2.2.1 y (cover_arg9 c i arg2 harg2 arg3 harg3 arg4 harg4 arg5 harg5 arg6 harg6 arg7 harg7 arg8 harg8 arg9 harg9 arg10 harg10 arg11 harg11 arg12 harg12 arg13 harg13 arg14 harg14 (harg2.unread x2) (harg3.unread x3) (harg4.unread x4) (harg5.unread x5) (harg6.unread x6) y)

include b h0 h1 in
theorem canon10 (y : S1x1x4x512.Idx) : View.canon (pieces (F := Ideal) c i arg2 harg2 arg3 harg3 arg4 harg4 arg5 harg5 arg6 harg6 arg7 harg7 arg8 harg8 arg9 harg9 arg10 harg10 arg11 harg11 arg12 harg12 arg13 harg13 arg14 harg14 (harg2.unread x2) (harg3.unread x3) (harg4.unread x4) (harg5.unread x5) (harg6.unread x6)).2.2.2 y = B10 x2 (y 2) (y 3) :=
  View.canon_apply_of_pieces (fun y : S1x1x4x512.Idx => B10 x2 (y 2) (y 3)) _ (pieces_all c i arg2 harg2 arg3 harg3 arg4 harg4 arg5 harg5 arg6 harg6 arg7 harg7 arg8 harg8 arg9 harg9 arg10 harg10 arg11 harg11 arg12 harg12 arg13 harg13 arg14 harg14 x2 x3 x4 x5 x6 b h0 h1).2.2.2 y (cover_arg10 c i arg2 harg2 arg3 harg3 arg4 harg4 arg5 harg5 arg6 harg6 arg7 harg7 arg8 harg8 arg9 harg9 arg10 harg10 arg11 harg11 arg12 harg12 arg13 harg13 arg14 harg14 (harg2.unread x2) (harg3.unread x3) (harg4.unread x4) (harg5.unread x5) (harg6.unread x6) y)

end

end Cert.Proof.KernelIdeal
-- ==== Proof.KI.Launch.lean ====
/- The launch: the four result arrays after the run, from the argument arrays. Each grid point's blocks are read off the arrays, its
   results' blocks are blocks of the whole results, and the points' blocks cover the arrays. -/
module

public import proofs.«01_k».proof.Proof.KI.Block
public import proofs.«01_k».proof.Proof.Gen.KernelIdeal.Points

@[expose] public section

noncomputable section

namespace Cert.Proof.KernelIdeal

open Cert.KernelIdeal Cert.KernelIdeal.Gen Idealize.ShloMosaic Idealize.ShloMosaic.TcCoe Idealize.SL.Sem
open Cert.Proof.Spec Cert.Proof.Window Idealize.ShloMosaic.Pipeline

/-- The four results as arrays. -/
def R5 (x : XArr) (kt vt : KArr) (skl : SArr) (vs : VArr) (b : Fin 2) (s : Fin 32768) (l : Fin 512) : EReal :=
  outAt x kt vt skl vs b ⟨s.val / 128, by omega⟩ ⟨s.val % 128, by omega⟩ ⟨l.val / 64, by omega⟩ ⟨l.val % 64, by omega⟩
def R6 (x : XArr) (b : Fin 2) (l : Fin 512) (s : Fin 32768) : EReal :=
  code (blk x b ⟨s.val / 128, by omega⟩ ⟨l.val / 64, by omega⟩) ⟨s.val % 128, by omega⟩ ⟨l.val % 64, by omega⟩
def R7 (x : XArr) (b : Fin 2) (c : Fin 64) (s : Fin 32) : EReal := scale (amax (blk x b ⟨c.val * 4 + s.val / 8, by omega⟩ ⟨s.val % 8, by omega⟩))
def R8 (x : XArr) (b : Fin 2) (c : Fin 64) (s : Fin 4) (l : Fin 512) : EReal :=
  mean (blk x b ⟨c.val * 4 + s.val, by omega⟩ ⟨l.val / 64, by omega⟩) ⟨l.val % 64, by omega⟩

section

variable (b : Fin 2) (j : Fin 64)
    (x2 : Vec Ideal S1x512x512 .bf16) (x3 x4 : Vec Ideal S1x268x128x128 .fp8e4m3) (x5 : Vec Ideal S1x268x128 .f32) (x6 : Vec Ideal S1x1x128 .f32)
    (x : XArr) (kt vt : KArr) (skl : SArr) (vs : VArr)
    (hx : ∀ (s l : Fin 512), x2 (ix3 0 s l) = x (ix3 b ⟨512 * j.val + s.val, by omega⟩ l))
    (hk : ∀ τ d s, x3 (ix4 0 τ d s) = kt (ix4 b τ d s)) (hv : ∀ τ d s, x4 (ix4 0 τ d s) = vt (ix4 b τ d s))
    (hs : ∀ τ s, x5 (ix3 0 τ s) = skl (ix3 b τ s)) (hw : ∀ d, x6 (ix3 0 0 d) = vs (ix3 b 0 d))
    (i : grid0.Coords) (hi : (i 1).val = j.val)

include hx in
/-- A block of queries, read off the whole array. -/
theorem xb_eq (k : Fin k0_t1_loop.trips) (n : Fin 256) (hn : n.val = 4 * j.val + k.val) (h : Fin 8) : xb x2 k h = blk x b n h := by
  funext r d
  unfold xb blk
  rw [hx]
  exact congrArg (fun w => x (ix3 b w _)) (Fin.ext (by simp only; omega))

include hx in
theorem B8_eq (l s : Fin 512) (S : Fin 32768) (hS : S.val = 512 * j.val + s.val) : B8 x2 l s = R6 x b l S := by
  unfold B8 R6
  rw [xb_eq b j x2 x hx _ ⟨S.val / 128, by omega⟩ (by simp only [kq]; omega)]
  exact congrArg (fun r => code _ r _) (Fin.ext (by simp only; omega))

include hx in
theorem B9_eq (s : Fin 32) : B9 x2 s = R7 x b j s := by
  unfold B9 R7
  rw [xb_eq b j x2 x hx _ ⟨j.val * 4 + s.val / 8, by omega⟩ (by simp only [kq]; omega)]

include hx in
theorem B10_eq (s : Fin 4) (l : Fin 512) : B10 x2 s l = R8 x b j s l := by
  unfold B10 R8
  rw [xb_eq b j x2 x hx _ ⟨j.val * 4 + s.val, by omega⟩ (by simp only [kq]; omega)]

include hi hx hk hv hs hw in
/-- The outputs' block is a block of the attention output. -/
theorem B7_eq (s l : Fin 512) (S : Fin 32768) (hS : S.val = 512 * j.val + s.val) : B7 i x2 x3 x4 x5 x6 s l = R5 x kt vt skl vs b S l := by
  unfold B7 R5 outB outAt
  have hn : nb i (kq (s.val / 128) (by omega)) = ⟨S.val / 128, by omega⟩ := Fin.ext (by simp only [nb, kq]; omega)
  have hr : (⟨s.val % 128, by omega⟩ : Fin 128) = ⟨S.val % 128, by omega⟩ := Fin.ext (by simp only; omega)
  have hd : (⟨l.val % 128, by omega⟩ : Fin 128) = ⟨l.val / 64 % 2 * 64 + l.val % 64, by omega⟩ := Fin.ext (by simp only; omega)
  have hB := fun h => xb_eq b j x2 x hx (kq (s.val / 128) (by omega)) ⟨S.val / 128, by omega⟩ (by simp only [kq]; omega) h
  rw [hn, hr, hd, hw]
  have e1 : sc ⟨S.val / 128, by omega⟩ ⟨S.val % 128, by omega⟩ (tscB x2 x3 x5 (kq (s.val / 128) (by omega)) ⟨l.val / 64, by omega⟩ ⟨S.val % 128, by omega⟩)
      = score (blk x b ⟨S.val / 128, by omega⟩ ⟨l.val / 64, by omega⟩) (kcode kt b ⟨l.val / 64, by omega⟩) (kscale skl b) ⟨S.val / 128, by omega⟩ ⟨S.val % 128, by omega⟩ := by
    funext κ
    unfold sc score tscB kcode kscale
    simp only [hB, hk, hs]
  rw [e1]
  refine congrArg (fun V => attend _ V _) ?_
  funext κ
  unfold kcode
  rw [hv]

end

/-! ### The windows' blocks -/

variable (m : (ℓ : Loc nD τ sig) → Buf (Elt Ideal) ℓ) (ρ : Dev nD → PrngReg) (c : Dev nD) (t : Fin cfg0.N)

/-- The five arguments at the start. -/
abbrev aX : XArr := m ((c : Thread nD τ).loc main_arg0)
abbrev aK : KArr := m ((c : Thread nD τ).loc main_arg1)
abbrev aV : KArr := m ((c : Thread nD τ).loc main_arg2)
abbrev aS : SArr := m ((c : Thread nD τ).loc main_arg3)
abbrev aW : VArr := m ((c : Thread nD τ).loc main_arg4)

theorem lt128 : t.val < 128 := t.isLt

/-- The batch and the step of a grid point. -/
def tb : Fin 2 := ⟨t.val / 64, by have := lt128 t; omega⟩
def tj : Fin 64 := ⟨t.val % 64, by omega⟩

theorem step_eq : (grid0.coords t 1).val = (tj t).val := (by decide +kernel : ∀ t : Fin grid0.N, (grid0.coords t 1).val = t.val % 64) t

/-- Where window 0's block sits at a point. -/
theorem idx0 : ∀ t : Fin cfg0.N, win0_0.index t (0 : Fin 3) = t.val / 64 ∧ win0_0.index t (1 : Fin 3) = t.val % 64 ∧ win0_0.index t (2 : Fin 3) = 0 :=
  (by decide +kernel : ∀ t : Fin grid0.N, _)

theorem emb0 (q : Fin 512) (u : Fin 512) : ((cfg0.win 0).blk t).view.emb (ix3 0 q u : S1x512x512.Idx) = ix3 (tb t) ⟨512 * (tj t).val + q.val, by omega⟩ u := by
  obtain ⟨e0, e1, e2⟩ := idx0 t
  funext a; apply Fin.ext
  match a with
  | ⟨0, _⟩ => show win0_0.index t (0 : Fin 3) * 1 + 1 * (ix3 0 q u 0).val = (ix3 (tb t) ⟨512 * (tj t).val + q.val, by omega⟩ u 0).val; rw [e0]; simp [ix3, tb, tj]; try omega
  | ⟨1, _⟩ => show win0_0.index t (1 : Fin 3) * 512 + 1 * (ix3 0 q u 1).val = (ix3 (tb t) ⟨512 * (tj t).val + q.val, by omega⟩ u 1).val; rw [e1]; simp [ix3, tb, tj]; try omega
  | ⟨2, _⟩ => show win0_0.index t (2 : Fin 3) * 512 + 1 * (ix3 0 q u 2).val = (ix3 (tb t) ⟨512 * (tj t).val + q.val, by omega⟩ u 2).val; rw [e2]; simp [ix3, tb, tj]; try omega

theorem iblk0_at (q : Fin 512) (u : Fin 512) : iblk m c 0 t (ix3 0 q u : S1x512x512.Idx) = aX m c (ix3 (tb t) ⟨512 * (tj t).val + q.val, by omega⟩ u) := by
  show V m c main_arg0 (((cfg0.win 0).blk t).view.emb (ix3 0 q u : S1x512x512.Idx)) = _
  rw [emb0]

/-- Where window 1's block sits at a point. -/
theorem idx1 : ∀ t : Fin cfg0.N, win0_1.index t (0 : Fin 4) = t.val / 64 ∧ win0_1.index t (1 : Fin 4) = 0 ∧ win0_1.index t (2 : Fin 4) = 0 ∧ win0_1.index t (3 : Fin 4) = 0 :=
  (by decide +kernel : ∀ t : Fin grid0.N, _)

theorem emb1 (q : Fin 268) (u : Fin 128) (v : Fin 128) : ((cfg0.win 1).blk t).view.emb (ix4 0 q u v : S1x268x128x128.Idx) = ix4 (tb t) q u v := by
  obtain ⟨e0, e1, e2, e3⟩ := idx1 t
  funext a; apply Fin.ext
  match a with
  | ⟨0, _⟩ => show win0_1.index t (0 : Fin 4) * 1 + 1 * (ix4 0 q u v 0).val = (ix4 (tb t) q u v 0).val; rw [e0]; simp [ix4, tb, tj]; try omega
  | ⟨1, _⟩ => show win0_1.index t (1 : Fin 4) * 268 + 1 * (ix4 0 q u v 1).val = (ix4 (tb t) q u v 1).val; rw [e1]; simp [ix4, tb, tj]; try omega
  | ⟨2, _⟩ => show win0_1.index t (2 : Fin 4) * 128 + 1 * (ix4 0 q u v 2).val = (ix4 (tb t) q u v 2).val; rw [e2]; simp [ix4, tb, tj]; try omega
  | ⟨3, _⟩ => show win0_1.index t (3 : Fin 4) * 128 + 1 * (ix4 0 q u v 3).val = (ix4 (tb t) q u v 3).val; rw [e3]; simp [ix4, tb, tj]; try omega

theorem iblk1_at (q : Fin 268) (u : Fin 128) (v : Fin 128) : iblk m c 1 t (ix4 0 q u v : S1x268x128x128.Idx) = aK m c (ix4 (tb t) q u v) := by
  show V m c main_arg1 (((cfg0.win 1).blk t).view.emb (ix4 0 q u v : S1x268x128x128.Idx)) = _
  rw [emb1]

/-- Where window 2's block sits at a point. -/
theorem idx2 : ∀ t : Fin cfg0.N, win0_2.index t (0 : Fin 4) = t.val / 64 ∧ win0_2.index t (1 : Fin 4) = 0 ∧ win0_2.index t (2 : Fin 4) = 0 ∧ win0_2.index t (3 : Fin 4) = 0 :=
  (by decide +kernel : ∀ t : Fin grid0.N, _)

theorem emb2 (q : Fin 268) (u : Fin 128) (v : Fin 128) : ((cfg0.win 2).blk t).view.emb (ix4 0 q u v : S1x268x128x128.Idx) = ix4 (tb t) q u v := by
  obtain ⟨e0, e1, e2, e3⟩ := idx2 t
  funext a; apply Fin.ext
  match a with
  | ⟨0, _⟩ => show win0_2.index t (0 : Fin 4) * 1 + 1 * (ix4 0 q u v 0).val = (ix4 (tb t) q u v 0).val; rw [e0]; simp [ix4, tb, tj]; try omega
  | ⟨1, _⟩ => show win0_2.index t (1 : Fin 4) * 268 + 1 * (ix4 0 q u v 1).val = (ix4 (tb t) q u v 1).val; rw [e1]; simp [ix4, tb, tj]; try omega
  | ⟨2, _⟩ => show win0_2.index t (2 : Fin 4) * 128 + 1 * (ix4 0 q u v 2).val = (ix4 (tb t) q u v 2).val; rw [e2]; simp [ix4, tb, tj]; try omega
  | ⟨3, _⟩ => show win0_2.index t (3 : Fin 4) * 128 + 1 * (ix4 0 q u v 3).val = (ix4 (tb t) q u v 3).val; rw [e3]; simp [ix4, tb, tj]; try omega

theorem iblk2_at (q : Fin 268) (u : Fin 128) (v : Fin 128) : iblk m c 2 t (ix4 0 q u v : S1x268x128x128.Idx) = aV m c (ix4 (tb t) q u v) := by
  show V m c main_arg2 (((cfg0.win 2).blk t).view.emb (ix4 0 q u v : S1x268x128x128.Idx)) = _
  rw [emb2]

/-- Where window 3's block sits at a point. -/
theorem idx3 : ∀ t : Fin cfg0.N, win0_3.index t (0 : Fin 3) = t.val / 64 ∧ win0_3.index t (1 : Fin 3) = 0 ∧ win0_3.index t (2 : Fin 3) = 0 :=
  (by decide +kernel : ∀ t : Fin grid0.N, _)

theorem emb3 (q : Fin 268) (u : Fin 128) : ((cfg0.win 3).blk t).view.emb (ix3 0 q u : S1x268x128.Idx) = ix3 (tb t) q u := by
  obtain ⟨e0, e1, e2⟩ := idx3 t
  funext a; apply Fin.ext
  match a with
  | ⟨0, _⟩ => show win0_3.index t (0 : Fin 3) * 1 + 1 * (ix3 0 q u 0).val = (ix3 (tb t) q u 0).val; rw [e0]; simp [ix3, tb, tj]; try omega
  | ⟨1, _⟩ => show win0_3.index t (1 : Fin 3) * 268 + 1 * (ix3 0 q u 1).val = (ix3 (tb t) q u 1).val; rw [e1]; simp [ix3, tb, tj]; try omega
  | ⟨2, _⟩ => show win0_3.index t (2 : Fin 3) * 128 + 1 * (ix3 0 q u 2).val = (ix3 (tb t) q u 2).val; rw [e2]; simp [ix3, tb, tj]; try omega

theorem iblk3_at (q : Fin 268) (u : Fin 128) : iblk m c 3 t (ix3 0 q u : S1x268x128.Idx) = aS m c (ix3 (tb t) q u) := by
  show V m c main_arg3 (((cfg0.win 3).blk t).view.emb (ix3 0 q u : S1x268x128.Idx)) = _
  rw [emb3]

/-- Where window 4's block sits at a point. -/
theorem idx4 : ∀ t : Fin cfg0.N, win0_4.index t (0 : Fin 3) = t.val / 64 ∧ win0_4.index t (1 : Fin 3) = 0 ∧ win0_4.index t (2 : Fin 3) = 0 :=
  (by decide +kernel : ∀ t : Fin grid0.N, _)

theorem emb4 (u : Fin 128) : ((cfg0.win 4).blk t).view.emb (ix3 0 0 u : S1x1x128.Idx) = ix3 (tb t) 0 u := by
  obtain ⟨e0, e1, e2⟩ := idx4 t
  funext a; apply Fin.ext
  match a with
  | ⟨0, _⟩ => show win0_4.index t (0 : Fin 3) * 1 + 1 * (ix3 0 0 u 0).val = (ix3 (tb t) 0 u 0).val; rw [e0]; simp [ix3, tb, tj]; try omega
  | ⟨1, _⟩ => show win0_4.index t (1 : Fin 3) * 1 + 1 * (ix3 0 0 u 1).val = (ix3 (tb t) 0 u 1).val; rw [e1]; simp [ix3, tb, tj]; try omega
  | ⟨2, _⟩ => show win0_4.index t (2 : Fin 3) * 128 + 1 * (ix3 0 0 u 2).val = (ix3 (tb t) 0 u 2).val; rw [e2]; simp [ix3, tb, tj]; try omega

theorem iblk4_at (u : Fin 128) : iblk m c 4 t (ix3 0 0 u : S1x1x128.Idx) = aW m c (ix3 (tb t) 0 u) := by
  show V m c main_arg4 (((cfg0.win 4).blk t).view.emb (ix3 0 0 u : S1x1x128.Idx)) = _
  rw [emb4]

/-- Where window 5's block sits at a point. -/
theorem idx5 : ∀ t : Fin cfg0.N, win0_5.index t (0 : Fin 3) = t.val / 64 ∧ win0_5.index t (1 : Fin 3) = t.val % 64 ∧ win0_5.index t (2 : Fin 3) = 0 :=
  (by decide +kernel : ∀ t : Fin grid0.N, _)

theorem emb5 (q : Fin 512) (u : Fin 512) : ((cfg0.win 5).blk t).view.emb (ix3 0 q u : S1x512x512.Idx) = ix3 (tb t) ⟨512 * (tj t).val + q.val, by omega⟩ u := by
  obtain ⟨e0, e1, e2⟩ := idx5 t
  funext a; apply Fin.ext
  match a with
  | ⟨0, _⟩ => show win0_5.index t (0 : Fin 3) * 1 + 1 * (ix3 0 q u 0).val = (ix3 (tb t) ⟨512 * (tj t).val + q.val, by omega⟩ u 0).val; rw [e0]; simp [ix3, tb, tj]; try omega
  | ⟨1, _⟩ => show win0_5.index t (1 : Fin 3) * 512 + 1 * (ix3 0 q u 1).val = (ix3 (tb t) ⟨512 * (tj t).val + q.val, by omega⟩ u 1).val; rw [e1]; simp [ix3, tb, tj]; try omega
  | ⟨2, _⟩ => show win0_5.index t (2 : Fin 3) * 512 + 1 * (ix3 0 q u 2).val = (ix3 (tb t) ⟨512 * (tj t).val + q.val, by omega⟩ u 2).val; rw [e2]; simp [ix3, tb, tj]; try omega

/-- Where window 6's block sits at a point. -/
theorem idx6 : ∀ t : Fin cfg0.N, win0_6.index t (0 : Fin 3) = t.val / 64 ∧ win0_6.index t (1 : Fin 3) = 0 ∧ win0_6.index t (2 : Fin 3) = t.val % 64 :=
  (by decide +kernel : ∀ t : Fin grid0.N, _)

theorem emb6 (q : Fin 512) (u : Fin 512) : ((cfg0.win 6).blk t).view.emb (ix3 0 q u : S1x512x512.Idx) = ix3 (tb t) q ⟨512 * (tj t).val + u.val, by omega⟩ := by
  obtain ⟨e0, e1, e2⟩ := idx6 t
  funext a; apply Fin.ext
  match a with
  | ⟨0, _⟩ => show win0_6.index t (0 : Fin 3) * 1 + 1 * (ix3 0 q u 0).val = (ix3 (tb t) q ⟨512 * (tj t).val + u.val, by omega⟩ 0).val; rw [e0]; simp [ix3, tb, tj]; try omega
  | ⟨1, _⟩ => show win0_6.index t (1 : Fin 3) * 512 + 1 * (ix3 0 q u 1).val = (ix3 (tb t) q ⟨512 * (tj t).val + u.val, by omega⟩ 1).val; rw [e1]; simp [ix3, tb, tj]; try omega
  | ⟨2, _⟩ => show win0_6.index t (2 : Fin 3) * 512 + 1 * (ix3 0 q u 2).val = (ix3 (tb t) q ⟨512 * (tj t).val + u.val, by omega⟩ 2).val; rw [e2]; simp [ix3, tb, tj]; try omega

/-- Where window 7's block sits at a point. -/
theorem idx7 : ∀ t : Fin cfg0.N, win0_7.index t (0 : Fin 4) = t.val / 64 ∧ win0_7.index t (1 : Fin 4) = t.val % 64 ∧ win0_7.index t (2 : Fin 4) = 0 ∧ win0_7.index t (3 : Fin 4) = 0 :=
  (by decide +kernel : ∀ t : Fin grid0.N, _)

theorem emb7 (u : Fin 32) (v : Fin 128) : ((cfg0.win 7).blk t).view.emb (ix4 0 0 u v : S1x1x32x128.Idx) = ix4 (tb t) (tj t) u v := by
  obtain ⟨e0, e1, e2, e3⟩ := idx7 t
  funext a; apply Fin.ext
  match a with
  | ⟨0, _⟩ => show win0_7.index t (0 : Fin 4) * 1 + 1 * (ix4 0 0 u v 0).val = (ix4 (tb t) (tj t) u v 0).val; rw [e0]; simp [ix4, tb, tj]; try omega
  | ⟨1, _⟩ => show win0_7.index t (1 : Fin 4) * 1 + 1 * (ix4 0 0 u v 1).val = (ix4 (tb t) (tj t) u v 1).val; rw [e1]; simp [ix4, tb, tj]; try omega
  | ⟨2, _⟩ => show win0_7.index t (2 : Fin 4) * 32 + 1 * (ix4 0 0 u v 2).val = (ix4 (tb t) (tj t) u v 2).val; rw [e2]; simp [ix4, tb, tj]; try omega
  | ⟨3, _⟩ => show win0_7.index t (3 : Fin 4) * 128 + 1 * (ix4 0 0 u v 3).val = (ix4 (tb t) (tj t) u v 3).val; rw [e3]; simp [ix4, tb, tj]; try omega

/-- Where window 8's block sits at a point. -/
theorem idx8 : ∀ t : Fin cfg0.N, win0_8.index t (0 : Fin 4) = t.val / 64 ∧ win0_8.index t (1 : Fin 4) = t.val % 64 ∧ win0_8.index t (2 : Fin 4) = 0 ∧ win0_8.index t (3 : Fin 4) = 0 :=
  (by decide +kernel : ∀ t : Fin grid0.N, _)

theorem emb8 (u : Fin 4) (v : Fin 512) : ((cfg0.win 8).blk t).view.emb (ix4 0 0 u v : S1x1x4x512.Idx) = ix4 (tb t) (tj t) u v := by
  obtain ⟨e0, e1, e2, e3⟩ := idx8 t
  funext a; apply Fin.ext
  match a with
  | ⟨0, _⟩ => show win0_8.index t (0 : Fin 4) * 1 + 1 * (ix4 0 0 u v 0).val = (ix4 (tb t) (tj t) u v 0).val; rw [e0]; simp [ix4, tb, tj]; try omega
  | ⟨1, _⟩ => show win0_8.index t (1 : Fin 4) * 1 + 1 * (ix4 0 0 u v 1).val = (ix4 (tb t) (tj t) u v 1).val; rw [e1]; simp [ix4, tb, tj]; try omega
  | ⟨2, _⟩ => show win0_8.index t (2 : Fin 4) * 4 + 1 * (ix4 0 0 u v 2).val = (ix4 (tb t) (tj t) u v 2).val; rw [e2]; simp [ix4, tb, tj]; try omega
  | ⟨3, _⟩ => show win0_8.index t (3 : Fin 4) * 512 + 1 * (ix4 0 0 u v 3).val = (ix4 (tb t) (tj t) u v 3).val; rw [e3]; simp [ix4, tb, tj]; try omega

variable (hb : ∀ (b : Fin 2) (n : Fin 256) (h : Fin 8), amax (blk (aX m c) b n h) * cst 0x3B124925#32 < (((2 : ℝ) ^ (121 : ℤ) : ℝ) : EReal))
    (h0 : ∀ y, (0 : EReal) ≤ aS m c y) (h1 : ∀ y, (aS m c y : EReal) ≠ ⊤)

include hb in
theorem bnd (k : Fin k0_t1_loop.trips) (h : Fin 8) : amax (xb (iblk m c 0 t) k h) * cst 0x3B124925#32 < (((2 : ℝ) ^ (121 : ℤ) : ℝ) : EReal) := by
  have hk : k.val < 4 := trips4 ▸ k.isLt
  rw [xb_eq (tb t) (tj t) (iblk m c 0 t) _ (iblk0_at m c t) k ⟨4 * (tj t).val + k.val, by omega⟩ rfl]
  exact hb (tb t) _ h

/-- Result 1 whole. -/
def A5 : S2x32768x512.Idx → EReal := fun y : S2x32768x512.Idx => R5 (aX m c) (aK m c) (aV m c) (aS m c) (aW m c) (y 0) (y 1) (y 2)

theorem A5_at (b : Fin 2) (s : Fin 32768) (l : Fin 512) : A5 m c (ix3 b s l) = R5 (aX m c) (aK m c) (aV m c) (aS m c) (aW m c) b s l := rfl

include hb h0 h1 in
/-- The block of result 1 the body leaves at a point. -/
theorem outs5 (p q : Fin 512) : (outsAt m c t).1 (ix3 0 p q) = R5 (aX m c) (aK m c) (aV m c) (aS m c) (aW m c) (tb t) ⟨512 * (tj t).val + p.val, by omega⟩ q := by
  refine Eq.trans ?_ (B7_eq (tb t) (tj t) _ _ _ _ _ (aX m c) (aK m c) (aV m c) (aS m c) (aW m c) (iblk0_at m c t) (iblk1_at m c t) (iblk2_at m c t) (iblk3_at m c t) (iblk4_at m c t) (grid0.coords t) (step_eq t) p q _ rfl)
  dsimp only [outsAt, outs]
  exact canon7 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) (fun k h => bnd m c t hb k h) (fun τ j => by rw [iblk3_at]; exact h0 _) (fun τ j => by rw [iblk3_at]; exact h1 _) (ix3 0 p q)

include hb h0 h1 in
/-- What a point writes back is its block of result 1. -/
theorem flushed5 : (dats m 0 c).flushed 5 t = ((cfg0.win 5).blk t).view.read (Elt Ideal) (A5 m c) := by
  show (cfg0.win 5).cut (grid0.coords t) ((dats m 0 c).after 5 t) = _
  rw [after0_5]
  funext y
  obtain ⟨p, q, rfl⟩ : ∃ (p : Fin 512) (q : Fin 512), y = (ix3 0 p q : S1x512x512.Idx) := by
    refine ⟨y 1, y 2, ?_⟩
    funext a; fin_cases a
    · exact Fin.ext (by have : (y 0).val < 1 := (y 0).isLt; show (y 0).val = 0; omega)
    · rfl
    · rfl
  have e := congrArg (A5 m c) (emb5 t p q)
  rw [A5_at] at e
  have r : ∀ A : S2x32768x512.Idx → EReal, ((cfg0.win 5).blk t).view.read (Elt Ideal) A (ix3 0 p q : S1x512x512.Idx) = A (((cfg0.win 5).blk t).view.emb (ix3 0 p q : S1x512x512.Idx)) := fun _ => rfl
  exact (outs5 m c t hb h0 h1 p q).trans (e.symm.trans (r (A5 m c)).symm)

/-- Result 2 whole. -/
def A6 : S2x512x32768.Idx → EReal := fun y : S2x512x32768.Idx => R6 (aX m c) (y 0) (y 1) (y 2)

theorem A6_at (b : Fin 2) (l : Fin 512) (s : Fin 32768) : A6 m c (ix3 b l s) = R6 (aX m c) b l s := rfl

include hb h0 h1 in
/-- The block of result 2 the body leaves at a point. -/
theorem outs6 (p q : Fin 512) : (outsAt m c t).2.1 (ix3 0 p q) = R6 (aX m c) (tb t) p ⟨512 * (tj t).val + q.val, by omega⟩ := by
  refine Eq.trans ?_ (B8_eq (tb t) (tj t) _ (aX m c) (iblk0_at m c t) p q _ rfl)
  dsimp only [outsAt, outs]
  exact canon8 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) (fun k h => bnd m c t hb k h) (fun τ j => by rw [iblk3_at]; exact h0 _) (fun τ j => by rw [iblk3_at]; exact h1 _) (ix3 0 p q)

include hb h0 h1 in
/-- What a point writes back is its block of result 2. -/
theorem flushed6 : (dats m 0 c).flushed 6 t = ((cfg0.win 6).blk t).view.read (Elt Ideal) (A6 m c) := by
  show (cfg0.win 6).cut (grid0.coords t) ((dats m 0 c).after 6 t) = _
  rw [after0_6]
  funext y
  obtain ⟨p, q, rfl⟩ : ∃ (p : Fin 512) (q : Fin 512), y = (ix3 0 p q : S1x512x512.Idx) := by
    refine ⟨y 1, y 2, ?_⟩
    funext a; fin_cases a
    · exact Fin.ext (by have : (y 0).val < 1 := (y 0).isLt; show (y 0).val = 0; omega)
    · rfl
    · rfl
  have e := congrArg (A6 m c) (emb6 t p q)
  rw [A6_at] at e
  have r : ∀ A : S2x512x32768.Idx → EReal, ((cfg0.win 6).blk t).view.read (Elt Ideal) A (ix3 0 p q : S1x512x512.Idx) = A (((cfg0.win 6).blk t).view.emb (ix3 0 p q : S1x512x512.Idx)) := fun _ => rfl
  exact (outs6 m c t hb h0 h1 p q).trans (e.symm.trans (r (A6 m c)).symm)

/-- Result 3 whole. -/
def A7 : S2x64x32x128.Idx → EReal := fun y : S2x64x32x128.Idx => R7 (aX m c) (y 0) (y 1) (y 2)

theorem A7_at (b : Fin 2) (j : Fin 64) (s : Fin 32) (l : Fin 128) : A7 m c (ix4 b j s l) = R7 (aX m c) b j s := rfl

include hb h0 h1 in
/-- The block of result 3 the body leaves at a point. -/
theorem outs7 (p : Fin 32) (q : Fin 128) : (outsAt m c t).2.2.1 (ix4 0 0 p q) = R7 (aX m c) (tb t) (tj t) p := by
  refine Eq.trans ?_ (B9_eq (tb t) (tj t) _ (aX m c) (iblk0_at m c t) p)
  dsimp only [outsAt, outs]
  exact canon9 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) (fun k h => bnd m c t hb k h) (fun τ j => by rw [iblk3_at]; exact h0 _) (fun τ j => by rw [iblk3_at]; exact h1 _) (ix4 0 0 p q)

include hb h0 h1 in
/-- What a point writes back is its block of result 3. -/
theorem flushed7 : (dats m 0 c).flushed 7 t = ((cfg0.win 7).blk t).view.read (Elt Ideal) (A7 m c) := by
  show (cfg0.win 7).cut (grid0.coords t) ((dats m 0 c).after 7 t) = _
  rw [after0_7]
  funext y
  obtain ⟨p, q, rfl⟩ : ∃ (p : Fin 32) (q : Fin 128), y = (ix4 0 0 p q : S1x1x32x128.Idx) := by
    refine ⟨y 2, y 3, ?_⟩
    funext a; fin_cases a
    · exact Fin.ext (by have : (y 0).val < 1 := (y 0).isLt; show (y 0).val = 0; omega)
    · exact Fin.ext (by have : (y 1).val < 1 := (y 1).isLt; show (y 1).val = 0; omega)
    · rfl
    · rfl
  have e := congrArg (A7 m c) (emb7 t p q)
  rw [A7_at] at e
  have r : ∀ A : S2x64x32x128.Idx → EReal, ((cfg0.win 7).blk t).view.read (Elt Ideal) A (ix4 0 0 p q : S1x1x32x128.Idx) = A (((cfg0.win 7).blk t).view.emb (ix4 0 0 p q : S1x1x32x128.Idx)) := fun _ => rfl
  exact (outs7 m c t hb h0 h1 p q).trans (e.symm.trans (r (A7 m c)).symm)

/-- Result 4 whole. -/
def A8 : S2x64x4x512.Idx → EReal := fun y : S2x64x4x512.Idx => R8 (aX m c) (y 0) (y 1) (y 2) (y 3)

theorem A8_at (b : Fin 2) (j : Fin 64) (s : Fin 4) (l : Fin 512) : A8 m c (ix4 b j s l) = R8 (aX m c) b j s l := rfl

include hb h0 h1 in
/-- The block of result 4 the body leaves at a point. -/
theorem outs8 (p : Fin 4) (q : Fin 512) : (outsAt m c t).2.2.2 (ix4 0 0 p q) = R8 (aX m c) (tb t) (tj t) p q := by
  refine Eq.trans ?_ (B10_eq (tb t) (tj t) _ (aX m c) (iblk0_at m c t) p q)
  dsimp only [outsAt, outs]
  exact canon10 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) (fun k h => bnd m c t hb k h) (fun τ j => by rw [iblk3_at]; exact h0 _) (fun τ j => by rw [iblk3_at]; exact h1 _) (ix4 0 0 p q)

include hb h0 h1 in
/-- What a point writes back is its block of result 4. -/
theorem flushed8 : (dats m 0 c).flushed 8 t = ((cfg0.win 8).blk t).view.read (Elt Ideal) (A8 m c) := by
  show (cfg0.win 8).cut (grid0.coords t) ((dats m 0 c).after 8 t) = _
  rw [after0_8]
  funext y
  obtain ⟨p, q, rfl⟩ : ∃ (p : Fin 4) (q : Fin 512), y = (ix4 0 0 p q : S1x1x4x512.Idx) := by
    refine ⟨y 2, y 3, ?_⟩
    funext a; fin_cases a
    · exact Fin.ext (by have : (y 0).val < 1 := (y 0).isLt; show (y 0).val = 0; omega)
    · exact Fin.ext (by have : (y 1).val < 1 := (y 1).isLt; show (y 1).val = 0; omega)
    · rfl
    · rfl
  have e := congrArg (A8 m c) (emb8 t p q)
  rw [A8_at] at e
  have r : ∀ A : S2x64x4x512.Idx → EReal, ((cfg0.win 8).blk t).view.read (Elt Ideal) A (ix4 0 0 p q : S1x1x4x512.Idx) = A (((cfg0.win 8).blk t).view.emb (ix4 0 0 p q : S1x1x4x512.Idx)) := fun _ => rfl
  exact (outs8 m c t hb h0 h1 p q).trans (e.symm.trans (r (A8 m c)).symm)

/-- Every place of result 1 lies in a point's block. -/
theorem cover5 (b : Fin 2) (s : Fin 32768) (l : Fin 512) : ∃ t : Fin cfg0.N, (cfg0.win 5).flush t = true ∧ (ix3 b s l : S2x32768x512.Idx) ∈ ((cfg0.win 5).blk t).view.set := by
  obtain ⟨t, ht⟩ : ∃ t : Fin cfg0.N, t.val = 64 * b.val + s.val / 512 := ⟨⟨64 * b.val + s.val / 512, by show _ < 128; omega⟩, rfl⟩
  refine ⟨t, flush0_5 t, ?_⟩
  have e0 : tb t = b := Fin.ext (by simp only [tb, ht]; omega)
  have e1 : (⟨512 * (tj t).val + s.val % 512, by omega⟩ : Fin 32768) = s := Fin.ext (by simp only [tj, ht]; omega)
  have h := ((cfg0.win 5).blk t).view.emb_mem_set (ix3 0 ⟨s.val % 512, by omega⟩ l : S1x512x512.Idx)
  have e := emb5 t ⟨s.val % 512, by omega⟩ l
  rw [e0, e1] at e
  rw [e] at h
  exact h

include hb h0 h1 in
/-- Result 1 after the run. -/
theorem arr5 : (dats m 0 c).arrAt 5 cfg0.N = A5 m c :=
  (dats m 0 c).arrAt_eq_of_cover 5 (A5 m c) (fun t _ => flushed5 m c t hb h0 h1) fun y => by
    have hy : y = (ix3 (y 0) (y 1) (y 2) : S2x32768x512.Idx) := by funext a; fin_cases a <;> rfl
    rw [hy]
    exact cover5 (y 0) (y 1) (y 2)

/-- Every place of result 2 lies in a point's block. -/
theorem cover6 (b : Fin 2) (l : Fin 512) (s : Fin 32768) : ∃ t : Fin cfg0.N, (cfg0.win 6).flush t = true ∧ (ix3 b l s : S2x512x32768.Idx) ∈ ((cfg0.win 6).blk t).view.set := by
  obtain ⟨t, ht⟩ : ∃ t : Fin cfg0.N, t.val = 64 * b.val + s.val / 512 := ⟨⟨64 * b.val + s.val / 512, by show _ < 128; omega⟩, rfl⟩
  refine ⟨t, flush0_6 t, ?_⟩
  have e0 : tb t = b := Fin.ext (by simp only [tb, ht]; omega)
  have e1 : (⟨512 * (tj t).val + s.val % 512, by omega⟩ : Fin 32768) = s := Fin.ext (by simp only [tj, ht]; omega)
  have h := ((cfg0.win 6).blk t).view.emb_mem_set (ix3 0 l ⟨s.val % 512, by omega⟩ : S1x512x512.Idx)
  have e := emb6 t l ⟨s.val % 512, by omega⟩
  rw [e0, e1] at e
  rw [e] at h
  exact h

include hb h0 h1 in
/-- Result 2 after the run. -/
theorem arr6 : (dats m 0 c).arrAt 6 cfg0.N = A6 m c :=
  (dats m 0 c).arrAt_eq_of_cover 6 (A6 m c) (fun t _ => flushed6 m c t hb h0 h1) fun y => by
    have hy : y = (ix3 (y 0) (y 1) (y 2) : S2x512x32768.Idx) := by funext a; fin_cases a <;> rfl
    rw [hy]
    exact cover6 (y 0) (y 1) (y 2)

/-- Every place of result 3 lies in a point's block. -/
theorem cover7 (b : Fin 2) (j : Fin 64) (s : Fin 32) (l : Fin 128) : ∃ t : Fin cfg0.N, (cfg0.win 7).flush t = true ∧ (ix4 b j s l : S2x64x32x128.Idx) ∈ ((cfg0.win 7).blk t).view.set := by
  obtain ⟨t, ht⟩ : ∃ t : Fin cfg0.N, t.val = 64 * b.val + j.val := ⟨⟨64 * b.val + j.val, by show _ < 128; omega⟩, rfl⟩
  refine ⟨t, flush0_7 t, ?_⟩
  have e0 : tb t = b := Fin.ext (by simp only [tb, ht]; omega)
  have e1 : tj t = j := Fin.ext (by simp only [tj, ht]; omega)
  have h := ((cfg0.win 7).blk t).view.emb_mem_set (ix4 0 0 s l : S1x1x32x128.Idx)
  have e := emb7 t s l
  rw [e0, e1] at e
  rw [e] at h
  exact h

include hb h0 h1 in
/-- Result 3 after the run. -/
theorem arr7 : (dats m 0 c).arrAt 7 cfg0.N = A7 m c :=
  (dats m 0 c).arrAt_eq_of_cover 7 (A7 m c) (fun t _ => flushed7 m c t hb h0 h1) fun y => by
    have hy : y = (ix4 (y 0) (y 1) (y 2) (y 3) : S2x64x32x128.Idx) := by funext a; fin_cases a <;> rfl
    rw [hy]
    exact cover7 (y 0) (y 1) (y 2) (y 3)

/-- Every place of result 4 lies in a point's block. -/
theorem cover8 (b : Fin 2) (j : Fin 64) (s : Fin 4) (l : Fin 512) : ∃ t : Fin cfg0.N, (cfg0.win 8).flush t = true ∧ (ix4 b j s l : S2x64x4x512.Idx) ∈ ((cfg0.win 8).blk t).view.set := by
  obtain ⟨t, ht⟩ : ∃ t : Fin cfg0.N, t.val = 64 * b.val + j.val := ⟨⟨64 * b.val + j.val, by show _ < 128; omega⟩, rfl⟩
  refine ⟨t, flush0_8 t, ?_⟩
  have e0 : tb t = b := Fin.ext (by simp only [tb, ht]; omega)
  have e1 : tj t = j := Fin.ext (by simp only [tj, ht]; omega)
  have h := ((cfg0.win 8).blk t).view.emb_mem_set (ix4 0 0 s l : S1x1x4x512.Idx)
  have e := emb8 t s l
  rw [e0, e1] at e
  rw [e] at h
  exact h

include hb h0 h1 in
/-- Result 4 after the run. -/
theorem arr8 : (dats m 0 c).arrAt 8 cfg0.N = A8 m c :=
  (dats m 0 c).arrAt_eq_of_cover 8 (A8 m c) (fun t _ => flushed8 m c t hb h0 h1) fun y => by
    have hy : y = (ix4 (y 0) (y 1) (y 2) (y 3) : S2x64x4x512.Idx) := by funext a; fin_cases a <;> rfl
    rw [hy]
    exact cover8 (y 0) (y 1) (y 2) (y 3)

end Cert.Proof.KernelIdeal
-- ==== Proof.KI.Value.lean ====
/- The kernel's run, read: each result array is its function of the arguments, and the arguments are unchanged. -/
module

public import proofs.«01_k».proof.Proof.KI.Launch

@[expose] public section

noncomputable section

namespace Cert.Proof.KernelIdeal

open Cert.KernelIdeal Cert.KernelIdeal.Gen Idealize.ShloMosaic Idealize.ShloMosaic.TcCoe Idealize.SL.Sem
open Cert.Proof.Spec Idealize.ShloMosaic.Pipeline

variable (m : (ℓ : Loc nD τ sig) → Buf (Elt Ideal) ℓ) (ρ : Dev nD → PrngReg)

/-- The run of the kernel, from queries small enough and nonnegative finite key scales. -/
theorem run (hb : ∀ (c : Dev nD) (b : Fin 2) (n : Fin 256) (h : Fin 8), amax (blk (aX m c) b n h) * cst 0x3B124925#32 < (((2 : ℝ) ^ (121 : ℤ) : ℝ) : EReal))
    (h0 : ∀ (c : Dev nD) y, (0 : EReal) ≤ aS m c y) (h1 : ∀ (c : Dev nD) y, (aS m c y : EReal) ≠ ⊤) :
    θ_run defs (onTc (τ := τ) (main (F := Ideal))) ⟨m, fun _ => 0, ρ⟩ fun r => ∀ c : Dev nD,
      r.2.mem ((c : Thread nD τ).loc main_v0_0) = A5 m c
      ∧ r.2.mem ((c : Thread nD τ).loc main_v0_1) = A6 m c
      ∧ r.2.mem ((c : Thread nD τ).loc main_v0_2) = A7 m c
      ∧ r.2.mem ((c : Thread nD τ).loc main_v0_3) = A8 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h.1 c).1 5).trans (arr5 m c (hb c) (h0 c) (h1 c)),
    ((h.1 c).1 6).trans (arr6 m c (hb c) (h0 c) (h1 c)),
    ((h.1 c).1 7).trans (arr7 m c (hb c) (h0 c) (h1 c)),
    ((h.1 c).1 8).trans (arr8 m c (hb c) (h0 c) (h1 c)),
    ((h.1 c).1 0).trans (((dats m 0 c).arrAt_in 0 rfl _).trans ((A_eq m c 0).trans (V_main_arg0 m c))),
    ((h.1 c).1 1).trans (((dats m 0 c).arrAt_in 1 rfl _).trans ((A_eq m c 1).trans (V_main_arg1 m c))),
    ((h.1 c).1 2).trans (((dats m 0 c).arrAt_in 2 rfl _).trans ((A_eq m c 2).trans (V_main_arg2 m c))),
    ((h.1 c).1 3).trans (((dats m 0 c).arrAt_in 3 rfl _).trans ((A_eq m c 3).trans (V_main_arg3 m c))),
    ((h.1 c).1 4).trans (((dats m 0 c).arrAt_in 4 rfl _).trans ((A_eq m c 4).trans (V_main_arg4 m c)))⟩) (run_main m ρ)

end Cert.Proof.KernelIdeal

end
-- ==== Proof.RI.Value.lean ====
/- The reference's launch has one grid point and whole-array windows: each result array after the run is one payload of the
   argument arrays (`G5` … `G8`), and `run` states that of the whole program. -/
module

public import proofs.«01_k».proof.Proof.Gen.ReferenceIdeal.Frame
public import Idealize.ShloMosaic.Lib.Pipeline.Value

@[expose] public section

noncomputable section

namespace Cert.Proof.RI

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 5's array: the body's result for that window (`Gen.out0_5`: its stores
    as pieces over the input windows' blocks), read through the window's block. -/
theorem flushed5 (c : Dev nD) (t : Fin cfg0.N) :
    (dats m 0 c).flushed 5 t = (cfg0.win 5).cut (grid0.coords t) (out0_5 (iblk m c 0 t) (iblk m c 1 t) (iblk m c 2 t) (iblk m c 3 t) (iblk m c 4 t)) := by
  show (cfg0.win 5).cut (grid0.coords t) ((dats m 0 c).after 5 t) = _
  rw [after0_5]

/-- The index map sends distinct grid points to distinct block indices (decided over the 1 point). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S2x32768x512.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- WHAT POINT `t` WRITES BACK to output window 6's array: the body's result for that window (`Gen.out0_6`: its stores
    as pieces over the input windows' blocks), read through the window's block. -/
theorem flushed6 (c : Dev nD) (t : Fin cfg0.N) :
    (dats m 0 c).flushed 6 t = (cfg0.win 6).cut (grid0.coords t) (out0_6 (iblk m c 0 t) (iblk m c 1 t) (iblk m c 2 t) (iblk m c 3 t) (iblk m c 4 t)) := by
  show (cfg0.win 6).cut (grid0.coords t) ((dats m 0 c).after 6 t) = _
  rw [after0_6]

/-- The index map sends distinct grid points to distinct block indices (decided over the 1 point). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S2x512x32768.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- WHAT POINT `t` WRITES BACK to output window 7's array: the body's result for that window (`Gen.out0_7`: its stores
    as pieces over the input windows' blocks), read through the window's block. -/
theorem flushed7 (c : Dev nD) (t : Fin cfg0.N) :
    (dats m 0 c).flushed 7 t = (cfg0.win 7).cut (grid0.coords t) (out0_7 (iblk m c 0 t) (iblk m c 1 t) (iblk m c 2 t) (iblk m c 3 t) (iblk m c 4 t)) := by
  show (cfg0.win 7).cut (grid0.coords t) ((dats m 0 c).after 7 t) = _
  rw [after0_7]

/-- The index map sends distinct grid points to distinct block indices (decided over the 1 point). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S2x64x32x128.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the body's result for that window (`Gen.out0_8`: its stores
    as pieces over the input windows' blocks), read through the window's block. -/
theorem flushed8 (c : Dev nD) (t : Fin cfg0.N) :
    (dats m 0 c).flushed 8 t = (cfg0.win 8).cut (grid0.coords t) (out0_8 (iblk m c 0 t) (iblk m c 1 t) (iblk m c 2 t) (iblk m c 3 t) (iblk m c 4 t)) := by
  show (cfg0.win 8).cut (grid0.coords t) ((dats m 0 c).after 8 t) = _
  rw [after0_8]

/-- The index map sends distinct grid points to distinct block indices (decided over the 1 point). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S2x64x4x512.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_0) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_1) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_2) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_3) = (dats m 0 c).arrAt 8 cfg0.N :=
  (h c).1 8

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 5 cfg0.N
      ∧ r.2.mem ((c : Thread nD τ).loc main_v0_1) = (dats m 0 c).arrAt 6 cfg0.N
      ∧ r.2.mem ((c : Thread nD τ).loc main_v0_2) = (dats m 0 c).arrAt 7 cfg0.N
      ∧ r.2.mem ((c : Thread nD τ).loc main_v0_3) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      post6 m r h c,
      post7 m r h c,
      post8 m r h c,
      kept_main_arg0 m r h c,
      kept_main_arg1 m r h c,
      kept_main_arg2 m r h c,
      kept_main_arg3 m r h c,
      kept_main_arg4 m r h c⟩)
    (run_main m ρ)

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S2x32768x512.Idx) : ((cfg0.win 0).blk t).view.emb j = j := by
  obtain ⟨e0, e1, e2⟩ := idx_zero0 t
  funext a; apply Fin.ext
  match a with
  | ⟨0, _⟩ => show win0_0.index t (0 : Fin 3) * 2 + 1 * (j 0).val = (j 0).val; omega
  | ⟨1, _⟩ => show win0_0.index t (1 : Fin 3) * 32768 + 1 * (j 1).val = (j 1).val; omega
  | ⟨2, _⟩ => show win0_0.index t (2 : Fin 3) * 512 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0, 0, 0] : Fin 4 → Nat) = fun _ => 0 := funext fun a => by fin_cases a <;> rfl

/-- Window 1's block index at the one point is zero on every axis. -/
theorem idx_zero1 : ∀ t : Fin cfg0.N, win0_1.index t (0 : Fin 4) = 0 ∧ win0_1.index t (1 : Fin 4) = 0 ∧ win0_1.index t (2 : Fin 4) = 0 ∧ win0_1.index t (3 : Fin 4) = 0 :=
  (by decide +kernel : ∀ t : Fin grid0.N, _)

/-- An index of window 1's block is the same index of its array. -/
theorem emb1 (t : Fin cfg0.N) (j : S2x268x128x128.Idx) : ((cfg0.win 1).blk t).view.emb j = j := by
  obtain ⟨e0, e1, e2, e3⟩ := idx_zero1 t
  funext a; apply Fin.ext
  match a with
  | ⟨0, _⟩ => show win0_1.index t (0 : Fin 4) * 2 + 1 * (j 0).val = (j 0).val; omega
  | ⟨1, _⟩ => show win0_1.index t (1 : Fin 4) * 268 + 1 * (j 1).val = (j 1).val; omega
  | ⟨2, _⟩ => show win0_1.index t (2 : Fin 4) * 128 + 1 * (j 2).val = (j 2).val; omega
  | ⟨3, _⟩ => show win0_1.index t (3 : Fin 4) * 128 + 1 * (j 3).val = (j 3).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0, 0, 0] : Fin 4 → Nat) = fun _ => 0 := funext fun a => by fin_cases a <;> rfl

/-- Window 2's block index at the one point is zero on every axis. -/
theorem idx_zero2 : ∀ t : Fin cfg0.N, win0_2.index t (0 : Fin 4) = 0 ∧ win0_2.index t (1 : Fin 4) = 0 ∧ win0_2.index t (2 : Fin 4) = 0 ∧ win0_2.index t (3 : Fin 4) = 0 :=
  (by decide +kernel : ∀ t : Fin grid0.N, _)

/-- An index of window 2's block is the same index of its array. -/
theorem emb2 (t : Fin cfg0.N) (j : S2x268x128x128.Idx) : ((cfg0.win 2).blk t).view.emb j = j := by
  obtain ⟨e0, e1, e2, e3⟩ := idx_zero2 t
  funext a; apply Fin.ext
  match a with
  | ⟨0, _⟩ => show win0_2.index t (0 : Fin 4) * 2 + 1 * (j 0).val = (j 0).val; omega
  | ⟨1, _⟩ => show win0_2.index t (1 : Fin 4) * 268 + 1 * (j 1).val = (j 1).val; omega
  | ⟨2, _⟩ => show win0_2.index t (2 : Fin 4) * 128 + 1 * (j 2).val = (j 2).val; omega
  | ⟨3, _⟩ => show win0_2.index t (3 : Fin 4) * 128 + 1 * (j 3).val = (j 3).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0, 0] : Fin 3 → Nat) = fun _ => 0 := funext fun a => by fin_cases a <;> rfl

/-- Window 3's block index at the one point is zero on every axis. -/
theorem idx_zero3 : ∀ t : Fin cfg0.N, win0_3.index t (0 : Fin 3) = 0 ∧ win0_3.index t (1 : Fin 3) = 0 ∧ win0_3.index t (2 : Fin 3) = 0 :=
  (by decide +kernel : ∀ t : Fin grid0.N, _)

/-- An index of window 3's block is the same index of its array. -/
theorem emb3 (t : Fin cfg0.N) (j : S2x268x128.Idx) : ((cfg0.win 3).blk t).view.emb j = j := by
  obtain ⟨e0, e1, e2⟩ := idx_zero3 t
  funext a; apply Fin.ext
  match a with
  | ⟨0, _⟩ => show win0_3.index t (0 : Fin 3) * 2 + 1 * (j 0).val = (j 0).val; omega
  | ⟨1, _⟩ => show win0_3.index t (1 : Fin 3) * 268 + 1 * (j 1).val = (j 1).val; omega
  | ⟨2, _⟩ => show win0_3.index t (2 : Fin 3) * 128 + 1 * (j 2).val = (j 2).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0, 0, 0] : Fin 3 → Nat) = fun _ => 0 := funext fun a => by fin_cases a <;> rfl

/-- Window 4's block index at the one point is zero on every axis. -/
theorem idx_zero4 : ∀ t : Fin cfg0.N, win0_4.index t (0 : Fin 3) = 0 ∧ win0_4.index t (1 : Fin 3) = 0 ∧ win0_4.index t (2 : Fin 3) = 0 :=
  (by decide +kernel : ∀ t : Fin grid0.N, _)

/-- An index of window 4's block is the same index of its array. -/
theorem emb4 (t : Fin cfg0.N) (j : S2x1x128.Idx) : ((cfg0.win 4).blk t).view.emb j = j := by
  obtain ⟨e0, e1, e2⟩ := idx_zero4 t
  funext a; apply Fin.ext
  match a with
  | ⟨0, _⟩ => show win0_4.index t (0 : Fin 3) * 2 + 1 * (j 0).val = (j 0).val; omega
  | ⟨1, _⟩ => show win0_4.index t (1 : Fin 3) * 1 + 1 * (j 1).val = (j 1).val; omega
  | ⟨2, _⟩ => show win0_4.index t (2 : Fin 3) * 128 + 1 * (j 2).val = (j 2).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

theorem hz5 : (![0, 0, 0] : Fin 3 → Nat) = fun _ => 0 := funext fun a => by fin_cases a <;> rfl

/-- Window 5's block index at the one point is zero on every axis. -/
theorem idx_zero5 : ∀ t : Fin cfg0.N, win0_5.index t (0 : Fin 3) = 0 ∧ win0_5.index t (1 : Fin 3) = 0 ∧ win0_5.index t (2 : Fin 3) = 0 :=
  (by decide +kernel : ∀ t : Fin grid0.N, _)

/-- An index of window 5's block is the same index of its array. -/
theorem emb5 (t : Fin cfg0.N) (j : S2x32768x512.Idx) : ((cfg0.win 5).blk t).view.emb j = j := by
  obtain ⟨e0, e1, e2⟩ := idx_zero5 t
  funext a; apply Fin.ext
  match a with
  | ⟨0, _⟩ => show win0_5.index t (0 : Fin 3) * 2 + 1 * (j 0).val = (j 0).val; omega
  | ⟨1, _⟩ => show win0_5.index t (1 : Fin 3) * 32768 + 1 * (j 1).val = (j 1).val; omega
  | ⟨2, _⟩ => show win0_5.index t (2 : Fin 3) * 512 + 1 * (j 2).val = (j 2).val; omega

theorem hz6 : (![0, 0, 0] : Fin 3 → Nat) = fun _ => 0 := funext fun a => by fin_cases a <;> rfl

/-- Window 6's block index at the one point is zero on every axis. -/
theorem idx_zero6 : ∀ t : Fin cfg0.N, win0_6.index t (0 : Fin 3) = 0 ∧ win0_6.index t (1 : Fin 3) = 0 ∧ win0_6.index t (2 : Fin 3) = 0 :=
  (by decide +kernel : ∀ t : Fin grid0.N, _)

/-- An index of window 6's block is the same index of its array. -/
theorem emb6 (t : Fin cfg0.N) (j : S2x512x32768.Idx) : ((cfg0.win 6).blk t).view.emb j = j := by
  obtain ⟨e0, e1, e2⟩ := idx_zero6 t
  funext a; apply Fin.ext
  match a with
  | ⟨0, _⟩ => show win0_6.index t (0 : Fin 3) * 2 + 1 * (j 0).val = (j 0).val; omega
  | ⟨1, _⟩ => show win0_6.index t (1 : Fin 3) * 512 + 1 * (j 1).val = (j 1).val; omega
  | ⟨2, _⟩ => show win0_6.index t (2 : Fin 3) * 32768 + 1 * (j 2).val = (j 2).val; omega

theorem hz7 : (![0, 0, 0, 0] : Fin 4 → Nat) = fun _ => 0 := funext fun a => by fin_cases a <;> rfl

/-- Window 7's block index at the one point is zero on every axis. -/
theorem idx_zero7 : ∀ t : Fin cfg0.N, win0_7.index t (0 : Fin 4) = 0 ∧ win0_7.index t (1 : Fin 4) = 0 ∧ win0_7.index t (2 : Fin 4) = 0 ∧ win0_7.index t (3 : Fin 4) = 0 :=
  (by decide +kernel : ∀ t : Fin grid0.N, _)

/-- An index of window 7's block is the same index of its array. -/
theorem emb7 (t : Fin cfg0.N) (j : S2x64x32x128.Idx) : ((cfg0.win 7).blk t).view.emb j = j := by
  obtain ⟨e0, e1, e2, e3⟩ := idx_zero7 t
  funext a; apply Fin.ext
  match a with
  | ⟨0, _⟩ => show win0_7.index t (0 : Fin 4) * 2 + 1 * (j 0).val = (j 0).val; omega
  | ⟨1, _⟩ => show win0_7.index t (1 : Fin 4) * 64 + 1 * (j 1).val = (j 1).val; omega
  | ⟨2, _⟩ => show win0_7.index t (2 : Fin 4) * 32 + 1 * (j 2).val = (j 2).val; omega
  | ⟨3, _⟩ => show win0_7.index t (3 : Fin 4) * 128 + 1 * (j 3).val = (j 3).val; omega

theorem hz8 : (![0, 0, 0, 0] : Fin 4 → Nat) = fun _ => 0 := funext fun a => by fin_cases a <;> rfl

/-- Window 8's block index at the one point is zero on every axis. -/
theorem idx_zero8 : ∀ t : Fin cfg0.N, win0_8.index t (0 : Fin 4) = 0 ∧ win0_8.index t (1 : Fin 4) = 0 ∧ win0_8.index t (2 : Fin 4) = 0 ∧ win0_8.index t (3 : Fin 4) = 0 :=
  (by decide +kernel : ∀ t : Fin grid0.N, _)

/-- An index of window 8's block is the same index of its array. -/
theorem emb8 (t : Fin cfg0.N) (j : S2x64x4x512.Idx) : ((cfg0.win 8).blk t).view.emb j = j := by
  obtain ⟨e0, e1, e2, e3⟩ := idx_zero8 t
  funext a; apply Fin.ext
  match a with
  | ⟨0, _⟩ => show win0_8.index t (0 : Fin 4) * 2 + 1 * (j 0).val = (j 0).val; omega
  | ⟨1, _⟩ => show win0_8.index t (1 : Fin 4) * 64 + 1 * (j 1).val = (j 1).val; omega
  | ⟨2, _⟩ => show win0_8.index t (2 : Fin 4) * 4 + 1 * (j 2).val = (j 2).val; omega
  | ⟨3, _⟩ => show win0_8.index t (3 : Fin 4) * 512 + 1 * (j 3).val = (j 3).val; omega

/-! ### Output window 5: the array after the run -/

/-- What the window's array ends holding: `out0_5` applied to the argument arrays in place of the input blocks (a value that the
    frame states apart, `kK_payN a…`, keeps its loads inside its own definition). -/
abbrev G5 (a0 : Vec F S2x32768x512 .bf16) (a1 : Vec F S2x268x128x128 .fp8e4m3) (a2 : Vec F S2x268x128x128 .fp8e4m3) (a3 : Vec F S2x268x128 .f32) (a4 : Vec F S2x1x128 .f32) : Vec F S2x32768x512 .bf16 :=
  k0_pay1 (k0_pay15 (k0_pay18 a0 a1 a2 a3 a4) (k0_pay19 a0 a1 a2 a3 a4) (k0_pay20 a0 a1 a2 a3 a4) (k0_pay21 a0 a1 a2 a3 a4) (k0_pay22 a0 a1 a2 a3 a4)) (k0_pay16 (k0_pay18 a0 a1 a2 a3 a4) (k0_pay19 a0 a1 a2 a3 a4) (k0_pay20 a0 a1 a2 a3 a4) (k0_pay21 a0 a1 a2 a3 a4) (k0_pay11 (View.ld a2 r0_4)) (k0_pay22 a0 a1 a2 a3 a4)) (k0_pay17 (k0_pay12 a4))

/-- A load of the whole of a block reads the block, and the one store through the whole rectangle leaves its payload. -/
theorem out5_eq (a0 : Vec F S2x32768x512 .bf16) (a1 : Vec F S2x268x128x128 .fp8e4m3) (a2 : Vec F S2x268x128x128 .fp8e4m3) (a3 : Vec F S2x268x128 .f32) (a4 : Vec F S2x1x128 .f32) : out0_5 (F := F) a0 a1 a2 a3 a4 = G5 a0 a1 a2 a3 a4 := by
  unfold out0_5
  rw [View.canon_unit_zero hz5, View.ld_unit_zero (S := S2x1x128) hz4 _ a4]

/-- Cutting the point's block out of `X` and reading `X` through the block's view give the same. -/
theorem cut5_eq (t : Fin cfg0.N) (X : Vec F S2x32768x512 .bf16) :
    (cfg0.win 5).cut (grid0.coords t) X = ((cfg0.win 5).blk t).view.read (Elt F) X := by
  funext j
  show X j = X (((cfg0.win 5).blk t).view.emb j)
  rw [emb5]

/-- WHAT THE POINT WRITES BACK is its block of `G5` of the argument arrays as the region finds them. -/
theorem flushed5_eq (c : Dev nD) (t : Fin cfg0.N) :
    (dats m 0 c).flushed 5 t = ((cfg0.win 5).blk t).view.read (Elt F) (G5 (V m c main_arg0) (V m c main_arg1) (V m c main_arg2) (V m c main_arg3) (V m c main_arg4)) := by
  show (cfg0.win 5).cut (grid0.coords t) ((dats m 0 c).after 5 t) = _
  rw [after0_5, out5_eq, iblk0_eq, iblk1_eq, iblk2_eq, iblk3_eq, iblk4_eq]
  exact cut5_eq t _

/-- Every index of the array is in the point's block. -/
theorem covered5 (i : S2x32768x512.Idx) :
    ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

/-- THE ARRAY after the run: `G5` of the argument arrays as launched. -/
theorem final5 (c : Dev nD) : (dats m 0 c).arrAt 5 cfg0.N = G5 (m ((c : Thread nD τ).loc main_arg0)) (m ((c : Thread nD τ).loc main_arg1)) (m ((c : Thread nD τ).loc main_arg2)) (m ((c : Thread nD τ).loc main_arg3)) (m ((c : Thread nD τ).loc main_arg4)) :=
  ((dats m 0 c).arrAt_eq_of_cover 5 (G5 (V m c main_arg0) (V m c main_arg1) (V m c main_arg2) (V m c main_arg3) (V m c main_arg4)) (fun t _ => flushed5_eq m c t) covered5).trans (by rw [V_main_arg0, V_main_arg1, V_main_arg2, V_main_arg3, V_main_arg4])

/-! ### Output window 6: the array after the run -/

/-- What the window's array ends holding: `out0_6` applied to the argument arrays in place of the input blocks (a value that the
    frame states apart, `kK_payN a…`, keeps its loads inside its own definition). -/
abbrev G6 (a0 : Vec F S2x32768x512 .bf16) (a1 : Vec F S2x268x128x128 .fp8e4m3) (a2 : Vec F S2x268x128x128 .fp8e4m3) (a3 : Vec F S2x268x128 .f32) (a4 : Vec F S2x1x128 .f32) : Vec F S2x512x32768 .fp8e4m3 :=
  k0_pay7 a0

/-- A load of the whole of a block reads the block, and the one store through the whole rectangle leaves its payload. -/
theorem out6_eq (a0 : Vec F S2x32768x512 .bf16) (a1 : Vec F S2x268x128x128 .fp8e4m3) (a2 : Vec F S2x268x128x128 .fp8e4m3) (a3 : Vec F S2x268x128 .f32) (a4 : Vec F S2x1x128 .f32) : out0_6 (F := F) a0 a1 a2 a3 a4 = G6 a0 a1 a2 a3 a4 := by
  unfold out0_6
  rw [View.canon_unit_zero hz6, View.ld_unit_zero (S := S2x32768x512) hz0 _ a0]

/-- Cutting the point's block out of `X` and reading `X` through the block's view give the same. -/
theorem cut6_eq (t : Fin cfg0.N) (X : Vec F S2x512x32768 .fp8e4m3) :
    (cfg0.win 6).cut (grid0.coords t) X = ((cfg0.win 6).blk t).view.read (Elt F) X := by
  funext j
  show X j = X (((cfg0.win 6).blk t).view.emb j)
  rw [emb6]

/-- WHAT THE POINT WRITES BACK is its block of `G6` of the argument arrays as the region finds them. -/
theorem flushed6_eq (c : Dev nD) (t : Fin cfg0.N) :
    (dats m 0 c).flushed 6 t = ((cfg0.win 6).blk t).view.read (Elt F) (G6 (V m c main_arg0) (V m c main_arg1) (V m c main_arg2) (V m c main_arg3) (V m c main_arg4)) := by
  show (cfg0.win 6).cut (grid0.coords t) ((dats m 0 c).after 6 t) = _
  rw [after0_6, out6_eq, iblk0_eq, iblk1_eq, iblk2_eq, iblk3_eq, iblk4_eq]
  exact cut6_eq t _

/-- Every index of the array is in the point's block. -/
theorem covered6 (i : S2x512x32768.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- THE ARRAY after the run: `G6` of the argument arrays as launched. -/
theorem final6 (c : Dev nD) : (dats m 0 c).arrAt 6 cfg0.N = G6 (m ((c : Thread nD τ).loc main_arg0)) (m ((c : Thread nD τ).loc main_arg1)) (m ((c : Thread nD τ).loc main_arg2)) (m ((c : Thread nD τ).loc main_arg3)) (m ((c : Thread nD τ).loc main_arg4)) :=
  ((dats m 0 c).arrAt_eq_of_cover 6 (G6 (V m c main_arg0) (V m c main_arg1) (V m c main_arg2) (V m c main_arg3) (V m c main_arg4)) (fun t _ => flushed6_eq m c t) covered6).trans (by rw [V_main_arg0, V_main_arg1, V_main_arg2, V_main_arg3, V_main_arg4])

/-! ### Output window 7: the array after the run -/

/-- What the window's array ends holding: `out0_7` applied to the argument arrays in place of the input blocks (a value that the
    frame states apart, `kK_payN a…`, keeps its loads inside its own definition). -/
abbrev G7 (a0 : Vec F S2x32768x512 .bf16) (a1 : Vec F S2x268x128x128 .fp8e4m3) (a2 : Vec F S2x268x128x128 .fp8e4m3) (a3 : Vec F S2x268x128 .f32) (a4 : Vec F S2x1x128 .f32) : Vec F S2x64x32x128 .f32 :=
  k0_pay8 (k0_pay19 a0 a1 a2 a3 a4)

/-- The one store through the whole rectangle leaves its payload. -/
theorem out7_eq (a0 : Vec F S2x32768x512 .bf16) (a1 : Vec F S2x268x128x128 .fp8e4m3) (a2 : Vec F S2x268x128x128 .fp8e4m3) (a3 : Vec F S2x268x128 .f32) (a4 : Vec F S2x1x128 .f32) : out0_7 (F := F) a0 a1 a2 a3 a4 = G7 a0 a1 a2 a3 a4 := by
  unfold out0_7
  rw [View.canon_unit_zero hz7]

/-- Cutting the point's block out of `X` and reading `X` through the block's view give the same. -/
theorem cut7_eq (t : Fin cfg0.N) (X : Vec F S2x64x32x128 .f32) :
    (cfg0.win 7).cut (grid0.coords t) X = ((cfg0.win 7).blk t).view.read (Elt F) X := by
  funext j
  show X j = X (((cfg0.win 7).blk t).view.emb j)
  rw [emb7]

/-- WHAT THE POINT WRITES BACK is its block of `G7` of the argument arrays as the region finds them. -/
theorem flushed7_eq (c : Dev nD) (t : Fin cfg0.N) :
    (dats m 0 c).flushed 7 t = ((cfg0.win 7).blk t).view.read (Elt F) (G7 (V m c main_arg0) (V m c main_arg1) (V m c main_arg2) (V m c main_arg3) (V m c main_arg4)) := by
  show (cfg0.win 7).cut (grid0.coords t) ((dats m 0 c).after 7 t) = _
  rw [after0_7, out7_eq, iblk0_eq, iblk1_eq, iblk2_eq, iblk3_eq, iblk4_eq]
  exact cut7_eq t _

/-- Every index of the array is in the point's block. -/
theorem covered7 (i : S2x64x32x128.Idx) :
    ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

/-- THE ARRAY after the run: `G7` of the argument arrays as launched. -/
theorem final7 (c : Dev nD) : (dats m 0 c).arrAt 7 cfg0.N = G7 (m ((c : Thread nD τ).loc main_arg0)) (m ((c : Thread nD τ).loc main_arg1)) (m ((c : Thread nD τ).loc main_arg2)) (m ((c : Thread nD τ).loc main_arg3)) (m ((c : Thread nD τ).loc main_arg4)) :=
  ((dats m 0 c).arrAt_eq_of_cover 7 (G7 (V m c main_arg0) (V m c main_arg1) (V m c main_arg2) (V m c main_arg3) (V m c main_arg4)) (fun t _ => flushed7_eq m c t) covered7).trans (by rw [V_main_arg0, V_main_arg1, V_main_arg2, V_main_arg3, V_main_arg4])

/-! ### Output window 8: the array after the run -/

/-- What the window's array ends holding: `out0_8` applied to the argument arrays in place of the input blocks (a value that the
    frame states apart, `kK_payN a…`, keeps its loads inside its own definition). -/
abbrev G8 (a0 : Vec F S2x32768x512 .bf16) (a1 : Vec F S2x268x128x128 .fp8e4m3) (a2 : Vec F S2x268x128x128 .fp8e4m3) (a3 : Vec F S2x268x128 .f32) (a4 : Vec F S2x1x128 .f32) : Vec F S2x64x4x512 .f32 :=
  k0_pay9 (k0_pay18 a0 a1 a2 a3 a4)

/-- The one store through the whole rectangle leaves its payload. -/
theorem out8_eq (a0 : Vec F S2x32768x512 .bf16) (a1 : Vec F S2x268x128x128 .fp8e4m3) (a2 : Vec F S2x268x128x128 .fp8e4m3) (a3 : Vec F S2x268x128 .f32) (a4 : Vec F S2x1x128 .f32) : out0_8 (F := F) a0 a1 a2 a3 a4 = G8 a0 a1 a2 a3 a4 := by
  unfold out0_8
  rw [View.canon_unit_zero hz8]

/-- Cutting the point's block out of `X` and reading `X` through the block's view give the same. -/
theorem cut8_eq (t : Fin cfg0.N) (X : Vec F S2x64x4x512 .f32) :
    (cfg0.win 8).cut (grid0.coords t) X = ((cfg0.win 8).blk t).view.read (Elt F) X := by
  funext j
  show X j = X (((cfg0.win 8).blk t).view.emb j)
  rw [emb8]

/-- WHAT THE POINT WRITES BACK is its block of `G8` of the argument arrays as the region finds them. -/
theorem flushed8_eq (c : Dev nD) (t : Fin cfg0.N) :
    (dats m 0 c).flushed 8 t = ((cfg0.win 8).blk t).view.read (Elt F) (G8 (V m c main_arg0) (V m c main_arg1) (V m c main_arg2) (V m c main_arg3) (V m c main_arg4)) := by
  show (cfg0.win 8).cut (grid0.coords t) ((dats m 0 c).after 8 t) = _
  rw [after0_8, out8_eq, iblk0_eq, iblk1_eq, iblk2_eq, iblk3_eq, iblk4_eq]
  exact cut8_eq t _

/-- Every index of the array is in the point's block. -/
theorem covered8 (i : S2x64x4x512.Idx) :
    ∃ t : Fin cfg0.N, (cfg0.win 8).flush t = true ∧ i ∈ ((cfg0.win 8).blk t).view.set :=
  ⟨(⟨0, by decide⟩ : Fin cfg0.N), flush0_8 _, by have h := ((cfg0.win 8).blk (⟨0, by decide⟩ : Fin cfg0.N)).view.emb_mem_set i; rwa [emb8] at h⟩

/-- THE ARRAY after the run: `G8` of the argument arrays as launched. -/
theorem final8 (c : Dev nD) : (dats m 0 c).arrAt 8 cfg0.N = G8 (m ((c : Thread nD τ).loc main_arg0)) (m ((c : Thread nD τ).loc main_arg1)) (m ((c : Thread nD τ).loc main_arg2)) (m ((c : Thread nD τ).loc main_arg3)) (m ((c : Thread nD τ).loc main_arg4)) :=
  ((dats m 0 c).arrAt_eq_of_cover 8 (G8 (V m c main_arg0) (V m c main_arg1) (V m c main_arg2) (V m c main_arg3) (V m c main_arg4)) (fun t _ => flushed8_eq m c t) covered8).trans (by rw [V_main_arg0, V_main_arg1, V_main_arg2, V_main_arg3, V_main_arg4])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G5 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_1) = G6 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_2) = G7 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_3) = G8 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(post5 m r h c).trans (final5 m c),
      (post6 m r h c).trans (final6 m c),
      (post7 m r h c).trans (final7 m c),
      (post8 m r h c).trans (final8 m c),
      kept_main_arg0 m r h c,
      kept_main_arg1 m r h c,
      kept_main_arg2 m r h c,
      kept_main_arg3 m r h c,
      kept_main_arg4 m r h c⟩)
    (run_main m ρ)

end Cert.Proof.RI

end
-- ==== Proof.RI.At.lean ====
/- The reference's result arrays, element by element, as the functions of `Spec`. -/
module

public import proofs.«01_k».proof.Proof.RI.Value
public import proofs.«01_k».proof.Proof.Spec
public import Idealize.ShloMosaic.Lib.Pointwise

@[expose] public section

noncomputable section

namespace Cert.Proof.RI
open Cert.ReferenceIdeal Cert.ReferenceIdeal.Gen Idealize.ShloMosaic Cert.Proof.Spec

variable (x : Vec Ideal S2x32768x512 .bf16) (kt vt : Vec Ideal S2x268x128x128 .fp8e4m3) (skl : Vec Ideal S2x268x128 .f32)
  (vs : Vec Ideal S2x1x128 .f32)

/-- A load of the whole query array is the array. -/
theorem ld_x : View.ld x r0_0 = x := View.ld_unit_zero (S := S2x32768x512) hz0 _ x

theorem pay3_at (b : Fin 2) (n : Fin 256) (h : Fin 8) (d : Fin 64) :
    k0_pay3 (F := Ideal) x (ix4 b n h d) = mean (blk x b n h) d := by
  pointwise [k0_pay3, k0_pay2]
  rfl

theorem pay4_at (b : Fin 2) (n : Fin 256) (r : Fin 128) (h : Fin 8) (d : Fin 64) :
    k0_pay4 (F := Ideal) x (ix5 b n r h d) = blk x b n h r d - mean (blk x b n h) d := by
  pointwise [k0_pay4, k0_pay2, pay3_at]
  rfl

theorem pay5_at (b : Fin 2) (n : Fin 256) (h : Fin 8) : k0_pay5 (F := Ideal) x (ix3 b n h) = scale (amax (blk x b n h)) := by
  pointwise [k0_pay5, pay4_at]
  rfl

theorem pay6_at (b : Fin 2) (n : Fin 256) (r : Fin 128) (h : Fin 8) (d : Fin 64) :
    k0_pay6 (F := Ideal) x (ix5 b n r h d) = code (blk x b n h) r d := by
  pointwise [k0_pay6, pay4_at, pay5_at]
  rfl

/-- Result 2 of the reference: the codes, transposed. -/
theorem G6_at (b : Fin 2) (c : Fin 512) (s : Fin 32768) :
    G6 x kt vt skl vs (ix3 b c s)
      = code (blk x b ⟨s.val / 128, by omega⟩ ⟨c.val / 64, by omega⟩) ⟨s.val % 128, by omega⟩ ⟨c.val % 64, by omega⟩ := by
  pointwise [k0_pay7, pay6_at]

/-- Result 3: the scales, repeated over the lanes. -/
theorem G7_at (b : Fin 2) (c : Fin 64) (s : Fin 32) (l : Fin 128) :
    G7 x kt vt skl vs (ix4 b c s l) = scale (amax (blk x b ⟨c.val * 4 + s.val / 8, by omega⟩ ⟨s.val % 8, by omega⟩)) := by
  pointwise [k0_pay8, k0_pay19, ld_x, pay5_at]

/-- Result 4: the means. -/
theorem G8_at (b : Fin 2) (c : Fin 64) (s : Fin 4) (l : Fin 512) :
    G8 x kt vt skl vs (ix4 b c s l)
      = mean (blk x b ⟨c.val * 4 + s.val, by omega⟩ ⟨l.val / 64, by omega⟩) ⟨l.val % 64, by omega⟩ := by
  pointwise [k0_pay9, k0_pay18, ld_x, pay3_at]

/-- The window's two word comparisons, at positions below 32768, are the two inequalities of natural numbers. -/
theorem vis (s k : Fin 32768) (A B : EReal) :
    Scalar.select (IntOp.andi (IntOp.cmpi CmpIPredicate.sle (BitVec.ofNat 32 k.val) (BitVec.ofNat 32 s.val))
      (IntOp.cmpi CmpIPredicate.sgt (BitVec.ofNat 32 k.val) (IntOp.subi (BitVec.ofNat 32 s.val) 1536#32))) A B
      = if k.val ≤ s.val ∧ s.val < k.val + 1536 then A else B := by
  have h1 : (BitVec.ofNat 32 k.val).sle (BitVec.ofNat 32 s.val) = decide (k.val ≤ s.val) := by
    rw [BitVec.sle_eq_decide, decide_eq_decide, BitVec.toInt_eq_toNat_cond, BitVec.toInt_eq_toNat_cond]
    simp only [BitVec.toNat_ofNat]
    omega
  have h2 : ((BitVec.ofNat 32 s.val) - 1536#32).slt (BitVec.ofNat 32 k.val) = decide (s.val < k.val + 1536) := by
    rw [BitVec.slt_eq_decide, decide_eq_decide, BitVec.toInt_eq_toNat_cond, BitVec.toInt_eq_toNat_cond]
    simp only [BitVec.toNat_ofNat, BitVec.toNat_sub]
    omega
  simp only [Scalar.select, IntOp.andi, IntOp.cmpi, IntOp.subi, h1, h2]
  by_cases a : k.val ≤ s.val <;> by_cases b : s.val < k.val + 1536 <;> simp [a, b]

theorem negInf : cst 0xFF800000#32 = ⊥ := by
  simp [cst, Ideal.ofBits, Ideal.ieee]

/-- The masked scores of the reference. -/
theorem pay14_at (b : Fin 16) (s k : Fin 32768) :
    k0_pay14 (F := Ideal) (k0_pay18 x kt vt skl vs) (k0_pay19 x kt vt skl vs) (k0_pay20 x kt vt skl vs) (k0_pay21 x kt vt skl vs)
      (k0_pay22 x kt vt skl vs) (ix3 b s k)
      = prob (score (blk x ⟨b.val / 8, by omega⟩ ⟨s.val / 128, by omega⟩ ⟨b.val % 8, by omega⟩)
          (kcode kt ⟨b.val / 8, by omega⟩ ⟨b.val % 8, by omega⟩) (kscale skl ⟨b.val / 8, by omega⟩) ⟨s.val / 128, by omega⟩
          ⟨s.val % 128, by omega⟩) k := by
  have hs : s.val / 128 * 128 + s.val % 128 = s.val := by omega
  have hb : b.val % 8 % 2 = b.val % 2 := by omega
  pointwise [k0_pay14, k0_pay18, k0_pay19, k0_pay20, k0_pay21, k0_pay22, k0_pay10, k0_pay13, ld_x, pay3_at, pay5_at, pay6_at, vis,
    prob, score, kcode, kscale, hs, hb, negInf]
  rfl

/-- Result 1: the attention output. -/
theorem G5_at (b : Fin 2) (s : Fin 32768) (c : Fin 512) :
    G5 x kt vt skl vs (ix3 b s c)
      = outAt x kt vt skl vs b ⟨s.val / 128, by omega⟩ ⟨s.val % 128, by omega⟩ ⟨c.val / 64, by omega⟩ ⟨c.val % 64, by omega⟩ := by
  have h1 : (b.val * 8 + c.val / 64) / 8 = b.val := by omega
  have h2 : (b.val * 8 + c.val / 64) % 8 = c.val / 64 := by omega
  have h3 : (b.val * 8 + c.val / 64) % 2 = c.val / 64 % 2 := by omega
  pointwise [k0_pay1, k0_pay15, k0_pay16, k0_pay17, k0_pay12, pay14_at, k0_pay11, h1, h2, h3]
  rfl

end Cert.Proof.RI
-- ==== Proof.Bound.lean ====
/- The queries' size: from entries no larger than the largest bf16 number, the largest magnitude of a mean-centred block times the
   reciprocal of 448 lies below 2 ^ 121, where the scale's exponent ladder ends. -/
module

public import proofs.«01_k».proof.Proof.KI.Quant2

@[expose] public section

noncomputable section

namespace Cert.Proof.Spec

open Idealize.ShloMosaic Cert.Proof.KernelIdeal

theorem cst_max : cst 0x7F7F0000#32 = ((255 * 2 ^ 120 : ℝ) : EReal) := by
  simp [cst, Ideal.ofBits, Ideal.ieee, -EReal.coe_mul]
  norm_num

theorem cst_inv448 : cst 0x3B124925#32 = ((9586981 / 2 ^ 32 : ℝ) : EReal) := by
  simp [cst, Ideal.ofBits, Ideal.ieee, -EReal.coe_mul]
  norm_num

theorem cst_inv128 : cst 0x3C000000#32 = ((1 / 128 : ℝ) : EReal) := by
  simp [cst, Ideal.ofBits, Ideal.ieee, -EReal.coe_mul]
  norm_num

/-- A value whose magnitude is at most a real is that of a real of at most that magnitude. -/
theorem real_of_abs_le (q : EReal) (M : ℝ) (h : max q (-q) ≤ (M : EReal)) : ∃ f : ℝ, q = (f : EReal) ∧ |f| ≤ M := by
  have h1 : q ≤ (M : EReal) := le_trans (le_max_left _ _) h
  have h2 : -q ≤ (M : EReal) := le_trans (le_max_right _ _) h
  induction q using EReal.rec with
  | bot => simp at h2
  | top => simp at h1
  | coe f =>
    refine ⟨f, rfl, abs_le.2 ⟨?_, EReal.coe_le_coe_iff.1 h1⟩⟩
    have : ((-f : ℝ) : EReal) ≤ (M : EReal) := by rw [EReal.coe_neg]; exact h2
    linarith [EReal.coe_le_coe_iff.1 this]

theorem coe_sum {ι : Type} [Fintype ι] (f : ι → ℝ) : ((∑ r, f r : ℝ) : EReal) = ∑ r, ((f r : ℝ) : EReal) :=
  map_sum (⟨⟨fun r : ℝ => (r : EReal), rfl⟩, EReal.coe_add⟩ : ℝ →+ EReal) f Finset.univ

/-- The bound on a block of queries. -/
theorem amax_bound (Q : Fin 128 → Fin 64 → EReal) (hQ : ∀ r d, max (Q r d) (-(Q r d)) ≤ cst 0x7F7F0000#32) :
    amax Q * cst 0x3B124925#32 < (((2 : ℝ) ^ (121 : ℤ) : ℝ) : EReal) := by
  rw [cst_max] at hQ
  choose f hf hM using fun r d => real_of_abs_le (Q r d) _ (hQ r d)
  have hmean : ∀ d, mean Q d = (((∑ r, f r d) * (1 / 128) : ℝ) : EReal) := by
    intro d
    unfold mean
    rw [cst_inv128, EReal.coe_mul, coe_sum]
    exact congrArg (· * _) (Finset.sum_congr rfl fun r _ => hf r d)
  have hmb : ∀ d, |(∑ r, f r d) * (1 / 128)| ≤ 255 * 2 ^ 120 := by
    intro d
    rw [abs_mul, abs_of_pos (by norm_num : (0:ℝ) < 1 / 128)]
    have : |∑ r, f r d| ≤ ∑ r : Fin 128, (255 * 2 ^ 120 : ℝ) :=
      le_trans (Finset.abs_sum_le_sum_abs _ _) (Finset.sum_le_sum fun r _ => hM r d)
    simp only [Finset.sum_const, Finset.card_univ, Fintype.card_fin, nsmul_eq_mul] at this
    push_cast at this
    linarith
  have hle : amax Q ≤ ((510 * 2 ^ 120 : ℝ) : EReal) := by
    unfold amax
    have hbot : cst 0xFF800000#32 = ⊥ := by rw [cst, neg_bits]
    rw [hbot]
    refine (Finset.fold_max_le _).2 ⟨bot_le, fun r _ => (Finset.fold_max_le _).2 ⟨bot_le, fun d _ => ?_⟩⟩
    show max (Q r d - mean Q d) (-(Q r d - mean Q d)) ≤ _
    rw [hf, hmean, ← EReal.coe_sub, ← EReal.coe_neg]
    have a1 := abs_le.1 (hM r d)
    have a2 := abs_le.1 (hmb d)
    refine max_le (EReal.coe_le_coe_iff.2 ?_) (EReal.coe_le_coe_iff.2 ?_) <;> linarith
  have h0 : 0 ≤ amax Q := amax_nonneg Q
  generalize amax Q = a at hle h0
  induction a using EReal.rec with
  | bot => simp at h0
  | top => exact absurd hle (not_le.2 (EReal.coe_lt_top _))
  | coe a =>
    rw [cst_inv448, ← EReal.coe_mul, EReal.coe_lt_coe_iff]
    have : a ≤ 510 * 2 ^ 120 := EReal.coe_le_coe_iff.1 hle
    have e : (2 : ℝ) ^ (121 : ℤ) = 2 ^ 121 := by norm_cast
    rw [e]
    calc a * (9586981 / 2 ^ 32) ≤ 510 * 2 ^ 120 * (9586981 / 2 ^ 32) := mul_le_mul_of_nonneg_right this (by positivity)
      _ < 2 ^ 121 := by norm_num

end Cert.Proof.Spec
-- ==== Proof.Pre.lean ====
/- The precondition, read: no query lies beyond the largest bf16 number, and every key scale is nonnegative and finite. -/
module

public import proofs.«01_k».proof.Pre_admitted
public import Idealize.ShloMosaic.PureOps.Ideal

@[expose] public section

noncomputable section

namespace Cert.Proof.Pre

open Idealize.ShloMosaic

/-- The side conditions of the precondition's operations. -/
theorem facts : Cert.Pre_admitted.Facts where
  bitsLt_bf16_f32 := by decide
  bcast_S_S2x32768x512 := by decide
  bcast_S_S2x268x128 := by decide

theorem ofBool_eq (p : Prop) [Decidable p] (h : BitVec.ofBool (decide p) = 1#1) : p := by
  by_contra hp
  simp [hp] at h

variable [Cert.Pre_admitted.Facts]
  (x : FVec Ideal Cert.Pre_admitted.S2x32768x512 .bf16) (kt vt : FVec Ideal Cert.Pre_admitted.S2x268x128x128 .fp8e4m3)
  (skl : FVec Ideal Cert.Pre_admitted.S2x268x128 .f32) (vs : FVec Ideal Cert.Pre_admitted.S2x1x128 .f32)

/-- Every query's magnitude is at most the largest bf16 number. -/
theorem queries (h : (Cert.Pre_admitted.fn (F := Ideal) x kt vt skl vs).1 = fun _ => 1#1) (y : Cert.Pre_admitted.S2x32768x512.Idx) :
    max (x y) (-(x y)) ≤ Ideal.ofBits .f32 0x7F7F0000#32 := by
  have h' := congrFun h y
  change Ideal.cmp .ole (max (x y) (-(x y))) (Ideal.ofBits .f32 0x7F7F0000#32) = 1#1 at h'
  exact ofBool_eq _ h'

/-- Every key scale is nonnegative. -/
theorem scales (h : (Cert.Pre_admitted.fn (F := Ideal) x kt vt skl vs).2 = fun _ => 1#1) (y : Cert.Pre_admitted.S2x268x128.Idx) :
    (0 : EReal) ≤ skl y ∧ (skl y : EReal) ≠ ⊤ := by
  have h' := congrFun h y
  change IntOp.andi (Ideal.cmp .oge (skl y) (Ideal.ofBits .f32 0x00000000#32)) (Ideal.cmp .olt (skl y) (Ideal.ofBits .f32 0x7F800000#32)) = 1#1 at h'
  have both : ∀ a b : BitVec 1, a &&& b = 1#1 → a = 1#1 ∧ b = 1#1 := by decide
  obtain ⟨a, b⟩ := both _ _ h'
  have a' : Ideal.ofBits .f32 0x00000000#32 ≤ skl y := ofBool_eq _ a
  have b' : skl y < Ideal.ofBits .f32 0x7F800000#32 := ofBool_eq _ b
  refine ⟨le_trans (le_of_eq ?_) a', ne_top_of_lt b'⟩
  simp [Ideal.ofBits, Ideal.ieee]

end Cert.Proof.Pre
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.K.Frame
public import proofs.«01_k».proof.Proof.KI.Value
public import proofs.«01_k».proof.Proof.RI.At
public import proofs.«01_k».proof.Proof.Bound
public import proofs.«01_k».proof.Proof.Pre
public import Idealize.ShloMosaic.Adequacy
public import Idealize.ShloMosaic.Init

@[expose] public section

noncomputable section

namespace Cert.Proof

open Idealize.ShloMosaic Idealize.SL.Sem Cert.Proof.Spec

/-- The reference's results are the kernel's, as functions of the arguments. -/
theorem res5 (x : XArr) (kt vt : KArr) (skl : SArr) (vs : VArr) : RI.G5 (F := Ideal) x kt vt skl vs = fun y => KernelIdeal.R5 x kt vt skl vs (y 0) (y 1) (y 2) := by
  funext y
  have hy : y = ix3 (y 0) (y 1) (y 2) := by funext a; fin_cases a <;> rfl
  refine Eq.trans (congrArg _ hy) ?_
  exact RI.G5_at x kt vt skl vs (y 0) (y 1) (y 2)

theorem res6 (x : XArr) (kt vt : KArr) (skl : SArr) (vs : VArr) : RI.G6 (F := Ideal) x kt vt skl vs = fun y => KernelIdeal.R6 x (y 0) (y 1) (y 2) := by
  funext y
  have hy : y = ix3 (y 0) (y 1) (y 2) := by funext a; fin_cases a <;> rfl
  refine Eq.trans (congrArg _ hy) ?_
  exact RI.G6_at x kt vt skl vs (y 0) (y 1) (y 2)

theorem res7 (x : XArr) (kt vt : KArr) (skl : SArr) (vs : VArr) : RI.G7 (F := Ideal) x kt vt skl vs = fun y => KernelIdeal.R7 x (y 0) (y 1) (y 2) := by
  funext y
  have hy : y = ix4 (y 0) (y 1) (y 2) (y 3) := by funext a; fin_cases a <;> rfl
  refine Eq.trans (congrArg _ hy) ?_
  exact RI.G7_at x kt vt skl vs (y 0) (y 1) (y 2) (y 3)

theorem res8 (x : XArr) (kt vt : KArr) (skl : SArr) (vs : VArr) : RI.G8 (F := Ideal) x kt vt skl vs = fun y => KernelIdeal.R8 x (y 0) (y 1) (y 2) (y 3) := by
  funext y
  have hy : y = ix4 (y 0) (y 1) (y 2) (y 3) := by funext a; fin_cases a <;> rfl
  refine Eq.trans (congrArg _ hy) ?_
  exact RI.G8_at x kt vt skl vs (y 0) (y 1) (y 2) (y 3)

/-- The kernel's four results equal the reference's, over the extended reals. -/
theorem alg : Cert.algebraic_KernelIdeal_ReferenceIdeal_pre_admitted (hKernelIdeal := Cert.KernelIdeal.Gen.facts)
    (hReferenceIdeal := Cert.ReferenceIdeal.Gen.facts) (hPre_admitted := Pre.facts) := by
  intro m g m' g' hp hm
  haveI := Pre.facts
  refine ⟨fun c => KernelIdeal.A5 m c, fun c => KernelIdeal.A6 m c, fun c => KernelIdeal.A7 m c, fun c => KernelIdeal.A8 m c, ?_, ?_⟩
  · exact KernelIdeal.run m g
      (fun c b n h => amax_bound _ fun r d => Pre.queries _ _ _ _ _ (hp c).1 _)
      (fun c y => (Pre.scales _ _ _ _ _ (hp c).2 y).1) (fun c y => (Pre.scales _ _ _ _ _ (hp c).2 y).2)
  · refine (θ_run _ _ _).mono (fun r h c => ?_) (RI.run (F := Ideal) m' g')
    obtain ⟨e0, e1, e2, e3, e4⟩ := hm c
    obtain ⟨a0, a1, a2, a3, rest⟩ := h c
    rw [e0, e1, e2, e3, e4] at a0 a1 a2 a3
    exact ⟨a0.trans (res5 _ _ _ _ _), a1.trans (res6 _ _ _ _ _), a2.trans (res7 _ _ _ _ _), a3.trans (res8 _ _ _ _ _), rest⟩

theorem claim : Cert.Claim := ⟨Cert.Kernel.Gen.facts, Cert.KernelIdeal.Gen.facts, Cert.ReferenceIdeal.Gen.facts, Pre.facts,
  fun m ρ _ => θ_run_with_sems (Cert.Kernel.Gen.frame_of m ρ (Kernel.dats m) fun _ _ => rfl) (Kernel.run_main m ρ),
  fun m ρ _ => θ_run_with_sems (Cert.KernelIdeal.Gen.frame_of m ρ (KernelIdeal.dats m) fun _ _ => rfl) (KernelIdeal.run_main m ρ),
  fun m ρ _ => θ_run_with_sems (Cert.KernelIdeal.Gen.frame_of m ρ (KernelIdeal.dats m) fun _ _ => rfl) (KernelIdeal.run_main m ρ),
  fun m ρ _ => Cert.ReferenceIdeal.Gen.frame m ρ,
  fun m ρ _ => Cert.ReferenceIdeal.Gen.frame m ρ,
  trivial, alg⟩

end Cert.Proof

end
